-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9))).1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9))).2 = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2 = (fun _ => 1#1)

def Pre_Reference2Ideal [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_lse_finite [hPre_lse_finite : Cert.Pre_lse_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_lse_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_lse_finite [hPre_lse_finite : Cert.Pre_lse_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_lse_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Kernel3Ideal_pre_lse_finite [hKernel3Ideal : Cert.Kernel3Ideal.Facts] [hPre_lse_finite : Cert.Pre_lse_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_lse_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Reference3Ideal_pre_lse_finite [hReference3Ideal : Cert.Reference3Ideal.Facts] [hPre_lse_finite : Cert.Pre_lse_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_lse_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_lse_finite [hKernel3Ideal : Cert.Kernel3Ideal.Facts] [hReference3Ideal : Cert.Reference3Ideal.Facts] [hPre_lse_finite : Cert.Pre_lse_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_lse_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v107) = v0 c
          ∧ r.2.mem ((c.tc : Thread Cert.Reference3Ideal.nD Cert.Reference3Ideal.τ).loc Cert.Reference3Ideal.main_v108) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables_in_range : Cert.Pre_tables_in_range.Facts) (hPre_lse_finite : Cert.Pre_lse_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Kernel3Ideal_pre_lse_finite (hKernel3Ideal := hKernel3Ideal) (hPre_lse_finite := hPre_lse_finite)
    ∧ quiescent_Reference3Ideal (hReference3Ideal := hReference3Ideal)
    ∧ quiescent_Reference3Ideal_pre_lse_finite (hReference3Ideal := hReference3Ideal) (hPre_lse_finite := hPre_lse_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal_pre_lse_finite (hKernel3Ideal := hKernel3Ideal) (hReference3Ideal := hReference3Ideal) (hPre_lse_finite := hPre_lse_finite)
-- ==== Pre_lse_finite.lean ====
abbrev S32768x1024 : Shape := ⟨2, ![32768, 1024]⟩
abbrev S32768x512 : Shape := ⟨2, ![32768, 512]⟩
abbrev S8192x2048 : Shape := ⟨2, ![8192, 2048]⟩
abbrev S2048x8192 : Shape := ⟨2, ![2048, 8192]⟩
abbrev S32768x128 : Shape := ⟨2, ![32768, 128]⟩
abbrev S8192x512 : Shape := ⟨2, ![8192, 512]⟩
abbrev S2048x2048 : Shape := ⟨2, ![2048, 2048]⟩
abbrev S1024x8712 : Shape := ⟨2, ![1024, 8712]⟩
abbrev S3x512x1024 : Shape := ⟨3, ![3, 512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S32768x4 : Shape := ⟨2, ![32768, 4]⟩
abbrev S_ : Shape := ⟨0, ![]⟩

class Facts : Prop where
  slices_S32768x128_S32768x4_0_0 : S32768x128.Slices ![0, 0] S32768x4
  shapeCasts_S8192x512_S32768x128 : S8192x512.ShapeCasts S32768x128
  shapeCasts_S2048x2048_S32768x128 : S2048x2048.ShapeCasts S32768x128
  bcast_S_S32768x4 : S_.BroadcastsInDim S32768x4 (![] : Fin 0 → Fin S32768x4.rank)
  reducesTo_S32768x4_S_d0_1 : S32768x4.ReducesTo [0, 1] S_
  h_S_ : 0 < S_.numel

variable [Facts]

def fn {F : FTy → Type} [FloatOps F] (main_arg0 : FVec F S32768x1024 .f32) (main_arg1 : FVec F S32768x512 .bf16) (main_arg2 : FVec F S32768x512 .bf16) (main_arg3 : FVec F S32768x512 .bf16) (main_arg4 : FVec F S8192x2048 .bf16) (main_arg5 : FVec F S2048x8192 .bf16) (main_arg6 : FVec F S32768x128 .f32) (main_arg7 : FVec F S8192x512 .f32) (main_arg8 : FVec F S2048x2048 .f32) (main_arg9 : FVec F S1024x8712 .f32) (main_arg10 : FVec F S3x512x1024 .f32) (main_arg11 : FVec F S1024x1024 .f32) (main_arg12 : FVec F S1024 .f32) (main_arg13 : FVec F S1024 .f32) (main_arg14 : FVec F S1024x32 .f32) (main_arg15 : FVec F S32 .f32) : IVec S_ 1 :=
  let main_v0 : FVec F S32768x4 .f32 := (extractStridedSlice S32768x4 ![0, 0] · slices_S32768x128_S32768x4_0_0) main_arg6
  let main_v1 : FVec F S32768x128 .f32 := shapeCast S32768x128 main_arg7 shapeCasts_S8192x512_S32768x128
  let main_v2 : FVec F S32768x4 .f32 := (extractStridedSlice S32768x4 ![0, 0] · slices_S32768x128_S32768x4_0_0) main_v1
  let main_v3 : FVec F S32768x4 .f32 := maximumf main_v0 main_v2
  let main_v4 : FVec F S32768x128 .f32 := shapeCast S32768x128 main_arg8 shapeCasts_S2048x2048_S32768x128
  let main_v5 : FVec F S32768x4 .f32 := (extractStridedSlice S32768x4 ![0, 0] · slices_S32768x128_S32768x4_0_0) main_v4
  let main_v6 : FVec F S32768x4 .f32 := maximumf main_v3 main_v5
  let main_cst : FVec F S_ .f32 := constant S_ .f32 0xFF800000#32
  let main_v7 : FVec F S32768x4 .f32 := broadcastInDim S32768x4 ![] bcast_S_S32768x4 main_cst
  let main_v8 : IVec S32768x4 1 := cmpf .ogt main_v6 main_v7
  let main_cst_0 : FVec F S_ .f32 := constant S_ .f32 0x7F800000#32
  let main_v9 : FVec F S32768x4 .f32 := broadcastInDim S32768x4 ![] bcast_S_S32768x4 main_cst_0
  let main_v10 : IVec S32768x4 1 := cmpf .olt main_v6 main_v9
  let main_v11 : IVec S32768x4 1 := andi main_v8 main_v10
  let main_c : IVec S_ 1 := constantI S_ 1 1#1
  let main_v12 : IVec S_ 1 := (fun x v => Host.reduce IntOp.andi x v reducesTo_S32768x4_S_d0_1 h_S_) main_v11 main_c
  main_v12
-- ==== Pre_tables_in_range.lean ====
abbrev S178176x512 : Shape := ⟨2, ![178176, 512]⟩
abbrev S348 : Shape := ⟨1, ![348]⟩
abbrev S1 : Shape := ⟨1, ![1]⟩
abbrev S2x32x1024x1024 : Shape := ⟨4, ![2, 32, 1024, 1024]⟩
abbrev S2x32x1x1024 : Shape := ⟨4, ![2, 32, 1, 1024]⟩
abbrev S_ : Shape := ⟨0, ![]⟩

class Facts : Prop where
  bcast_S_S348 : S_.BroadcastsInDim S348 (![] : Fin 0 → Fin S348.rank)
  bcast_S_S1 : S_.BroadcastsInDim S1 (![] : Fin 0 → Fin S1.rank)

variable [Facts]

def fn {F : FTy → Type} [FloatOps F] (main_arg0 : IVec S178176x512 32) (main_arg1 : IVec S348 32) (main_arg2 : IVec S348 32) (main_arg3 : IVec S1 32) (main_arg4 : FVec F S2x32x1024x1024 .f32) (main_arg5 : FVec F S2x32x1x1024 .f32) (main_arg6 : FVec F S2x32x1024x1024 .f32) (main_arg7 : FVec F S2x32x1x1024 .f32) (main_arg8 : FVec F S2x32x1024x1024 .f32) (main_arg9 : FVec F S2x32x1x1024 .f32) : IVec S348 1 × IVec S1 1 :=
  let main_c : IVec S_ 32 := constantI S_ 32 0#32
  let main_v0 : IVec S348 32 := broadcastInDim S348 ![] bcast_S_S348 main_c
  let main_v1 : IVec S348 1 := cmpi .sge main_arg1 main_v0
  let main_c_0 : IVec S_ 32 := constantI S_ 32 32#32
  let main_v2 : IVec S348 32 := broadcastInDim S348 ![] bcast_S_S348 main_c_0
  let main_v3 : IVec S348 1 := cmpi .slt main_arg1 main_v2
  let main_v4 : IVec S348 1 := andi main_v1 main_v3
  let main_c_1 : IVec S_ 32 := constantI S_ 32 1#32
  let main_v5 : IVec S1 32 := broadcastInDim S1 ![] bcast_S_S1 main_c_1
  let main_v6 : IVec S1 1 := cmpi .sge main_arg3 main_v5
  (main_v4, main_v6)
-- ==== Kernel.lean ====
abbrev S2x16384x1024 : Shape := ⟨3, ![2, 16384, 1024]⟩
abbrev S1024x8712 : Shape := ⟨2, ![1024, 8712]⟩
abbrev S512 : Shape := ⟨1, ![512]⟩
abbrev S32768x1024 : Shape := ⟨2, ![32768, 1024]⟩
abbrev S1024x1536 : Shape := ⟨2, ![1024, 1536]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128 : Shape := ⟨3, ![4, 1, 128]⟩
abbrev S1x512 : Shape := ⟨2, ![1, 512]⟩
abbrev S2x16384x512 : Shape := ⟨3, ![2, 16384, 512]⟩
abbrev S2x512x1024 : Shape := ⟨3, ![2, 512, 1024]⟩
abbrev S2x512x512 : Shape := ⟨3, ![2, 512, 512]⟩
abbrev S8x64x128 : Shape := ⟨3, ![8, 64, 128]⟩
abbrev S2x512x1536 : Shape := ⟨3, ![2, 512, 1536]⟩
abbrev S1x512x1024 : Shape := ⟨3, ![1, 512, 1024]⟩
abbrev S512x1024 : Shape := ⟨2, ![512, 1024]⟩
abbrev S512x1536 : Shape := ⟨2, ![512, 1536]⟩
abbrev S1x512x1536 : Shape := ⟨3, ![1, 512, 1536]⟩
abbrev S1x64x128 : Shape := ⟨3, ![1, 64, 128]⟩
abbrev S64x128 : Shape := ⟨2, ![64, 128]⟩
abbrev S1x128x64 : Shape := ⟨3, ![1, 128, 64]⟩
abbrev S128x64 : Shape := ⟨2, ![128, 64]⟩
abbrev S1x1x128 : Shape := ⟨3, ![1, 1, 128]⟩

abbrev nBuf : Space → Nat
  | .hbm => 77
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S1024x8712, .f32⟩
  | .hbm, ⟨2, _⟩ => ⟨S512, .f32⟩
  | .hbm, ⟨3, _⟩ => ⟨S32768x1024, .f32⟩
  | .hbm, ⟨4, _⟩ => ⟨S32768x1024, .bf16⟩
  | .hbm, ⟨5, _⟩ => ⟨S1024x8712, .bf16⟩
  | .hbm, ⟨6, _⟩ => ⟨S1024x1536, .bf16⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S128, .f32⟩
  | .hbm, ⟨18, _⟩ => ⟨S128x1, .f32⟩
  | .hbm, ⟨19, _⟩ => ⟨S1x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .f32⟩
  | .hbm, ⟨24, _⟩ => ⟨S128x128, .f32⟩
  | .hbm, ⟨25, _⟩ => ⟨S128x128, .i1⟩
  | .hbm, ⟨26, _⟩ => ⟨S4x1x1, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S1x128x128, .f32⟩
  | .hbm, ⟨31, _⟩ => ⟨S4x128x128, .f32⟩
  | .hbm, ⟨32, _⟩ => ⟨S4x128x128, .f32⟩
  | .hbm, ⟨33, _⟩ => ⟨S4x128x128, .f32⟩
  | .hbm, ⟨34, _⟩ => ⟨S4x128x128, .f32⟩
  | .hbm, ⟨35, _⟩ => ⟨S_, .f32⟩
  | .hbm, ⟨36, _⟩ => ⟨S_, .f32⟩
  | .hbm, ⟨37, _⟩ => ⟨S4x128x128, .i1⟩
  | .hbm, ⟨38, _⟩ => ⟨S4x128x128, .f32⟩
  | .hbm, ⟨39, _⟩ => ⟨S4x128x128, .f32⟩
  | .hbm, ⟨40, _⟩ => ⟨S_, .f32⟩
  | .hbm, ⟨41, _⟩ => ⟨S4x128x128, .f32⟩
  | .hbm, ⟨42, _⟩ => ⟨S4x128x128, .f32⟩
  | .hbm, ⟨43, _⟩ => ⟨S4x1, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S4x128, .f32⟩
  | .hbm, ⟨49, _⟩ => ⟨S4x128, .f32⟩
  | .hbm, ⟨50, _⟩ => ⟨S4x128, .f32⟩
  | .hbm, ⟨51, _⟩ => ⟨S4x128, .f32⟩
  | .hbm, ⟨52, _⟩ => ⟨S4x128x1, .f32⟩
  | .hbm, ⟨53, _⟩ => ⟨S4x128x128, .f32⟩
  | .hbm, ⟨54, _⟩ => ⟨S4x1, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S_, .f32⟩
  | .hbm, ⟨64, _⟩ => ⟨S4x128, .f32⟩
  | .hbm, ⟨65, _⟩ => ⟨S4x128, .f32⟩
  | .hbm, ⟨66, _⟩ => ⟨S4x128x1, .f32⟩
  | .hbm, ⟨67, _⟩ => ⟨S4x128x128, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S4, .f32⟩
  | .hbm, ⟨72, _⟩ => ⟨S4x1x1, .f32⟩
  | .hbm, ⟨73, _⟩ => ⟨S4x1x128, .f32⟩
  | .hbm, ⟨74, _⟩ => ⟨S2x16384x1024, .bf16⟩
  | .hbm, ⟨75, _⟩ => ⟨S1x512, .f32⟩
  | .hbm, ⟨76, _⟩ => ⟨S2x16384x512, .bf16⟩
  | .local _ .vmem, ⟨0, _⟩ => ⟨S2x512x1024, .bf16⟩
  | .local _ .vmem, ⟨1, _⟩ => ⟨S2x512x1024, .bf16⟩
  | .local _ .vmem, ⟨2, _⟩ => ⟨S1024x1536, .bf16⟩
  | .local _ .vmem, ⟨3, _⟩ => ⟨S4x128x128, .f32⟩
  | .local _ .vmem, ⟨4, _⟩ => ⟨S4x128x128, .f32⟩
  | .local _ .vmem, ⟨5, _⟩ => ⟨S4x128x128, .f32⟩
  | .local _ .vmem, ⟨6, _⟩ => ⟨S4x1x128, .f32⟩
  | .local _ .vmem, ⟨7, _⟩ => ⟨S1x512, .f32⟩
  | .local _ .vmem, ⟨8, _⟩ => ⟨S2x512x512, .bf16⟩
  | .local _ .vmem, ⟨9, _⟩ => ⟨S2x512x512, .bf16⟩
  | .local _ .vmem, ⟨10, _⟩ => ⟨S8x64x128, .f32⟩
  | .local _ .vmem, ⟨11, _⟩ => ⟨S2x512x1536, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x16384x1024 : Shape := ⟨3, ![2, 16384, 1024]⟩
abbrev S1024x8712 : Shape := ⟨2, ![1024, 8712]⟩
abbrev S512 : Shape := ⟨1, ![512]⟩
abbrev S2x16384x8712 : Shape := ⟨3, ![2, 16384, 8712]⟩
abbrev S2x16384x256 : Shape := ⟨3, ![2, 16384, 256]⟩
abbrev S2x16384x512 : Shape := ⟨3, ![2, 16384, 512]⟩
abbrev S4 : Shape := ⟨1, ![4]⟩
abbrev S_ : Shape := ⟨0, ![]⟩
abbrev S2x128x128x4x64 : Shape := ⟨5, ![2, 128, 128, 4, 64]⟩
abbrev S2x128x128x4x128 : Shape := ⟨5, ![2, 128, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S2x128x4x128x128 : Shape := ⟨5, ![2, 128, 4, 128, 128]⟩
abbrev S1x1x4x128x128 : Shape := ⟨5, ![1, 1, 4, 128, 128]⟩
abbrev S4x1 : Shape := ⟨2, ![4, 1]⟩
abbrev S4x128 : Shape := ⟨2, ![4, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S2x128x4x64x128 : Shape := ⟨5, ![2, 128, 4, 64, 128]⟩
abbrev S128x2x4x64x128 : Shape := ⟨5, ![128, 2, 4, 64, 128]⟩
abbrev S1x4x1x1 : Shape := ⟨4, ![1, 4, 1, 1]⟩
abbrev S2x4x64x128 : Shape := ⟨4, ![2, 4, 64, 128]⟩
abbrev S1x2x4x64x128 : Shape := ⟨5, ![1, 2, 4, 64, 128]⟩
abbrev S4x128x1 : Shape := ⟨3, ![4, 128, 1]⟩
abbrev S1x1x4x128x1 : Shape := ⟨5, ![1, 1, 4, 128, 1]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S1x1x512 : Shape := ⟨3, ![1, 1, 512]⟩

abbrev nBuf : Space → Nat
  | .hbm => 158
  | .vmem => 0
  | .smem => 0
  | _ => 0

abbrev hbmTy0_0 (i : Nat) : BufTy := match i % 128 with
  | 0 => ⟨S2x16384x1024, .f32⟩
  | 1 => ⟨S1024x8712, .f32⟩
  | 2 => ⟨S512, .f32⟩
  | 3 => ⟨S2x16384x8712, .f32⟩
  | 4 => ⟨S2x16384x256, .f32⟩
  | 5 => ⟨S2x16384x256, .f32⟩
  | 6 => ⟨S2x16384x512, .f32⟩
  | 7 => ⟨S2x16384x512, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S4, .f32⟩
  | 16 => ⟨S4, .f32⟩
  | 17 => ⟨S4, .f32⟩
  | 18 => ⟨S2x128x128x4x64, .f32⟩
  | 19 => ⟨S2x128x128x4x64, .f32⟩
  | 20 => ⟨S_, .f32⟩
  | 21 => ⟨S2x128x128x4x64, .f32⟩
  | 22 => ⟨S2x128x128x4x64, .f32⟩
  | 23 => ⟨S2x128x128x4x128, .f32⟩
  | 24 => ⟨S128, .f32⟩
  | 25 => ⟨S128x1, .f32⟩
  | 26 => ⟨S1x128, .f32⟩
  | 27 => ⟨S128x128, .f32⟩
  | 28 => ⟨S128x128, .f32⟩
  | 29 => ⟨S128x128, .f32⟩
  | 30 => ⟨S_, .f32⟩
  | 31 => ⟨S128x128, .f32⟩
  | 32 => ⟨S128x128, .i1⟩
  | 33 => ⟨S4x1x1, .f32⟩
  | 34 => ⟨S_, .f32⟩
  | 35 => ⟨S128x128, .f32⟩
  | 36 => ⟨S128x128, .f32⟩
  | 37 => ⟨S1x128x128, .f32⟩
  | 38 => ⟨S4x128x128, .f32⟩
  | 39 => ⟨S4x128x128, .f32⟩
  | 40 => ⟨S4x128x128, .f32⟩
  | 41 => ⟨S4x128x128, .f32⟩
  | 42 => ⟨S_, .f32⟩
  | 43 => ⟨S_, .f32⟩
  | 44 => ⟨S4x128x128, .i1⟩
  | 45 => ⟨S4x128x128, .f32⟩
  | 46 => ⟨S4x128x128, .f32⟩
  | 47 => ⟨S2x128x4x128x128, .f32⟩
  | 48 => ⟨S1x1x4x128x128, .f32⟩
  | 49 => ⟨S2x128x4x128x128, .f32⟩
  | 50 => ⟨S2x128x4x128x128, .f32⟩
  | 51 => ⟨S2x128x4x128x128, .f32⟩
  | 52 => ⟨S4x1, .f32⟩
  | 53 => ⟨S_, .f32⟩
  | 54 => ⟨S128, .f32⟩
  | 55 => ⟨S128, .f32⟩
  | 56 => ⟨S1x128, .f32⟩
  | 57 => ⟨S4x128, .f32⟩
  | 58 => ⟨S4x128, .f32⟩
  | 59 => ⟨S4x128, .f32⟩
  | 60 => ⟨S4x128, .f32⟩
  | 61 => ⟨S4x1, .f32⟩
  | 62 => ⟨S_, .f32⟩
  | 63 => ⟨S128, .f32⟩
  | 64 => ⟨S128, .f32⟩
  | 65 => ⟨S1x128, .f32⟩
  | 66 => ⟨S4x128, .f32⟩
  | 67 => ⟨S4x128, .f32⟩
  | 68 => ⟨S4x128, .f32⟩
  | 69 => ⟨S4x128, .f32⟩
  | 70 => ⟨S128x4, .f32⟩
  | 71 => ⟨S128x4x1, .f32⟩
  | 72 => ⟨S1x1x128x4x1, .f32⟩
  | 73 => ⟨S2x128x128x4x64, .f32⟩
  | 74 => ⟨S2x128x128x4x64, .f32⟩
  | 75 => ⟨S2x128x4x64x128, .f32⟩
  | 76 => ⟨S128x2x4x64x128, .f32⟩
  | 77 => ⟨S_, .f32⟩
  | 78 => ⟨S4, .f32⟩
  | 79 => ⟨S4, .f32⟩
  | 80 => ⟨S4, .f32⟩
  | 81 => ⟨S1x4x1x1, .f32⟩
  | 82 => ⟨S_, .f32⟩
  | 83 => ⟨S2x4x64x128, .f32⟩
  | 84 => ⟨S_, .f32⟩
  | 85 => ⟨S128x2x4x64x128, .f32⟩
  | 86 => ⟨S_, .i32⟩
  | 87 => ⟨S128x2x4x64x128, .f32⟩
  | 88 => ⟨S1x4x1x1, .f32⟩
  | 89 => ⟨S_, .i32⟩
  | 90 => ⟨S2x4x64x128, .f32⟩
  | 91 => ⟨S128x2x4x64x128, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x2x4x64x128, .f32⟩
  | 99 => ⟨S2x4x64x128, .f32⟩
  | 100 => ⟨S2x4x64x128, .f32⟩
  | 101 => ⟨S2x4x64x128, .f32⟩
  | 102 => ⟨S2x4x64x128, .f32⟩
  | 103 => ⟨S1x2x4x64x128, .f32⟩
  | 104 => ⟨S_, .i32⟩
  | 105 => ⟨S_, .i32⟩
  | 106 => ⟨S_, .i32⟩
  | 107 => ⟨S_, .i32⟩
  | 108 => ⟨S128x2x4x64x128, .f32⟩
  | 109 => ⟨S_, .i32⟩
  | 110 => ⟨S_, .i32⟩
  | 111 => ⟨S2x128x4x64x128, .f32⟩
  | 112 => ⟨S2x128x4x128x128, .f32⟩
  | 113 => ⟨S4x128x1, .f32⟩
  | 114 => ⟨S1x1x4x128x1, .f32⟩
  | 115 => ⟨S2x128x4x128x128, .f32⟩
  | 116 => ⟨S2x128x4x128x128, .f32⟩
  | 117 => ⟨S2x128x4x128x128, .f32⟩
  | 118 => ⟨S2x128x128x4x128, .f32⟩
  | 119 => ⟨S2x16384x4x128, .f32⟩
  | 120 => ⟨S_, .f32⟩
  | 121 => ⟨S2x16384x4, .f32⟩
  | 122 => ⟨S2x16384x4x1, .f32⟩
  | 123 => ⟨S_, .f32⟩
  | 124 => ⟨S2x16384x4x1, .f32⟩
  | 125 => ⟨S2x16384x4x1, .f32⟩
  | 126 => ⟨S2x16384x4x128, .f32⟩
  | 127 => ⟨S2x16384x4x128, .f32⟩
  | _ => ⟨S2x16384x1024, .f32⟩

abbrev hbmTy0_1 (i : Nat) : BufTy := match i % 128 with
  | 0 => ⟨S2x16384x4x128, .f32⟩
  | 1 => ⟨S_, .f32⟩
  | 2 => ⟨S2x16384x4, .f32⟩
  | 3 => ⟨S2x16384x4x1, .f32⟩
  | 4 => ⟨S_, .f32⟩
  | 5 => ⟨S2x16384x4x1, .f32⟩
  | 6 => ⟨S2x16384x4x1, .f32⟩
  | 7 => ⟨S2x16384x4x128, .f32⟩
  | 8 => ⟨S2x16384x4x128, .f32⟩
  | 9 => ⟨S_, .f32⟩
  | 10 => ⟨S2x16384x4x1, .f32⟩
  | 11 => ⟨S2x16384x4x1, .f32⟩
  | 12 => ⟨S2x16384x4x1, .f32⟩
  | 13 => ⟨S2x16384x4x128, .f32⟩
  | 14 => ⟨S2x16384x4x128, .f32⟩
  | 15 => ⟨S2x16384x512, .f32⟩
  | 16 => ⟨S1x1x512, .f32⟩
  | 17 => ⟨S2x16384x512, .f32⟩
  | 18 => ⟨S2x16384x512, .f32⟩
  | 19 => ⟨S2x16384x512, .f32⟩
  | 20 => ⟨S2x16384x512, .f32⟩
  | 21 => ⟨S_, .f32⟩
  | 22 => ⟨S2x16384x512, .f32⟩
  | 23 => ⟨S2x16384x512, .f32⟩
  | 24 => ⟨S_, .f32⟩
  | 25 => ⟨S2x16384x512, .f32⟩
  | 26 => ⟨S2x16384x512, .f32⟩
  | 27 => ⟨S2x16384x512, .f32⟩
  | 28 => ⟨S2x16384x512, .f32⟩
  | 29 => ⟨S2x16384x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_c : Ref sig .tc := ⟨.hbm, 86, rfl⟩
abbrev main_v69_0 : Ref sig .tc := ⟨.hbm, 87, rfl⟩
abbrev main_v69_1 : Ref sig .tc := ⟨.hbm, 88, rfl⟩
abbrev main_v69_2 : Ref sig .tc := ⟨.hbm, 89, rfl⟩
abbrev main_v69_3 : Ref sig .tc := ⟨.hbm, 90, rfl⟩
abbrev main_v69_4 : Ref sig .tc := ⟨.hbm, 91, rfl⟩
abbrev main_while0c_c_19 : Ref sig .tc := ⟨.hbm, 92, rfl⟩
abbrev main_while0c_v104 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_c_1 : Ref sig .tc := ⟨.hbm, 96, rfl⟩
abbrev main_while0b_call1_c_2 : Ref sig .tc := ⟨.hbm, 97, rfl⟩
abbrev main_while0b_call1_v0 : Ref sig .tc := ⟨.hbm, 98, rfl⟩
abbrev main_while0b_v104 : Ref sig .tc := ⟨.hbm, 99, rfl⟩
abbrev main_while0b_v105 : Ref sig .tc := ⟨.hbm, 100, rfl⟩
abbrev main_while0b_v106 : Ref sig .tc := ⟨.hbm, 101, rfl⟩
abbrev main_while0b_v107 : Ref sig .tc := ⟨.hbm, 102, rfl⟩
abbrev main_while0b_call2_v0 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_c_1 : Ref sig .tc := ⟨.hbm, 106, rfl⟩
abbrev main_while0b_call2_c_2 : Ref sig .tc := ⟨.hbm, 107, rfl⟩
abbrev main_while0b_v108 : Ref sig .tc := ⟨.hbm, 108, rfl⟩
abbrev main_while0b_c_19 : Ref sig .tc := ⟨.hbm, 109, rfl⟩
abbrev main_while0b_v109 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_10 : Ref sig .tc := ⟨.hbm, 120, rfl⟩
abbrev main_v79 : Ref sig .tc := ⟨.hbm, 121, rfl⟩
abbrev main_v80 : Ref sig .tc := ⟨.hbm, 122, rfl⟩
abbrev main_cst_11 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_12 : Ref sig .tc := ⟨.hbm, 129, rfl⟩
abbrev main_v86 : Ref sig .tc := ⟨.hbm, 130, rfl⟩
abbrev main_v87 : Ref sig .tc := ⟨.hbm, 131, rfl⟩
abbrev main_cst_13 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_14 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call3_v0 : Ref sig .tc := ⟨.hbm, 147, rfl⟩
abbrev main_call3_v1 : Ref sig .tc := ⟨.hbm, 148, rfl⟩
abbrev main_call3_cst : Ref sig .tc := ⟨.hbm, 149, rfl⟩
abbrev main_call3_v2 : Ref sig .tc := ⟨.hbm, 150, rfl⟩
abbrev main_call3_v3 : Ref sig .tc := ⟨.hbm, 151, rfl⟩
abbrev main_call3_cst_0 : Ref sig .tc := ⟨.hbm, 152, rfl⟩
abbrev main_call3_v4 : Ref sig .tc := ⟨.hbm, 153, rfl⟩
abbrev main_call3_v5 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S178176x512 : Shape := ⟨2, ![178176, 512]⟩
abbrev S348 : Shape := ⟨1, ![348]⟩
abbrev S1 : Shape := ⟨1, ![1]⟩
abbrev S2x32x1024x1024 : Shape := ⟨4, ![2, 32, 1024, 1024]⟩
abbrev S2x32x1x1024 : Shape := ⟨4, ![2, 32, 1, 1024]⟩
abbrev S178176x1024 : Shape := ⟨2, ![178176, 1024]⟩
abbrev S512x512 : Shape := ⟨2, ![512, 512]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 8
  | .vmem => 19
  | .smem => 3
  | _ => 0

abbrev bufTy : (tb : Table) → Fin (tcTables nBuf tb) → BufTy
  | .hbm, ⟨0, _⟩ => ⟨S178176x512, .i32⟩
  | .hbm, ⟨1, _⟩ => ⟨S2x32x1024x1024, .f32⟩
  | .hbm, ⟨2, _⟩ => ⟨S2x32x1x1024, .f32⟩
  | .hbm, ⟨3, _⟩ => ⟨S2x32x1024x1024, .f32⟩
  | .hbm, ⟨4, _⟩ => ⟨S2x32x1x1024, .f32⟩
  | .hbm, ⟨5, _⟩ => ⟨S2x32x1024x1024, .f32⟩
  | .hbm, ⟨6, _⟩ => ⟨S2x32x1x1024, .f32⟩
  | .hbm, ⟨7, _⟩ => ⟨S178176x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S348, .i32⟩
  | .local _ .smem, ⟨1, _⟩ => ⟨S348, .i32⟩
  | .local _ .smem, ⟨2, _⟩ => ⟨S1, .i32⟩
  | _, _ => ⟨S178176x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![348], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_off4 (i : grid0.Coords) : Fin 1 → Nat :=
  let arg0 : BitVec 32 := BitVec.ofNat 32 (i 0).val
  let v20 : Index := Scalar.indexCast arg0
  ![v20.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S348.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S348) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S348.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S348) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S348.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S348) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S348.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S348) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S348.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S348) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S348.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S348) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S178176x512 : Shape := ⟨2, ![178176, 512]⟩
abbrev S348 : Shape := ⟨1, ![348]⟩
abbrev S1 : Shape := ⟨1, ![1]⟩
abbrev S2x32x1024x1024 : Shape := ⟨4, ![2, 32, 1024, 1024]⟩
abbrev S2x32x1x1024 : Shape := ⟨4, ![2, 32, 1, 1024]⟩
abbrev S_ : Shape := ⟨0, ![]⟩
abbrev S178176x1024 : Shape := ⟨2, ![178176, 1024]⟩
abbrev S348x512x1024 : Shape := ⟨3, ![348, 512, 1024]⟩
abbrev S512 : Shape := ⟨1, ![512]⟩
abbrev S1x512 : Shape := ⟨2, ![1, 512]⟩
abbrev S348x1 : Shape := ⟨2, ![348, 1]⟩
abbrev S348x512 : Shape := ⟨2, ![348, 512]⟩
abbrev S348x512x1 : Shape := ⟨3, ![348, 512, 1]⟩
abbrev S1x32x1024x1024 : Shape := ⟨4, ![1, 32, 1024, 1024]⟩
abbrev S32x1024x1024 : Shape := ⟨3, ![32, 1024, 1024]⟩
abbrev S348x1024x1024 : Shape := ⟨3, ![348, 1024, 1024]⟩
abbrev S1x32x1x1024 : Shape := ⟨4, ![1, 32, 1, 1024]⟩
abbrev S32x1x1024 : Shape := ⟨3, ![32, 1, 1024]⟩
abbrev S348x1x1024 : Shape := ⟨3, ![348, 1, 1024]⟩
abbrev S348x1x1 : Shape := ⟨3, ![348, 1, 1]⟩

abbrev nBuf : Space → Nat
  | .hbm => 145
  | .vmem => 0
  | .smem => 0
  | _ => 0

abbrev hbmTy0_0 (i : Nat) : BufTy := match i % 128 with
  | 0 => ⟨S178176x512, .i32⟩
  | 1 => ⟨S348, .i32⟩
  | 2 => ⟨S348, .i32⟩
  | 3 => ⟨S1, .i32⟩
  | 4 => ⟨S2x32x1024x1024, .f32⟩
  | 5 => ⟨S2x32x1x1024, .f32⟩
  | 6 => ⟨S2x32x1024x1024, .f32⟩
  | 7 => ⟨S2x32x1x1024, .f32⟩
  | 8 => ⟨S2x32x1024x1024, .f32⟩
  | 9 => ⟨S2x32x1x1024, .f32⟩
  | 10 => ⟨S_, .i32⟩
  | 11 => ⟨S178176x512, .i32⟩
  | 12 => ⟨S178176x512, .i32⟩
  | 13 => ⟨S178176x512, .f32⟩
  | 14 => ⟨S_, .i32⟩
  | 15 => ⟨S178176x512, .i32⟩
  | 16 => ⟨S178176x512, .i32⟩
  | 17 => ⟨S178176x512, .f32⟩
  | 18 => ⟨S178176x1024, .f32⟩
  | 19 => ⟨S348x512x1024, .f32⟩
  | 20 => ⟨S512, .i32⟩
  | 21 => ⟨S1x512, .i32⟩
  | 22 => ⟨S348x1, .i32⟩
  | 23 => ⟨S348x512, .i32⟩
  | 24 => ⟨S348x512, .i32⟩
  | 25 => ⟨S348x512, .i1⟩
  | 26 => ⟨S348x512x1, .i1⟩
  | 27 => ⟨S_, .f32⟩
  | 28 => ⟨S_, .f32⟩
  | 29 => ⟨S348x512x1024, .i1⟩
  | 30 => ⟨S348x512x1024, .f32⟩
  | 31 => ⟨S348x512x1024, .f32⟩
  | 32 => ⟨S1x32x1024x1024, .f32⟩
  | 33 => ⟨S32x1024x1024, .f32⟩
  | 34 => ⟨S_, .i32⟩
  | 35 => ⟨S348, .i32⟩
  | 36 => ⟨S348, .i1⟩
  | 37 => ⟨S_, .i32⟩
  | 38 => ⟨S348, .i32⟩
  | 39 => ⟨S348, .i32⟩
  | 40 => ⟨S348, .i32⟩
  | 41 => ⟨S348x1, .i32⟩
  | 42 => ⟨S348x1024x1024, .f32⟩
  | 43 => ⟨S348x512x1024, .f32⟩
  | 44 => ⟨S1x32x1x1024, .f32⟩
  | 45 => ⟨S32x1x1024, .f32⟩
  | 46 => ⟨S_, .i32⟩
  | 47 => ⟨S348, .i32⟩
  | 48 => ⟨S348, .i1⟩
  | 49 => ⟨S_, .i32⟩
  | 50 => ⟨S348, .i32⟩
  | 51 => ⟨S348, .i32⟩
  | 52 => ⟨S348, .i32⟩
  | 53 => ⟨S348x1, .i32⟩
  | 54 => ⟨S348x1x1024, .f32⟩
  | 55 => ⟨S348x512x1024, .f32⟩
  | 56 => ⟨S348x512x1024, .f32⟩
  | 57 => ⟨S_, .f32⟩
  | 58 => ⟨S348x512x1024, .f32⟩
  | 59 => ⟨S348x512x1024, .f32⟩
  | 60 => ⟨S1x32x1024x1024, .f32⟩
  | 61 => ⟨S32x1024x1024, .f32⟩
  | 62 => ⟨S_, .i32⟩
  | 63 => ⟨S348, .i32⟩
  | 64 => ⟨S348, .i1⟩
  | 65 => ⟨S_, .i32⟩
  | 66 => ⟨S348, .i32⟩
  | 67 => ⟨S348, .i32⟩
  | 68 => ⟨S348, .i32⟩
  | 69 => ⟨S348x1, .i32⟩
  | 70 => ⟨S348x1024x1024, .f32⟩
  | 71 => ⟨S348x512x1024, .f32⟩
  | 72 => ⟨S1x32x1x1024, .f32⟩
  | 73 => ⟨S32x1x1024, .f32⟩
  | 74 => ⟨S_, .i32⟩
  | 75 => ⟨S348, .i32⟩
  | 76 => ⟨S348, .i1⟩
  | 77 => ⟨S_, .i32⟩
  | 78 => ⟨S348, .i32⟩
  | 79 => ⟨S348, .i32⟩
  | 80 => ⟨S348, .i32⟩
  | 81 => ⟨S348x1, .i32⟩
  | 82 => ⟨S348x1x1024, .f32⟩
  | 83 => ⟨S348x512x1024, .f32⟩
  | 84 => ⟨S348x512x1024, .f32⟩
  | 85 => ⟨S_, .f32⟩
  | 86 => ⟨S_, .f32⟩
  | 87 => ⟨S_, .f32⟩
  | 88 => ⟨S348x512x1024, .f32⟩
  | 89 => ⟨S348x512x1024, .f32⟩
  | 90 => ⟨S_, .f32⟩
  | 91 => ⟨S348x512x1024, .f32⟩
  | 92 => ⟨S348x512x1024, .f32⟩
  | 93 => ⟨S_, .f32⟩
  | 94 => ⟨S348x512x1024, .f32⟩
  | 95 => ⟨S348x512x1024, .f32⟩
  | 96 => ⟨S348x512x1024, .f32⟩
  | 97 => ⟨S_, .f32⟩
  | 98 => ⟨S348x512x1024, .f32⟩
  | 99 => ⟨S348x512x1024, .f32⟩
  | 100 => ⟨S348x512x1024, .f32⟩
  | 101 => ⟨S348x512x1024, .f32⟩
  | 102 => ⟨S_, .f32⟩
  | 103 => ⟨S348x512x1024, .f32⟩
  | 104 => ⟨S348x512x1024, .f32⟩
  | 105 => ⟨S_, .f32⟩
  | 106 => ⟨S348x512x1024, .f32⟩
  | 107 => ⟨S348x512x1024, .f32⟩
  | 108 => ⟨S348x512x1024, .f32⟩
  | 109 => ⟨S1x32x1024x1024, .f32⟩
  | 110 => ⟨S32x1024x1024, .f32⟩
  | 111 => ⟨S_, .i32⟩
  | 112 => ⟨S348, .i32⟩
  | 113 => ⟨S348, .i1⟩
  | 114 => ⟨S_, .i32⟩
  | 115 => ⟨S348, .i32⟩
  | 116 => ⟨S348, .i32⟩
  | 117 => ⟨S348, .i32⟩
  | 118 => ⟨S348x1, .i32⟩
  | 119 => ⟨S348x1024x1024, .f32⟩
  | 120 => ⟨S348x512x1024, .f32⟩
  | 121 => ⟨S1x32x1x1024, .f32⟩
  | 122 => ⟨S32x1x1024, .f32⟩
  | 123 => ⟨S_, .i32⟩
  | 124 => ⟨S348, .i32⟩
  | 125 => ⟨S348, .i1⟩
  | 126 => ⟨S_, .i32⟩
  | 127 => ⟨S348, .i32⟩
  | _ => ⟨S178176x512, .i32⟩

abbrev hbmTy0_1 (i : Nat) : BufTy := match i % 128 with
  | 0 => ⟨S348, .i32⟩
  | 1 => ⟨S348, .i32⟩
  | 2 => ⟨S348x1, .i32⟩
  | 3 => ⟨S348x1x1024, .f32⟩
  | 4 => ⟨S348x512x1024, .f32⟩
  | 5 => ⟨S348x512x1024, .f32⟩
  | 6 => ⟨S348, .i32⟩
  | 7 => ⟨S348, .i32⟩
  | 8 => ⟨S348, .i1⟩
  | 9 => ⟨S348x1x1, .i1⟩
  | 10 => ⟨S_, .f32⟩
  | 11 => ⟨S_, .f32⟩
  | 12 => ⟨S348x512x1024, .i1⟩
  | 13 => ⟨S348x512x1024, .f32⟩
  | 14 => ⟨S348x512x1024, .f32⟩
  | 15 => ⟨S178176x1024, .f32⟩
  | 16 => ⟨S178176x1024, .bf16⟩
  | _ => ⟨S178176x512, .i32⟩

abbrev hbmTy (i : Nat) : BufTy := match i / 128 with
  | 0 => hbmTy0_0 i
  | 1 => hbmTy0_1 i
  | _ => ⟨S178176x512, .i32⟩

abbrev bufTy : (tb : Table) → Fin (tcTables nBuf tb) → BufTy
  | .hbm, ⟨i, _⟩ => hbmTy i
  | _, _ => ⟨S178176x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_cst_11 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_16 : Ref sig .tc := ⟨.hbm, 111, rfl⟩
abbrev main_v75 : Ref sig .tc := ⟨.hbm, 112, rfl⟩
abbrev main_v76 : Ref sig .tc := ⟨.hbm, 113, rfl⟩
abbrev main_c_17 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_18 : Ref sig .tc := ⟨.hbm, 123, rfl⟩
abbrev main_v85 : Ref sig .tc := ⟨.hbm, 124, rfl⟩
abbrev main_v86 : Ref sig .tc := ⟨.hbm, 125, rfl⟩
abbrev main_c_19 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_20 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S8192x2048 : Shape := ⟨2, ![8192, 2048]⟩
abbrev S2048x8192 : Shape := ⟨2, ![2048, 8192]⟩
abbrev S32768x128 : Shape := ⟨2, ![32768, 128]⟩
abbrev S8192x512 : Shape := ⟨2, ![8192, 512]⟩
abbrev S2048x2048 : Shape := ⟨2, ![2048, 2048]⟩
abbrev S1024x8712 : Shape := ⟨2, ![1024, 8712]⟩
abbrev S3x512x1024 : Shape := ⟨3, ![3, 512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1024x3072 : Shape := ⟨2, ![1024, 3072]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S8x32768 : Shape := ⟨2, ![8, 32768]⟩
abbrev S128x8x128 : Shape := ⟨3, ![128, 8, 128]⟩
abbrev S512x1024 : Shape := ⟨2, ![512, 1024]⟩
abbrev S512x512 : Shape := ⟨2, ![512, 512]⟩
abbrev S128x2048 : Shape := ⟨2, ![128, 2048]⟩
abbrev S32x8192 : Shape := ⟨2, ![32, 8192]⟩
abbrev S512x128 : Shape := ⟨2, ![512, 128]⟩
abbrev S128x512 : Shape := ⟨2, ![128, 512]⟩
abbrev S32x2048 : Shape := ⟨2, ![32, 2048]⟩
abbrev S8x512 : Shape := ⟨2, ![8, 512]⟩
abbrev S2x8x128 : Shape := ⟨3, ![2, 8, 128]⟩
abbrev S3x4x512x128 : Shape := ⟨4, ![3, 4, 512, 128]⟩
abbrev S3x512x128 : Shape := ⟨3, ![3, 512, 128]⟩
abbrev S1x1x512x128 : Shape := ⟨4, ![1, 1, 512, 128]⟩
abbrev S1x512x128 : Shape := ⟨3, ![1, 512, 128]⟩
abbrev S128x128 : Shape := ⟨2, ![128, 128]⟩
abbrev S1x1x128x128 : Shape := ⟨4, ![1, 1, 128, 128]⟩
abbrev S1x128x128 : Shape := ⟨3, ![1, 128, 128]⟩
abbrev S32x128 : Shape := ⟨2, ![32, 128]⟩
abbrev S1x1x32x128 : Shape := ⟨4, ![1, 1, 32, 128]⟩
abbrev S1x32x128 : Shape := ⟨3, ![1, 32, 128]⟩
abbrev S512x1 : Shape := ⟨2, ![512, 1]⟩
abbrev S1x512x1024 : Shape := ⟨3, ![1, 512, 1024]⟩
abbrev S512 : Shape := ⟨1, ![512]⟩
abbrev S256x128 : Shape := ⟨2, ![256, 128]⟩
abbrev S128 : Shape := ⟨1, ![128]⟩
abbrev S8x128 : Shape := ⟨2, ![8, 128]⟩
abbrev S1x8x128 : Shape := ⟨3, ![1, 8, 128]⟩

abbrev nBuf : Space → Nat
  | .hbm => 46
  | .vmem => 42
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S8192x2048, .bf16⟩
  | .hbm, ⟨5, _⟩ => ⟨S2048x8192, .bf16⟩
  | .hbm, ⟨6, _⟩ => ⟨S32768x128, .f32⟩
  | .hbm, ⟨7, _⟩ => ⟨S8192x512, .f32⟩
  | .hbm, ⟨8, _⟩ => ⟨S2048x2048, .f32⟩
  | .hbm, ⟨9, _⟩ => ⟨S1024x8712, .f32⟩
  | .hbm, ⟨10, _⟩ => ⟨S3x512x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x32, .f32⟩
  | .hbm, ⟨15, _⟩ => ⟨S32, .f32⟩
  | .hbm, ⟨16, _⟩ => ⟨S1024x3072, .f32⟩
  | .hbm, ⟨17, _⟩ => ⟨S1024x3072, .bf16⟩
  | .hbm, ⟨18, _⟩ => ⟨S32768x1024, .bf16⟩
  | .hbm, ⟨19, _⟩ => ⟨S_, .f32⟩
  | .hbm, ⟨20, _⟩ => ⟨S1024x128, .f32⟩
  | .hbm, ⟨21, _⟩ => ⟨S_, .i32⟩
  | .hbm, ⟨22, _⟩ => ⟨S1, .i32⟩
  | .hbm, ⟨23, _⟩ => ⟨S1024x128, .f32⟩
  | .hbm, ⟨24, _⟩ => ⟨S1024x128, .bf16⟩
  | .hbm, ⟨25, _⟩ => ⟨S1024x128, .f32⟩
  | .hbm, ⟨26, _⟩ => ⟨S1024x128, .f32⟩
  | .hbm, ⟨27, _⟩ => ⟨S1024x128, .bf16⟩
  | .hbm, ⟨28, _⟩ => ⟨S_, .f32⟩
  | .hbm, ⟨29, _⟩ => ⟨S1x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S3x512x1024, .bf16⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S32768x1024, .f32⟩
  | .hbm, ⟨41, _⟩ => ⟨S32768x1024, .bf16⟩
  | .hbm, ⟨42, _⟩ => ⟨S32768x128, .i32⟩
  | .hbm, ⟨43, _⟩ => ⟨S8x32768, .f32⟩
  | .hbm, ⟨44, _⟩ => ⟨S32768x128, .f32⟩
  | .hbm, ⟨45, _⟩ => ⟨S128x8x128, .i32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S128x2048, .bf16⟩
  | .local _ .vmem, ⟨9, _⟩ => ⟨S128x2048, .bf16⟩
  | .local _ .vmem, ⟨10, _⟩ => ⟨S32x8192, .bf16⟩
  | .local _ .vmem, ⟨11, _⟩ => ⟨S32x8192, .bf16⟩
  | .local _ .vmem, ⟨12, _⟩ => ⟨S512x128, .f32⟩
  | .local _ .vmem, ⟨13, _⟩ => ⟨S512x128, .f32⟩
  | .local _ .vmem, ⟨14, _⟩ => ⟨S128x512, .f32⟩
  | .local _ .vmem, ⟨15, _⟩ => ⟨S128x512, .f32⟩
  | .local _ .vmem, ⟨16, _⟩ => ⟨S32x2048, .f32⟩
  | .local _ .vmem, ⟨17, _⟩ => ⟨S32x2048, .f32⟩
  | .local _ .vmem, ⟨18, _⟩ => ⟨S512x1024, .bf16⟩
  | .local _ .vmem, ⟨19, _⟩ => ⟨S512x1024, .bf16⟩
  | .local _ .vmem, ⟨20, _⟩ => ⟨S1024x3072, .bf16⟩
  | .local _ .vmem, ⟨21, _⟩ => ⟨S3x512x1024, .bf16⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S1024x128, .bf16⟩
  | .local _ .vmem, ⟨26, _⟩ => ⟨S1024x128, .bf16⟩
  | .local _ .vmem, ⟨27, _⟩ => ⟨S1x128, .f32⟩
  | .local _ .vmem, ⟨28, _⟩ => ⟨S512x1024, .f32⟩
  | .local _ .vmem, ⟨29, _⟩ => ⟨S512x1024, .f32⟩
  | .local _ .vmem, ⟨30, _⟩ => ⟨S512x1024, .bf16⟩
  | .local _ .vmem, ⟨31, _⟩ => ⟨S512x1024, .bf16⟩
  | .local _ .vmem, ⟨32, _⟩ => ⟨S512x128, .i32⟩
  | .local _ .vmem, ⟨33, _⟩ => ⟨S512x128, .i32⟩
  | .local _ .vmem, ⟨34, _⟩ => ⟨S8x512, .f32⟩
  | .local _ .vmem, ⟨35, _⟩ => ⟨S8x512, .f32⟩
  | .local _ .vmem, ⟨36, _⟩ => ⟨S512x128, .f32⟩
  | .local _ .vmem, ⟨37, _⟩ => ⟨S512x128, .f32⟩
  | .local _ .vmem, ⟨38, _⟩ => ⟨S2x8x128, .i32⟩
  | .local _ .vmem, ⟨39, _⟩ => ⟨S2x8x128, .i32⟩
  | .local _ .vmem, ⟨40, _⟩ => ⟨S3x4x512x128, .f32⟩
  | .local _ .vmem, ⟨41, _⟩ => ⟨S3x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev main_v19_2 : Ref sig .tc := ⟨.hbm, 42, rfl⟩
abbrev main_v19_3 : Ref sig .tc := ⟨.hbm, 43, rfl⟩
abbrev main_v19_4 : Ref sig .tc := ⟨.hbm, 44, rfl⟩
abbrev main_v19_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2x8x128 .i32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference3Ideal.lean ====
abbrev S32768x1024 : Shape := ⟨2, ![32768, 1024]⟩
abbrev S32768x512 : Shape := ⟨2, ![32768, 512]⟩
abbrev S8192x2048 : Shape := ⟨2, ![8192, 2048]⟩
abbrev S2048x8192 : Shape := ⟨2, ![2048, 8192]⟩
abbrev S32768x128 : Shape := ⟨2, ![32768, 128]⟩
abbrev S8192x512 : Shape := ⟨2, ![8192, 512]⟩
abbrev S2048x2048 : Shape := ⟨2, ![2048, 2048]⟩
abbrev S1024x8712 : Shape := ⟨2, ![1024, 8712]⟩
abbrev S3x512x1024 : Shape := ⟨3, ![3, 512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S32768x4x128 : Shape := ⟨3, ![32768, 4, 128]⟩
abbrev S32768x4 : Shape := ⟨2, ![32768, 4]⟩
abbrev S32768x4x1 : Shape := ⟨3, ![32768, 4, 1]⟩
abbrev S1x32768x4x1 : Shape := ⟨4, ![1, 32768, 4, 1]⟩
abbrev S3x32768x4x1 : Shape := ⟨4, ![3, 32768, 4, 1]⟩
abbrev S_ : Shape := ⟨0, ![]⟩
abbrev S1x32768x4x128 : Shape := ⟨4, ![1, 32768, 4, 128]⟩
abbrev S3x32768x4x128 : Shape := ⟨4, ![3, 32768, 4, 128]⟩
abbrev S1024x3072 : Shape := ⟨2, ![1024, 3072]⟩
abbrev S32768x3072 : Shape := ⟨2, ![32768, 3072]⟩
abbrev S32768x3x1024 : Shape := ⟨3, ![32768, 3, 1024]⟩
abbrev S32768x1x1024 : Shape := ⟨3, ![32768, 1, 1024]⟩
abbrev S1x512x1024 : Shape := ⟨3, ![1, 512, 1024]⟩
abbrev S512x1024 : Shape := ⟨2, ![512, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 141
  | .vmem => 0
  | .smem => 0
  | _ => 0

abbrev hbmTy0_0 (i : Nat) : BufTy := match i % 128 with
  | 0 => ⟨S32768x1024, .f32⟩
  | 1 => ⟨S32768x512, .bf16⟩
  | 2 => ⟨S32768x512, .bf16⟩
  | 3 => ⟨S32768x512, .bf16⟩
  | 4 => ⟨S8192x2048, .bf16⟩
  | 5 => ⟨S2048x8192, .bf16⟩
  | 6 => ⟨S32768x128, .f32⟩
  | 7 => ⟨S8192x512, .f32⟩
  | 8 => ⟨S2048x2048, .f32⟩
  | 9 => ⟨S1024x8712, .f32⟩
  | 10 => ⟨S3x512x1024, .f32⟩
  | 11 => ⟨S1024x1024, .f32⟩
  | 12 => ⟨S1024, .f32⟩
  | 13 => ⟨S1024, .f32⟩
  | 14 => ⟨S1024x32, .f32⟩
  | 15 => ⟨S32, .f32⟩
  | 16 => ⟨S32768x4x128, .bf16⟩
  | 17 => ⟨S32768x4x128, .f32⟩
  | 18 => ⟨S32768x4x128, .bf16⟩
  | 19 => ⟨S32768x4x128, .f32⟩
  | 20 => ⟨S32768x4x128, .bf16⟩
  | 21 => ⟨S32768x4x128, .f32⟩
  | 22 => ⟨S32768x4, .f32⟩
  | 23 => ⟨S32768x4x1, .f32⟩
  | 24 => ⟨S32768x128, .f32⟩
  | 25 => ⟨S32768x4, .f32⟩
  | 26 => ⟨S32768x4x1, .f32⟩
  | 27 => ⟨S32768x128, .f32⟩
  | 28 => ⟨S32768x4, .f32⟩
  | 29 => ⟨S32768x4x1, .f32⟩
  | 30 => ⟨S1x32768x4x1, .f32⟩
  | 31 => ⟨S1x32768x4x1, .f32⟩
  | 32 => ⟨S1x32768x4x1, .f32⟩
  | 33 => ⟨S3x32768x4x1, .f32⟩
  | 34 => ⟨S_, .f32⟩
  | 35 => ⟨S32768x4x1, .f32⟩
  | 36 => ⟨S_, .f32⟩
  | 37 => ⟨S32768x4x1, .f32⟩
  | 38 => ⟨S32768x4x1, .f32⟩
  | 39 => ⟨S1x32768x4x1, .f32⟩
  | 40 => ⟨S3x32768x4x1, .f32⟩
  | 41 => ⟨S3x32768x4x1, .f32⟩
  | 42 => ⟨S3x32768x4x1, .f32⟩
  | 43 => ⟨S_, .f32⟩
  | 44 => ⟨S32768x4x1, .f32⟩
  | 45 => ⟨S1x32768x4x1, .f32⟩
  | 46 => ⟨S3x32768x4x1, .f32⟩
  | 47 => ⟨S3x32768x4x1, .f32⟩
  | 48 => ⟨S1x32768x4x128, .f32⟩
  | 49 => ⟨S1x32768x4x128, .f32⟩
  | 50 => ⟨S1x32768x4x128, .f32⟩
  | 51 => ⟨S3x32768x4x128, .f32⟩
  | 52 => ⟨S3x32768x4x128, .f32⟩
  | 53 => ⟨S3x32768x4x128, .f32⟩
  | 54 => ⟨S_, .f32⟩
  | 55 => ⟨S32768x4x128, .f32⟩
  | 56 => ⟨S32768x512, .f32⟩
  | 57 => ⟨S1024x3072, .f32⟩
  | 58 => ⟨S32768x3072, .f32⟩
  | 59 => ⟨S32768x3x1024, .f32⟩
  | 60 => ⟨S32768x1x1024, .f32⟩
  | 61 => ⟨S32768x1024, .f32⟩
  | 62 => ⟨S32768x1024, .f32⟩
  | 63 => ⟨S32768x1024, .f32⟩
  | 64 => ⟨S_, .f32⟩
  | 65 => ⟨S32768x1024, .f32⟩
  | 66 => ⟨S32768x1024, .f32⟩
  | 67 => ⟨S_, .f32⟩
  | 68 => ⟨S32768x1024, .f32⟩
  | 69 => ⟨S32768x1024, .f32⟩
  | 70 => ⟨S32768x512, .f32⟩
  | 71 => ⟨S1x512x1024, .f32⟩
  | 72 => ⟨S512x1024, .f32⟩
  | 73 => ⟨S32768x1024, .f32⟩
  | 74 => ⟨S32768x1024, .f32⟩
  | 75 => ⟨S32768x1x1024, .f32⟩
  | 76 => ⟨S32768x1024, .f32⟩
  | 77 => ⟨S32768x1024, .f32⟩
  | 78 => ⟨S32768x1024, .f32⟩
  | 79 => ⟨S_, .f32⟩
  | 80 => ⟨S32768x1024, .f32⟩
  | 81 => ⟨S32768x1024, .f32⟩
  | 82 => ⟨S_, .f32⟩
  | 83 => ⟨S32768x1024, .f32⟩
  | 84 => ⟨S32768x1024, .f32⟩
  | 85 => ⟨S32768x512, .f32⟩
  | 86 => ⟨S1x512x1024, .f32⟩
  | 87 => ⟨S512x1024, .f32⟩
  | 88 => ⟨S32768x1024, .f32⟩
  | 89 => ⟨S32768x1024, .f32⟩
  | 90 => ⟨S32768x1024, .f32⟩
  | 91 => ⟨S32768x1x1024, .f32⟩
  | 92 => ⟨S32768x1024, .f32⟩
  | 93 => ⟨S32768x1024, .f32⟩
  | 94 => ⟨S32768x1024, .f32⟩
  | 95 => ⟨S_, .f32⟩
  | 96 => ⟨S32768x1024, .f32⟩
  | 97 => ⟨S32768x1024, .f32⟩
  | 98 => ⟨S_, .f32⟩
  | 99 => ⟨S32768x1024, .f32⟩
  | 100 => ⟨S32768x1024, .f32⟩
  | 101 => ⟨S1x512x1024, .f32⟩
  | 102 => ⟨S512x1024, .f32⟩
  | 103 => ⟨S32768x1024, .f32⟩
  | 104 => ⟨S32768x1024, .f32⟩
  | 105 => ⟨S32768x1024, .f32⟩
  | 106 => ⟨S_, .f32⟩
  | 107 => ⟨S32768x1024, .f32⟩
  | 108 => ⟨S32768x1024, .f32⟩
  | 109 => ⟨S32768x1024, .f32⟩
  | 110 => ⟨S32768x1024, .f32⟩
  | 111 => ⟨S_, .f32⟩
  | 112 => ⟨S32768, .f32⟩
  | 113 => ⟨S32768x1, .f32⟩
  | 114 => ⟨S_, .f32⟩
  | 115 => ⟨S32768x1, .f32⟩
  | 116 => ⟨S32768x1, .f32⟩
  | 117 => ⟨S32768x1024, .f32⟩
  | 118 => ⟨S32768x1024, .f32⟩
  | 119 => ⟨S32768x1024, .f32⟩
  | 120 => ⟨S_, .f32⟩
  | 121 => ⟨S32768, .f32⟩
  | 122 => ⟨S32768x1, .f32⟩
  | 123 => ⟨S_, .f32⟩
  | 124 => ⟨S32768x1, .f32⟩
  | 125 => ⟨S32768x1, .f32⟩
  | 126 => ⟨S32768x1024, .f32⟩
  | 127 => ⟨S32768x1024, .f32⟩
  | _ => ⟨S32768x1024, .f32⟩

abbrev hbmTy0_1 (i : Nat) : BufTy := match i % 128 with
  | 0 => ⟨S_, .f32⟩
  | 1 => ⟨S32768x1, .f32⟩
  | 2 => ⟨S32768x1, .f32⟩
  | 3 => ⟨S32768x1, .f32⟩
  | 4 => ⟨S32768x1024, .f32⟩
  | 5 => ⟨S32768x1024, .f32⟩
  | 6 => ⟨S1x1024, .f32⟩
  | 7 => ⟨S32768x1024, .f32⟩
  | 8 => ⟨S32768x1024, .f32⟩
  | 9 => ⟨S1x1024, .f32⟩
  | 10 => ⟨S32768x1024, .f32⟩
  | 11 => ⟨S32768x1024, .f32⟩
  | 12 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_5 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_7 : Ref sig .tc := ⟨.hbm, 95, rfl⟩
abbrev main_v71 : Ref sig .tc := ⟨.hbm, 96, rfl⟩
abbrev main_v72 : Ref sig .tc := ⟨.hbm, 97, rfl⟩
abbrev main_cst_8 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_9 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_10 : Ref sig .tc := ⟨.hbm, 111, rfl⟩
abbrev main_v84 : Ref sig .tc := ⟨.hbm, 112, rfl⟩
abbrev main_v85 : Ref sig .tc := ⟨.hbm, 113, rfl⟩
abbrev main_cst_11 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_12 : Ref sig .tc := ⟨.hbm, 120, rfl⟩
abbrev main_v91 : Ref sig .tc := ⟨.hbm, 121, rfl⟩
abbrev main_v92 : Ref sig .tc := ⟨.hbm, 122, rfl⟩
abbrev main_cst_13 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_14 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== Proof.Chain.lean ====
module

public import proofs.«01_k».proof.Proof.Gen.KernelIdeal.Value

@[expose] public section

set_option maxRecDepth 16384

noncomputable section

namespace Cert.KernelIdeal.Chain

open Idealize.ShloMosaic Idealize.ShloMosaic.TcCoe Cert.KernelIdeal.Gen

variable {F : FTy → Type} [FloatOps F]

/-- What one grid point's body loads: per batch, chunk and head the query, key, value and gate tiles, per head the four
    tables and the gain, and per batch and head the state the point starts from. -/
structure Loads (F : FTy → Type) where
  q : Fin 2 → Fin 4 → Fin 4 → Vec F S1x128x64 .bf16
  k : Fin 2 → Fin 4 → Fin 4 → Vec F S1x128x64 .bf16
  v : Fin 2 → Fin 4 → Fin 4 → Vec F S1x128x128 .bf16
  g : Fin 2 → Fin 4 → Fin 4 → Vec F S1x128x128 .bf16
  dm : Fin 4 → Vec F S1x128x128 .f32
  qd : Fin 4 → Vec F S1x128x128 .f32
  kd : Fin 4 → Vec F S1x128x128 .f32
  cd : Fin 4 → Vec F S1x1x128 .f32
  gn : Fin 4 → Vec F S1x128 .f32
  s0 : Fin 2 → Fin 4 → FVec F S64x128 .f32

/-- The state of batch `b` and head `h` before the point's chunk `c` (after its last one at `c = 4`). -/
def stateAt (L : Loads F) (b : Fin 2) (h : Fin 4) : (c : ℕ) → c ≤ 4 → FVec F S64x128 .f32
  | 0, _ => L.s0 b h
  | c + 1, hc => k0_pay65 (stateAt L b h c (Nat.le_of_succ_le hc)) (k0_pay21 (L.k b ⟨c, hc⟩ h) (L.v b ⟨c, hc⟩ h) (L.kd h)) (L.cd h)

/-- What the body stores for batch `b`, chunk `c` and head `h`. -/
def outAt (L : Loads F) (b : Fin 2) (c h : Fin 4) : FVec F S1x128x128 .bf16 :=
  k0_pay68 (k0_pay64 (k0_pay18 (L.v b c h)) (k0_pay19 (L.q b c h) (L.k b c h))
    (k0_pay20 (stateAt L b h c.val c.isLt.le) (L.q b c h)) (L.dm h) (L.qd h)) (k0_pay66 (L.g b c h)) (k0_pay67 (L.gn h))

theorem inb_out (b : Fin 2) (c h : Fin 4) : ∀ a, (![b.val, 128 * c.val, 128 * h.val] : Fin 3 → ℕ) a + S1x128x128.size a ≤ S2x512x512.size a := by
  revert b c h; decide
theorem inb_st (j : Fin 8) : ∀ a, (![j.val, 0, 0] : Fin 3 → ℕ) a + S1x64x128.size a ≤ S8x64x128.size a := by
  revert j; decide
theorem inb_qk (b : Fin 2) (c : Fin 4) (h : Fin 8) : ∀ a, (![b.val, 128 * c.val, 64 * h.val] : Fin 3 → ℕ) a + S1x128x64.size a ≤ S2x512x1536.size a := by
  revert b c h; decide
theorem inb_vg (b : Fin 2) (c : Fin 4) (h : Fin 12) : ∀ a, (![b.val, 128 * c.val, 128 * h.val] : Fin 3 → ℕ) a + S1x128x128.size a ≤ S2x512x1536.size a := by
  revert b c h; decide
theorem inb_tab (h : Fin 4) : ∀ a, (![h.val, 0, 0] : Fin 3 → ℕ) a + S1x128x128.size a ≤ S4x128x128.size a := by
  revert h; decide
theorem inb_cd (h : Fin 4) : ∀ a, (![h.val, 0, 0] : Fin 3 → ℕ) a + S1x1x128.size a ≤ S4x1x128.size a := by
  revert h; decide
theorem inb_gn (h : Fin 4) : ∀ a, (![0, 128 * h.val] : Fin 2 → ℕ) a + S1x128.size a ≤ S1x512.size a := by
  revert h; decide

/-- The batch, chunk and head of the `n`-th store from the last. -/
def bOf (n : Fin 32) : Fin 2 := ⟨1 - n.val % 2, by omega⟩
def cOf (n : Fin 32) : Fin 4 := ⟨3 - n.val / 8, by omega⟩
def hOf (n : Fin 32) : Fin 4 := ⟨3 - n.val % 8 / 2, by omega⟩

/-- The point's stores to the output block, last first. -/
def outPieces (L : Loads F) : List (View.Piece (Elt F) S2x512x512 .bf16) :=
  List.ofFn fun n : Fin 32 => ⟨Rect.unit (s := S2x512x512) ![(bOf n).val, 128 * (cOf n).val, 128 * (hOf n).val] S1x128x128.size (inb_out _ _ _), outAt L (bOf n) (cOf n) (hOf n)⟩

/-- The point's final stores to the state, last first. -/
def stPieces (L : Loads F) : List (View.Piece (Elt F) S8x64x128 .f32) :=
  List.ofFn fun n : Fin 8 => ⟨Rect.unit (s := S8x64x128) ![(⟨7 - n.val, by omega⟩ : Fin 8).val, 0, 0] S1x64x128.size (inb_st ⟨7 - n.val, by omega⟩),
    k0_pay1 (stateAt L ⟨(7 - n.val) / 4, by omega⟩ ⟨(7 - n.val) % 4, by omega⟩ 4 (Nat.le_refl 4))⟩

section
variable (arg1 : Memref sig .tc .vmem S2x512x1024 .bf16) (harg1 : arg1.IsWhole) (arg2 : Memref sig .tc .vmem S1024x1536 .bf16) (harg2 : arg2.IsWhole)
  (arg3 : Memref sig .tc .vmem S4x128x128 .f32) (harg3 : arg3.IsWhole) (arg4 : Memref sig .tc .vmem S4x128x128 .f32) (harg4 : arg4.IsWhole)
  (arg5 : Memref sig .tc .vmem S4x128x128 .f32) (harg5 : arg5.IsWhole) (arg6 : Memref sig .tc .vmem S4x1x128 .f32) (harg6 : arg6.IsWhole)
  (arg7 : Memref sig .tc .vmem S1x512 .f32) (harg7 : arg7.IsWhole) (arg8 : Memref sig .tc .vmem S2x512x512 .bf16) (harg8 : arg8.IsWhole)
  (arg9 : Memref sig .tc .vmem S8x64x128 .f32) (harg9 : arg9.IsWhole) (arg10 : Memref sig .tc .vmem S2x512x1536 .bf16) (harg10 : arg10.IsWhole)
  (x0 : Vec F S2x512x1024 .bf16) (x1 : Vec F S1024x1536 .bf16) (x2 : Vec F S4x128x128 .f32) (x3 : Vec F S4x128x128 .f32)
  (x4 : Vec F S4x128x128 .f32) (x5 : Vec F S4x1x128 .f32) (x6 : Vec F S1x512 .f32) (xs0 : Vec F S8x64x128 .f32)

/-- The two stores of the projected rows, last first. -/
def blkPieces : List (View.Piece (Elt F) S2x512x1536 .bf16) :=
  [⟨Rect.unit (s := S2x512x1536) ![1, 0, 0] S1x512x1536.size inb_S2x512x1536_S1x512x1536_1_0_0,
      k0_pay7 (View.readAt (Elt F) arg1.view (Rect.unit (s := S2x512x1024) ![1, 0, 0] S1x512x1024.size inb_S2x512x1024_S1x512x1024_1_0_0).toLoadRect (harg1.unread x0))
        (View.readAt (Elt F) arg2.view (Rect.unit (s := S1024x1536) ![0, 0] S1024x1536.size inb_S1024x1536_S1024x1536_0_0).toLoadRect (harg2.unread x1))⟩,
    ⟨Rect.unit (s := S2x512x1536) ![0, 0, 0] S1x512x1536.size inb_S2x512x1536_S1x512x1536_0_0_0,
      k0_pay6 (View.readAt (Elt F) arg1.view (Rect.unit (s := S2x512x1024) ![0, 0, 0] S1x512x1024.size inb_S2x512x1024_S1x512x1024_0_0_0).toLoadRect (harg1.unread x0))
        (View.readAt (Elt F) arg2.view (Rect.unit (s := S1024x1536) ![0, 0] S1024x1536.size inb_S1024x1536_S1024x1536_0_0).toLoadRect (harg2.unread x1))⟩]

/-- The loads of a point, from a start state `s0`. -/
def loads (s0 : Fin 2 → Fin 4 → FVec F S64x128 .f32) : Loads F where
  q b c h := arg10.view.readCov (blkPieces (F := F) arg1 harg1 arg2 harg2 x0 x1) (Rect.unit (s := S2x512x1536) ![b.val, 128 * c.val, 64 * (⟨h.val, by omega⟩ : Fin 8).val] S1x128x64.size (inb_qk b c ⟨h.val, by omega⟩)).toLoadRect
  k b c h := arg10.view.readCov (blkPieces (F := F) arg1 harg1 arg2 harg2 x0 x1) (Rect.unit (s := S2x512x1536) ![b.val, 128 * c.val, 64 * (⟨4 + h.val, by omega⟩ : Fin 8).val] S1x128x64.size (inb_qk b c ⟨4 + h.val, by omega⟩)).toLoadRect
  v b c h := arg10.view.readCov (blkPieces (F := F) arg1 harg1 arg2 harg2 x0 x1) (Rect.unit (s := S2x512x1536) ![b.val, 128 * c.val, 128 * (⟨4 + h.val, by omega⟩ : Fin 12).val] S1x128x128.size (inb_vg b c ⟨4 + h.val, by omega⟩)).toLoadRect
  g b c h := arg10.view.readCov (blkPieces (F := F) arg1 harg1 arg2 harg2 x0 x1) (Rect.unit (s := S2x512x1536) ![b.val, 128 * c.val, 128 * (⟨8 + h.val, by omega⟩ : Fin 12).val] S1x128x128.size (inb_vg b c ⟨8 + h.val, by omega⟩)).toLoadRect
  dm h := View.readAt (Elt F) arg3.view (Rect.unit (s := S4x128x128) ![h.val, 0, 0] S1x128x128.size (inb_tab h)).toLoadRect (harg3.unread x2)
  qd h := View.readAt (Elt F) arg4.view (Rect.unit (s := S4x128x128) ![h.val, 0, 0] S1x128x128.size (inb_tab h)).toLoadRect (harg4.unread x3)
  kd h := View.readAt (Elt F) arg5.view (Rect.unit (s := S4x128x128) ![h.val, 0, 0] S1x128x128.size (inb_tab h)).toLoadRect (harg5.unread x4)
  cd h := View.readAt (Elt F) arg6.view (Rect.unit (s := S4x1x128) ![h.val, 0, 0] S1x1x128.size (inb_cd h)).toLoadRect (harg6.unread x5)
  gn h := View.readAt (Elt F) arg7.view (Rect.unit (s := S1x512) ![0, 128 * h.val] S1x128.size (inb_gn h)).toLoadRect (harg7.unread x6)
  s0 := s0

/-- The start state of a point that carries one on: the state scratch as the point before left it. -/
def s0B (b : Fin 2) (h : Fin 4) : FVec F S64x128 .f32 :=
  k0_pay8 (View.readAt (Elt F) arg9.view (Rect.unit (s := S8x64x128) ![(⟨4 * b.val + h.val, by omega⟩ : Fin 8).val, 0, 0] S1x64x128.size (inb_st ⟨4 * b.val + h.val, by omega⟩)).toLoadRect (harg9.unread xs0))

/-- The start state of the first point: the zeros it has just stored. -/
def s0A (b : Fin 2) (h : Fin 4) : FVec F S64x128 .f32 :=
  k0_pay8 (arg9.view.readCov [(⟨Rect.unit (s := S8x64x128) ![0, 0, 0] S8x64x128.size inb_S8x64x128_S8x64x128_0_0_0, k0_pay5⟩ : View.Piece (Elt F) S8x64x128 .f32)]
    (Rect.unit (s := S8x64x128) ![(⟨4 * b.val + h.val, by omega⟩ : Fin 8).val, 0, 0] S1x64x128.size (inb_st ⟨4 * b.val + h.val, by omega⟩)).toLoadRect)

/-- A later point's output stores are the chunk-by-chunk ones. -/
theorem pieces_B (c : Dev nD) (i : grid0.Coords) (hc0 : ¬cond0_0 i) :
    (kernelRun0_B c i arg1 harg1 arg2 harg2 arg3 harg3 arg4 harg4 arg5 harg5 arg6 harg6 arg7 harg7 arg8 harg8 arg9 harg9 arg10 harg10 hc0 x0 x1 x2 x3 x4 x5 x6 xs0).1
      = outPieces (loads arg1 harg1 arg2 harg2 arg3 harg3 arg4 harg4 arg5 harg5 arg6 harg6 arg7 harg7 arg10 x0 x1 x2 x3 x4 x5 x6 (s0B arg9 harg9 xs0)) := by
  sl_kernel_rfl

/-- A later point's state stores. -/
theorem spieces_B (c : Dev nD) (i : grid0.Coords) (hc0 : ¬cond0_0 i) :
    (kernelRun0_B c i arg1 harg1 arg2 harg2 arg3 harg3 arg4 harg4 arg5 harg5 arg6 harg6 arg7 harg7 arg8 harg8 arg9 harg9 arg10 harg10 hc0 x0 x1 x2 x3 x4 x5 x6 xs0).2.1
      = stPieces (loads arg1 harg1 arg2 harg2 arg3 harg3 arg4 harg4 arg5 harg5 arg6 harg6 arg7 harg7 arg10 x0 x1 x2 x3 x4 x5 x6 (s0B arg9 harg9 xs0)) := by
  sl_kernel_rfl

/-- The first point's output stores are the chunk-by-chunk ones. -/
theorem pieces_A (c : Dev nD) (i : grid0.Coords) (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5 x6).1
      = outPieces (loads arg1 harg1 arg2 harg2 arg3 harg3 arg4 harg4 arg5 harg5 arg6 harg6 arg7 harg7 arg10 x0 x1 x2 x3 x4 x5 x6 (s0A arg9)) := by
  sl_kernel_rfl

/-- The first point's state stores: the final ones over the zeros. -/
theorem spieces_A (c : Dev nD) (i : grid0.Coords) (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5 x6).2.1
      = stPieces (loads arg1 harg1 arg2 harg2 arg3 harg3 arg4 harg4 arg5 harg5 arg6 harg6 arg7 harg7 arg10 x0 x1 x2 x3 x4 x5 x6 (s0A arg9))
        ++ [(⟨Rect.unit (s := S8x64x128) ![0, 0, 0] S8x64x128.size inb_S8x64x128_S8x64x128_0_0_0, k0_pay5⟩ : View.Piece (Elt F) S8x64x128 .f32)] := by
  sl_kernel_rfl

end

end Cert.KernelIdeal.Chain

end

end
-- ==== Proof.Math.lean ====
module

public import Idealize.ShloMosaic.Lib.Pointwise

@[expose] public section

noncomputable section

namespace Cert.Retention

open Idealize.ShloMosaic

/-- The mean of one head's 128 channels. -/
def mean (f : Fin 128 → EReal) : EReal := Ideal.div (∑ e, f e) (Ideal.ofBits .f32 0x43000000#32)

/-- One head's channels with mean zero and variance one. -/
def normed (o : Fin 128 → EReal) (e : Fin 128) : EReal :=
  (o e - mean o) * Ideal.rsqrt (mean (fun e' => (o e' - mean o) * (o e' - mean o)) + Ideal.ofBits .f32 0x3727C5AC#32)

/-- The normalised head times its gain times the gate's silu. -/
def gated (o gn g : Fin 128 → EReal) (e : Fin 128) : EReal := normed o e * gn e * (g e * Ideal.logistic (g e))

/-- One chunk's step of the state: decay, then the keys' products with the decayed values. -/
def stepState (cd : Fin 128 → EReal) (kd : Fin 128 → Fin 128 → EReal) (k : Fin 128 → Fin 64 → EReal) (v : Fin 128 → Fin 128 → EReal)
    (S : Fin 64 → Fin 128 → EReal) (d : Fin 64) (e : Fin 128) : EReal :=
  cd e * S d e + ∑ j, k j d * (v j e * kd j e)

/-- One chunk's output: the decayed scores against the chunk's values, and the queries against the state before it. -/
def chunkOut (dm qd : Fin 128 → Fin 128 → EReal) (q k : Fin 128 → Fin 64 → EReal) (v : Fin 128 → Fin 128 → EReal)
    (S : Fin 64 → Fin 128 → EReal) (r e : Fin 128) : EReal :=
  (∑ j, (∑ d, q r d * k j d) * dm r j * v j e) + (∑ d, q r d * S d e) * qd r e

/-- The state before chunk `n` of a sequence of chunks, from zero. -/
def stateSeq (cd : Fin 128 → EReal) (kd : Fin 128 → Fin 128 → EReal) (k : ℕ → Fin 128 → Fin 64 → EReal)
    (v : ℕ → Fin 128 → Fin 128 → EReal) : ℕ → Fin 64 → Fin 128 → EReal
  | 0 => fun _ _ => 0
  | n + 1 => stepState cd kd (k n) (v n) (stateSeq cd kd k v n)

/-- The retention mixer's data per batch, head and chunk: the projected queries, keys, values and gates, and the tables. -/
structure Data where
  q : Fin 2 → Fin 4 → ℕ → Fin 128 → Fin 64 → EReal
  k : Fin 2 → Fin 4 → ℕ → Fin 128 → Fin 64 → EReal
  v : Fin 2 → Fin 4 → ℕ → Fin 128 → Fin 128 → EReal
  g : Fin 2 → Fin 4 → ℕ → Fin 128 → Fin 128 → EReal
  dm : Fin 4 → Fin 128 → Fin 128 → EReal
  qd : Fin 4 → Fin 128 → Fin 128 → EReal
  kd : Fin 4 → Fin 128 → Fin 128 → EReal
  cd : Fin 4 → Fin 128 → EReal
  gn : Fin 4 → Fin 128 → EReal

/-- The state of batch `b` and head `h` before chunk `n`. -/
def Data.state (D : Data) (b : Fin 2) (h : Fin 4) (n : ℕ) : Fin 64 → Fin 128 → EReal :=
  stateSeq (D.cd h) (D.kd h) (D.k b h) (D.v b h) n

/-- The mixer's output for batch `b`, head `h`, chunk `n` at row `r` and channel `e`. -/
def Data.out (D : Data) (b : Fin 2) (h : Fin 4) (n : ℕ) (r e : Fin 128) : EReal :=
  gated (chunkOut (D.dm h) (D.qd h) (D.q b h n) (D.k b h n) (D.v b h n) (D.state b h n) r) (D.gn h) (D.g b h n r) e

/-- Row `r` of chunk `n`. -/
def row (n : ℕ) (r : Fin 128) : Fin 16384 := ⟨(128 * n + r.val) % 16384, Nat.mod_lt _ (by decide)⟩

/-- One entry of the input projection. -/
def proj (X : Fin 2 → Fin 16384 → Fin 1024 → EReal) (W : Fin 1024 → Fin 8712 → EReal) (b : Fin 2) (r : Fin 16384) (col : Fin 8712) : EReal :=
  ∑ k, X b r k * W k col

/-- A number as the programs' conversion from an integer gives it. -/
def num (n : ℕ) : EReal := FloatOps.sitofp (F := Ideal) .f32 (BitVec.ofNat 32 n)

/-- The scale of the scores, one eighth. -/
def scl : EReal := Ideal.ofBits .f32 1040187392#32

/-- The logarithm of head `h`'s decay. -/
def lam (h : Fin 4) : EReal :=
  Ideal.log1p (-Ideal.exp (Ideal.ofBits .f32 1060205080#32 * (Ideal.ofBits .f32 3231711232#32 - num h.val)))

/-- The decay between row `r` and an earlier row `j` of one chunk; zero for a later one. -/
def decay (h : Fin 4) (r j : Fin 128) : EReal :=
  if 0 ≤ num r.val - num j.val then Ideal.exp (lam h * max (num r.val - num j.val) 0) else 0

/-- The decay from row `j` to the chunk's end. -/
def kdec (h : Fin 4) (j : Fin 128) : EReal := Ideal.exp (lam h * (Ideal.ofBits .f32 1123942400#32 - num j.val))

/-- The decay from before the chunk to row `r`. -/
def qdec (h : Fin 4) (r : Fin 128) : EReal := Ideal.exp (lam h * (num r.val + 1))

/-- The decay over a whole chunk. -/
def cdec (h : Fin 4) : EReal := Ideal.exp (lam h * Ideal.ofBits .f32 1124073472#32)

/-- The mixer's data from the input, the weight and the gain, the scale carried by the decays. -/
def dataOf (X : Fin 2 → Fin 16384 → Fin 1024 → EReal) (W : Fin 1024 → Fin 8712 → EReal) (gn : Fin 512 → EReal) : Data where
  q b h n r d := proj X W b (row n r) ⟨64 * h.val + d.val, by omega⟩
  k b h n r d := proj X W b (row n r) ⟨64 * (4 + h.val) + d.val, by omega⟩
  v b h n r e := proj X W b (row n r) ⟨128 * (4 + h.val) + e.val, by omega⟩
  g b h n r e := proj X W b (row n r) ⟨128 * (8 + h.val) + e.val, by omega⟩
  dm h r j := decay h r j * scl
  qd h r _ := qdec h r * scl
  kd h j _ := kdec h j
  cd h _ := cdec h
  gn h e := gn ⟨128 * h.val + e.val, by omega⟩

end Cert.Retention

end

end
-- ==== Proof.Block.lean ====
module

public import proofs.«01_k».proof.Proof.Chain
public import proofs.«01_k».proof.Proof.Math
public import Idealize.ShloMosaic.Lib.Pipeline.ValueKit.Tiles

@[expose] public section

set_option maxRecDepth 16384

noncomputable section

namespace Cert.KernelIdeal.Chain

open Idealize.ShloMosaic Idealize.ShloMosaic.TcCoe Cert.KernelIdeal.Gen Cert.Retention

/-- A point's state before chunk `c + 1` is one step from the state before chunk `c`. -/
theorem stateAt_succ (L : Loads Ideal) (b : Fin 2) (h : Fin 4) (c : ℕ) (hc : c + 1 ≤ 4) (d : Fin 64) (e : Fin 128) :
    stateAt L b h (c + 1) hc (ix2 d e)
      = stepState (fun e => L.cd h (ix3 0 0 e)) (fun j e => L.kd h (ix3 0 j e)) (fun j d => L.k b ⟨c, hc⟩ h (ix3 0 j d))
          (fun j e => L.v b ⟨c, hc⟩ h (ix3 0 j e)) (fun d e => stateAt L b h c (Nat.le_of_succ_le hc) (ix2 d e)) d e := by
  rw [stateAt]
  generalize stateAt L b h c (Nat.le_of_succ_le hc) = S
  pointwise [k0_pay65, k0_pay21, k0_pay18, k0_pay17, stepState]

/-- The output tile of batch `b`, chunk `c`, head `h` at row `r` and channel `e`. -/
theorem outAt_apply (L : Loads Ideal) (b : Fin 2) (c h : Fin 4) (r e : Fin 128) :
    outAt L b c h (ix3 0 r e)
      = gated (chunkOut (fun r j => L.dm h (ix3 0 r j)) (fun r e => L.qd h (ix3 0 r e)) (fun r d => L.q b c h (ix3 0 r d))
          (fun j d => L.k b c h (ix3 0 j d)) (fun j e => L.v b c h (ix3 0 j e))
          (fun d e => stateAt L b h c.val c.isLt.le (ix2 d e)) r) (fun e => L.gn h (ix2 0 e)) (fun e => L.g b c h (ix3 0 r e)) e := by
  unfold outAt
  generalize stateAt L b h c.val c.isLt.le = S
  have ho : ∀ r e, k0_pay64 (k0_pay18 (L.v b c h)) (k0_pay19 (L.q b c h) (L.k b c h)) (k0_pay20 S (L.q b c h)) (L.dm h) (L.qd h) (ix2 r e)
      = chunkOut (fun r j => L.dm h (ix3 0 r j)) (fun r e => L.qd h (ix3 0 r e)) (fun r d => L.q b c h (ix3 0 r d))
          (fun j d => L.k b c h (ix3 0 j d)) (fun j e => L.v b c h (ix3 0 j e)) (fun d e => S (ix2 d e)) r e := by
    intro r e
    pointwise [k0_pay64, k0_pay20, k0_pay19, k0_pay18, k0_pay17, k0_pay16, chunkOut]
  generalize k0_pay64 (k0_pay18 (L.v b c h)) (k0_pay19 (L.q b c h) (L.k b c h)) (k0_pay20 S (L.q b c h)) (L.dm h) (L.qd h) = O at ho
  pointwise [k0_pay68, k0_pay66, k0_pay67]
  simp only [ho, gated, normed, mean, Ideal.logistic, zero_sub]

/-- What the body loads at the point whose first chunk is `4 t` is the mixer's data of its four chunks, and the state
    before them. -/
structure Agrees (L : Loads Ideal) (D : Data) (t : ℕ) : Prop where
  q : ∀ b c h r d, L.q b c h (ix3 0 r d) = D.q b h (4 * t + c.val) r d
  k : ∀ b c h r d, L.k b c h (ix3 0 r d) = D.k b h (4 * t + c.val) r d
  v : ∀ b c h r e, L.v b c h (ix3 0 r e) = D.v b h (4 * t + c.val) r e
  g : ∀ b c h r e, L.g b c h (ix3 0 r e) = D.g b h (4 * t + c.val) r e
  dm : ∀ h r e, L.dm h (ix3 0 r e) = D.dm h r e
  qd : ∀ h r e, L.qd h (ix3 0 r e) = D.qd h r e
  kd : ∀ h r e, L.kd h (ix3 0 r e) = D.kd h r e
  cd : ∀ h e, L.cd h (ix3 0 0 e) = D.cd h e
  gn : ∀ h e, L.gn h (ix2 0 e) = D.gn h e
  s0 : ∀ b h d e, L.s0 b h (ix2 d e) = D.state b h (4 * t) d e

variable {L : Loads Ideal} {D : Data} {t : ℕ}

/-- The point's states are the mixer's. -/
theorem stateAt_eq (H : Agrees L D t) (b : Fin 2) (h : Fin 4) : ∀ (c : ℕ) (hc : c ≤ 4) (d : Fin 64) (e : Fin 128),
    stateAt L b h c hc (ix2 d e) = D.state b h (4 * t + c) d e
  | 0, _, d, e => H.s0 b h d e
  | c + 1, hc, d, e => by
    rw [stateAt_succ]
    simp only [H.k, H.v, H.kd, H.cd, stateAt_eq H b h c]
    rfl

/-- The point's output tiles are the mixer's. -/
theorem outAt_eq (H : Agrees L D t) (b : Fin 2) (c h : Fin 4) (r e : Fin 128) :
    outAt L b c h (ix3 0 r e) = D.out b h (4 * t + c.val) r e := by
  rw [outAt_apply]
  simp only [H.q, H.k, H.v, H.g, H.dm, H.qd, H.gn, stateAt_eq H b h]
  rfl

/-- The output block of point `t`, by the mixer's data. -/
def outBlk (D : Data) (t : ℕ) (y : S2x512x512.Idx) : EReal :=
  D.out (y 0) ⟨(y 2).val / 128, by have : (y 2).val < 512 := (y 2).isLt; omega⟩ (4 * t + (y 1).val / 128)
    ⟨(y 1).val % 128, by omega⟩ ⟨(y 2).val % 128, by omega⟩

/-- The state scratch after point `t`, by the mixer's data: state `4 b + h` is batch `b`'s head `h`'s. -/
def stBlk (D : Data) (t : ℕ) (y : S8x64x128.Idx) : EReal :=
  D.state ⟨(y 0).val / 4, by have : (y 0).val < 8 := (y 0).isLt; omega⟩ ⟨(y 0).val % 4, by omega⟩ (4 * t + 4) (y 1) (y 2)

/-- The output block at batch `b`, row `128 c + r`, channel `128 h + e`. -/
theorem outBlk_at (D : Data) (t : ℕ) (y : S2x512x512.Idx) (b : Fin 2) (c : ℕ) (h : Fin 4) (r e : Fin 128)
    (h0 : (y 0).val = b.val) (h1 : (y 1).val = 128 * c + r.val) (h2 : (y 2).val = 128 * h.val + e.val) :
    outBlk D t y = D.out b h (4 * t + c) r e := by
  unfold outBlk
  congr 1
  · exact Fin.ext h0
  · apply Fin.ext; show (y 2).val / 128 = _; omega
  · omega
  · apply Fin.ext; show (y 1).val % 128 = _; omega
  · apply Fin.ext; show (y 2).val % 128 = _; omega

/-- The state scratch at batch `b`, head `h`. -/
theorem stBlk_at (D : Data) (t : ℕ) (y : S8x64x128.Idx) (b : Fin 2) (h : Fin 4) (d : Fin 64) (e : Fin 128)
    (h0 : (y 0).val = 4 * b.val + h.val) (h1 : (y 1).val = d.val) (h2 : (y 2).val = e.val) :
    stBlk D t y = D.state b h (4 * t + 4) d e := by
  unfold stBlk
  congr 1
  · apply Fin.ext; show (y 0).val / 4 = _; omega
  · apply Fin.ext; show (y 0).val % 4 = _; omega
  · exact Fin.ext h1
  · exact Fin.ext h2

/-- The point's output stores leave the mixer's values wherever they cover. -/
theorem canon_outPieces (H : Agrees L D t) (y : S2x512x512.Idx) (hy : ∃ p ∈ outPieces L, y ∈ p.1.set) :
    View.canon (outPieces L) y = outBlk D t y := by
  refine View.canon_apply_of_pieces (Val := Elt Ideal) (e := .bf16) (outBlk D t) (outPieces L) ?_ y hy
  intro p hp x
  obtain ⟨n, rfl⟩ := (List.mem_ofFn' _ _).1 hp
  change S1x128x128.Idx at x
  idx_vars x
  obtain rfl : x0 = 0 := Subsingleton.elim _ _
  refine (outAt_eq H _ _ _ _ _).trans (outBlk_at D t _ _ _ _ _ _ ?_ ?_ ?_).symm
  · exact (Rect.idx_unit_val _ _ _ _ 0).trans (Nat.add_zero _)
  · exact Rect.idx_unit_val _ _ _ _ 1
  · exact Rect.idx_unit_val _ _ _ _ 2

/-- The point's final state stores cover the state scratch. -/
theorem stPieces_cover (L : Loads Ideal) (y : S8x64x128.Idx) : ∃ p ∈ stPieces L, y ∈ p.1.set := by
  have h0 : (y 0).val < 8 := (y 0).isLt
  refine ⟨_, (List.mem_ofFn' _ _).2 ⟨⟨7 - (y 0).val, by omega⟩, rfl⟩, ?_⟩
  rw [Rect.mem_set_unit]
  have h1 : (y 1).val < 64 := (y 1).isLt
  have h2 : (y 2).val < 128 := (y 2).isLt
  intro a
  match a with
  | ⟨0, _⟩ => show 7 - (7 - (y 0).val) ≤ (y 0).val ∧ (y 0).val < 7 - (7 - (y 0).val) + 1; omega
  | ⟨1, _⟩ => show 0 ≤ (y 1).val ∧ (y 1).val < 0 + 64; omega
  | ⟨2, _⟩ => show 0 ≤ (y 2).val ∧ (y 2).val < 0 + 128; omega

/-- The point's final state stores leave the mixer's states. -/
theorem canon_stPieces (H : Agrees L D t) (y : S8x64x128.Idx) : View.canon (stPieces L) y = stBlk D t y := by
  refine View.canon_apply_of_pieces (Val := Elt Ideal) (e := .f32) (stBlk D t) (stPieces L) ?_ y (stPieces_cover L y)
  intro p hp x
  obtain ⟨n, rfl⟩ := (List.mem_ofFn' _ _).1 hp
  change S1x64x128.Idx at x
  idx_vars x
  obtain rfl : x0 = 0 := Subsingleton.elim _ _
  have hpay : ∀ (S : FVec Ideal S64x128 .f32), k0_pay1 S (ix3 0 x1 x2) = S (ix2 x1 x2) := fun S => by pointwise [k0_pay1]
  refine (hpay _).trans ((stateAt_eq H _ _ 4 (Nat.le_refl 4) x1 x2).trans (stBlk_at D t _ _ _ _ _ ?_ ?_ ?_).symm)
  · refine (Rect.idx_unit_val _ _ _ _ 0).trans ?_
    show 7 - n.val + 0 = 4 * ((7 - n.val) / 4) + (7 - n.val) % 4
    omega
  · exact (Rect.idx_unit_val _ _ _ _ 1).trans (Nat.zero_add _)
  · exact (Rect.idx_unit_val _ _ _ _ 2).trans (Nat.zero_add _)

/-- What the pieces found leave does not depend on later-listed pieces where earlier ones cover. -/
theorem canon_append {S : Shape} {e : EltTy} (P Q : List (View.Piece (Elt Ideal) S e)) (y : S.Idx) (hy : ∃ p ∈ P, y ∈ p.1.set) :
    View.canon (P ++ Q) y = View.canon P y := by
  induction P with
  | nil => obtain ⟨p, hp, _⟩ := hy; simp at hp
  | cons p P ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨q, hq, hy⟩ := hy
      rcases List.mem_cons.1 hq with rfl | hq
      · exact absurd hy hm
      · exact ih ⟨q, hq, hy⟩

/-- One projected entry of a point's rows: the input row times the weight column. -/
def proj (x0 : Vec Ideal S2x512x1024 .bf16) (x1 : Vec Ideal S1024x1536 .bf16) (y : S2x512x1536.Idx) : EReal :=
  ∑ k : Fin 1024, x0 (ix3 (y 0) (y 1) k) * x1 (ix2 k (y 2))

/-- The projection at batch `b`, row `r`, column `col`. -/
theorem proj_at (x0 : Vec Ideal S2x512x1024 .bf16) (x1 : Vec Ideal S1024x1536 .bf16) (y : S2x512x1536.Idx) (b : Fin 2) (r : Fin 512)
    (col : Fin 1536) (h0 : (y 0).val = b.val) (h1 : (y 1).val = r.val) (h2 : (y 2).val = col.val) :
    proj x0 x1 y = ∑ k : Fin 1024, x0 (ix3 b r k) * x1 (ix2 k col) := by
  obtain rfl : y = ix3 b r col := by
    funext a
    match a with
    | ⟨0, _⟩ => exact Fin.ext h0
    | ⟨1, _⟩ => exact Fin.ext h1
    | ⟨2, _⟩ => exact Fin.ext h2
  rfl

section
variable (arg1 : Memref sig .tc .vmem S2x512x1024 .bf16) (harg1 : arg1.IsWhole) (arg2 : Memref sig .tc .vmem S1024x1536 .bf16) (harg2 : arg2.IsWhole)
  (X : Vec Ideal S2x512x1024 .bf16) (W : Vec Ideal S1024x1536 .bf16)

/-- The projected rows' two stores leave the projection. -/
theorem canon_blkPieces (y : S2x512x1536.Idx) : View.canon (blkPieces (F := Ideal) arg1 harg1 arg2 harg2 X W) y = proj X W y := by
  refine View.canon_apply_of_pieces (Val := Elt Ideal) (e := .bf16) (proj X W) _ ?_ y ?_
  · intro p hp x
    unfold blkPieces at hp
    rw [View.readAt_eq_ld, View.readAt_eq_ld, View.readAt_eq_ld, harg1.read_unread, harg2.read_unread] at hp
    rcases List.mem_cons.1 hp with rfl | hp
    · change S1x512x1536.Idx at x
      idx_vars x
      refine Eq.trans ?_ (proj_at X W _ 1 x1 x2 ?_ ?_ ?_).symm
      · pointwise [k0_pay7]
      · refine (Rect.idx_unit_val _ _ _ _ 0).trans ?_
        show 1 + x0.val = 1; omega
      · exact (Rect.idx_unit_val _ _ _ _ 1).trans (Nat.zero_add _)
      · exact (Rect.idx_unit_val _ _ _ _ 2).trans (Nat.zero_add _)
    · obtain rfl := List.mem_singleton.1 hp
      change S1x512x1536.Idx at x
      idx_vars x
      refine Eq.trans ?_ (proj_at X W _ 0 x1 x2 ?_ ?_ ?_).symm
      · pointwise [k0_pay6]
      · refine (Rect.idx_unit_val _ _ _ _ 0).trans ?_
        show 0 + x0.val = 0; omega
      · exact (Rect.idx_unit_val _ _ _ _ 1).trans (Nat.zero_add _)
      · exact (Rect.idx_unit_val _ _ _ _ 2).trans (Nat.zero_add _)
  · have h0 : (y 0).val < 2 := (y 0).isLt
    have h1 : (y 1).val < 512 := (y 1).isLt
    have h2 : (y 2).val < 1536 := (y 2).isLt
    by_cases hb : (y 0).val = 1
    · refine ⟨_, List.mem_cons_self, ?_⟩
      rw [Rect.mem_set_unit]
      intro a
      match a with
      | ⟨0, _⟩ => show 1 ≤ (y 0).val ∧ (y 0).val < 1 + 1; omega
      | ⟨1, _⟩ => show 0 ≤ (y 1).val ∧ (y 1).val < 0 + 512; omega
      | ⟨2, _⟩ => show 0 ≤ (y 2).val ∧ (y 2).val < 0 + 1536; omega
    · refine ⟨_, List.mem_cons_of_mem _ List.mem_cons_self, ?_⟩
      rw [Rect.mem_set_unit]
      intro a
      match a with
      | ⟨0, _⟩ => show 0 ≤ (y 0).val ∧ (y 0).val < 0 + 1; omega
      | ⟨1, _⟩ => show 0 ≤ (y 1).val ∧ (y 1).val < 0 + 512; omega
      | ⟨2, _⟩ => show 0 ≤ (y 2).val ∧ (y 2).val < 0 + 1536; omega

/-- A load of the projected rows at an index. -/
theorem readCov_blkPieces (arg10 : Memref sig .tc .vmem S2x512x1536 .bf16) (off size : Fin 3 → ℕ) (inb) (x) (b : Fin 2) (r : Fin 512)
    (col : Fin 1536) (h0 : off 0 + (x 0).val = b.val) (h1 : off 1 + (x 1).val = r.val) (h2 : off 2 + (x 2).val = col.val) :
    arg10.view.readCov (blkPieces (F := Ideal) arg1 harg1 arg2 harg2 X W) (Rect.unit (s := S2x512x1536) off size inb).toLoadRect x
      = ∑ k : Fin 1024, X (ix3 b r k) * W (ix2 k col) := by
  rw [View.readCov_eq_canon']
  refine (canon_blkPieces arg1 harg1 arg2 harg2 X W _).trans (proj_at X W _ b r col ?_ ?_ ?_)
  · exact (Rect.idx_unit_val _ _ _ _ 0).trans h0
  · exact (Rect.idx_unit_val _ _ _ _ 1).trans h1
  · exact (Rect.idx_unit_val _ _ _ _ 2).trans h2

end

end Cert.KernelIdeal.Chain

end

end
-- ==== Proof.Points.lean ====
module

public import proofs.«01_k».proof.Proof.Block
public import Idealize.ShloMosaic.Lib.Pipeline.ValueKit.Point
public import Idealize.ShloMosaic.Lib.StableHlo.ReadAt

@[expose] public section

set_option maxRecDepth 16384

noncomputable section

namespace Cert.KernelIdeal.Chain

open Idealize.ShloMosaic Idealize.ShloMosaic.TcCoe Cert.KernelIdeal.Gen Cert.Retention

section
variable (arg1 : Memref sig .tc .vmem S2x512x1024 .bf16) (harg1 : arg1.IsWhole) (arg2 : Memref sig .tc .vmem S1024x1536 .bf16) (harg2 : arg2.IsWhole)
  (arg3 : Memref sig .tc .vmem S4x128x128 .f32) (harg3 : arg3.IsWhole) (arg4 : Memref sig .tc .vmem S4x128x128 .f32) (harg4 : arg4.IsWhole)
  (arg5 : Memref sig .tc .vmem S4x128x128 .f32) (harg5 : arg5.IsWhole) (arg6 : Memref sig .tc .vmem S4x1x128 .f32) (harg6 : arg6.IsWhole)
  (arg7 : Memref sig .tc .vmem S1x512 .f32) (harg7 : arg7.IsWhole) (arg8 : Memref sig .tc .vmem S2x512x512 .bf16) (harg8 : arg8.IsWhole)
  (arg9 : Memref sig .tc .vmem S8x64x128 .f32) (harg9 : arg9.IsWhole) (arg10 : Memref sig .tc .vmem S2x512x1536 .bf16) (harg10 : arg10.IsWhole)
  (x0 : Vec Ideal S2x512x1024 .bf16) (x1 : Vec Ideal S1024x1536 .bf16) (x2 : Vec Ideal S4x128x128 .f32) (x3 : Vec Ideal S4x128x128 .f32)
  (x4 : Vec Ideal S4x128x128 .f32) (x5 : Vec Ideal S4x1x128 .f32) (x6 : Vec Ideal S1x512 .f32) (xs0 : Vec Ideal S8x64x128 .f32)

/-- A point whose input blocks are the mixer's rows, weights and tables, and whose start state is the mixer's, loads the
    mixer's data. -/
theorem agrees_loads (X : Fin 2 → Fin 16384 → Fin 1024 → EReal) (W : Fin 1024 → Fin 8712 → EReal) (gn : Fin 512 → EReal) (t : ℕ)
    (s0 : Fin 2 → Fin 4 → FVec Ideal S64x128 .f32)
    (hx : ∀ (b : Fin 2) (r : Fin 512) (k : Fin 1024), x0 (ix3 b r k) = X b ⟨(512 * t + r.val) % 16384, Nat.mod_lt _ (by decide)⟩ k)
    (hw : ∀ (k : Fin 1024) (j : Fin 1536), x1 (ix2 k j) = W k ⟨j.val, by omega⟩)
    (hdm : ∀ (h : Fin 4) (r j : Fin 128), x2 (ix3 h r j) = decay h r j * scl)
    (hqd : ∀ (h : Fin 4) (r j : Fin 128), x3 (ix3 h r j) = qdec h r * scl)
    (hkd : ∀ (h : Fin 4) (r j : Fin 128), x4 (ix3 h r j) = kdec h r)
    (hcd : ∀ (h : Fin 4) (j : Fin 128), x5 (ix3 h 0 j) = cdec h)
    (hgn : ∀ (j : Fin 512), x6 (ix2 0 j) = gn j)
    (hs : ∀ b h d e, s0 b h (ix2 d e) = (dataOf X W gn).state b h (4 * t) d e) :
    Agrees (loads arg1 harg1 arg2 harg2 arg3 harg3 arg4 harg4 arg5 harg5 arg6 harg6 arg7 harg7 arg10 x0 x1 x2 x3 x4 x5 x6 s0) (dataOf X W gn) t := by
  have hp : ∀ (b : Fin 2) (c : Fin 4) (r : Fin 128) (col : Fin 1536),
      (∑ k : Fin 1024, x0 (ix3 b ⟨128 * c.val + r.val, by omega⟩ k) * x1 (ix2 k col))
        = Retention.proj X W b (row (4 * t + c.val) r) ⟨col.val, by omega⟩ := by
    intro b c r col
    unfold Retention.proj row
    refine Finset.sum_congr rfl fun k _ => ?_
    rw [hx, hw]
    congr 3
    show (512 * t + (128 * c.val + r.val)) % 16384 = (128 * (4 * t + c.val) + r.val) % 16384
    congr 1; omega
  constructor
  · intro b c h r d
    exact (readCov_blkPieces arg1 harg1 arg2 harg2 x0 x1 arg10 _ _ _ _ b ⟨128 * c.val + r.val, by omega⟩ ⟨64 * h.val + d.val, by omega⟩
      (Nat.add_zero _) rfl rfl).trans (hp _ _ _ _)
  · intro b c h r d
    exact (readCov_blkPieces arg1 harg1 arg2 harg2 x0 x1 arg10 _ _ _ _ b ⟨128 * c.val + r.val, by omega⟩ ⟨64 * (4 + h.val) + d.val, by omega⟩
      (Nat.add_zero _) rfl rfl).trans (hp _ _ _ _)
  · intro b c h r d
    exact (readCov_blkPieces arg1 harg1 arg2 harg2 x0 x1 arg10 _ _ _ _ b ⟨128 * c.val + r.val, by omega⟩ ⟨128 * (4 + h.val) + d.val, by omega⟩
      (Nat.add_zero _) rfl rfl).trans (hp _ _ _ _)
  · intro b c h r d
    exact (readCov_blkPieces arg1 harg1 arg2 harg2 x0 x1 arg10 _ _ _ _ b ⟨128 * c.val + r.val, by omega⟩ ⟨128 * (8 + h.val) + d.val, by omega⟩
      (Nat.add_zero _) rfl rfl).trans (hp _ _ _ _)
  · intro h r e
    show View.readAt (Elt Ideal) arg3.view _ (harg3.unread x2) _ = _
    rw [View.readAt_eq_ld, harg3.read_unread]
    exact (View.ld_unit_apply_of _ _ _ _ _ (ix3 h r e) (fun a => by match a with
      | ⟨0, _⟩ => rfl
      | ⟨1, _⟩ => exact (Nat.zero_add _).symm
      | ⟨2, _⟩ => exact (Nat.zero_add _).symm)).trans (hdm h r e)
  · intro h r e
    show View.readAt (Elt Ideal) arg4.view _ (harg4.unread x3) _ = _
    rw [View.readAt_eq_ld, harg4.read_unread]
    exact (View.ld_unit_apply_of _ _ _ _ _ (ix3 h r e) (fun a => by match a with
      | ⟨0, _⟩ => rfl
      | ⟨1, _⟩ => exact (Nat.zero_add _).symm
      | ⟨2, _⟩ => exact (Nat.zero_add _).symm)).trans (hqd h r e)
  · intro h r e
    show View.readAt (Elt Ideal) arg5.view _ (harg5.unread x4) _ = _
    rw [View.readAt_eq_ld, harg5.read_unread]
    exact (View.ld_unit_apply_of _ _ _ _ _ (ix3 h r e) (fun a => by match a with
      | ⟨0, _⟩ => rfl
      | ⟨1, _⟩ => exact (Nat.zero_add _).symm
      | ⟨2, _⟩ => exact (Nat.zero_add _).symm)).trans (hkd h r e)
  · intro h e
    show View.readAt (Elt Ideal) arg6.view _ (harg6.unread x5) _ = _
    rw [View.readAt_eq_ld, harg6.read_unread]
    exact (View.ld_unit_apply_of _ _ _ _ _ (ix3 h 0 e) (fun a => by match a with
      | ⟨0, _⟩ => rfl
      | ⟨1, _⟩ => rfl
      | ⟨2, _⟩ => exact (Nat.zero_add _).symm)).trans (hcd h e)
  · intro h e
    show View.readAt (Elt Ideal) arg7.view _ (harg7.unread x6) _ = _
    rw [View.readAt_eq_ld, harg7.read_unread]
    exact (View.ld_unit_apply_of _ _ _ _ _ (ix2 0 ⟨128 * h.val + e.val, by omega⟩) (fun a => by match a with
      | ⟨0, _⟩ => rfl
      | ⟨1, _⟩ => rfl)).trans (hgn _)
  · exact hs

/-- The start state of a later point, at an index. -/
theorem s0B_apply (D : Data) (t : ℕ) (hxs : ∀ y, xs0 y = stBlk D t y) (b : Fin 2) (h : Fin 4) (d : Fin 64) (e : Fin 128) :
    s0B arg9 harg9 xs0 b h (ix2 d e) = D.state b h (4 * (t + 1)) d e := by
  unfold s0B
  rw [View.readAt_eq_ld, harg9.read_unread]
  have hpay : ∀ (S : Vec Ideal S1x64x128 .f32), k0_pay8 S (ix2 d e) = S (ix3 0 d e) := fun S => by pointwise [k0_pay8]
  refine (hpay _).trans ?_
  refine (View.ld_unit_apply_of _ _ _ _ _ (ix3 (⟨4 * b.val + h.val, by omega⟩ : Fin 8) d e) (fun a => by match a with
      | ⟨0, _⟩ => rfl
      | ⟨1, _⟩ => exact (Nat.zero_add _).symm
      | ⟨2, _⟩ => exact (Nat.zero_add _).symm)).trans ?_
  rw [hxs]
  exact stBlk_at D t _ b h d e rfl rfl rfl

/-- The start state of the first point is zero. -/
theorem s0A_apply (D : Data) (b : Fin 2) (h : Fin 4) (d : Fin 64) (e : Fin 128) :
    s0A (F := Ideal) arg9 b h (ix2 d e) = D.state b h (4 * 0) d e := by
  unfold s0A
  have hpay : ∀ (S : Vec Ideal S1x64x128 .f32), k0_pay8 S (ix2 d e) = S (ix3 0 d e) := fun S => by pointwise [k0_pay8]
  refine (hpay _).trans ?_
  rw [View.readCov_eq_canon']
  refine (View.canon_apply_of_pieces (Val := Elt Ideal) (e := .f32) (fun _ => (0 : EReal)) _ ?_ _ ?_).trans rfl
  · intro p hp x
    obtain rfl := List.mem_singleton.1 hp
    change S8x64x128.Idx at x
    show (k0_pay5 : FVec Ideal S8x64x128 .f32) x = 0
    pointwise [k0_pay5]
  · refine ⟨_, List.mem_singleton_self _, ?_⟩
    rw [Rect.mem_set_unit]
    intro a
    refine ⟨?_, ?_⟩
    · match a with
      | ⟨0, _⟩ => exact Nat.zero_le _
      | ⟨1, _⟩ => exact Nat.zero_le _
      | ⟨2, _⟩ => exact Nat.zero_le _
    · have := (((Rect.unit (s := S8x64x128) ![(⟨4 * b.val + h.val, by omega⟩ : Fin 8).val, 0, 0] S1x64x128.size (inb_st ⟨4 * b.val + h.val, by omega⟩)).toLoadRect.idx (ix3 0 d e)) a).isLt
      match a with
      | ⟨0, _⟩ => exact lt_of_lt_of_eq this (Nat.zero_add _).symm
      | ⟨1, _⟩ => exact lt_of_lt_of_eq this (Nat.zero_add _).symm
      | ⟨2, _⟩ => exact lt_of_lt_of_eq this (Nat.zero_add _).symm

variable {D : Data} {t : ℕ} (c : Dev nD) (i : grid0.Coords)

/-- A later point's output block. -/
theorem out_B (hc0 : ¬cond0_0 i)
    (H : Agrees (loads arg1 harg1 arg2 harg2 arg3 harg3 arg4 harg4 arg5 harg5 arg6 harg6 arg7 harg7 arg10 x0 x1 x2 x3 x4 x5 x6 (s0B arg9 harg9 xs0)) D t) (y) :
    out0_B_7 c i arg1 harg1 arg2 harg2 arg3 harg3 arg4 harg4 arg5 harg5 arg6 harg6 arg7 harg7 arg8 harg8 arg9 harg9 arg10 harg10 hc0 x0 x1 x2 x3 x4 x5 x6 xs0 y
      = outBlk D t y := by
  have hc := cover0_B_7 c i arg1 harg1 arg2 harg2 arg3 harg3 arg4 harg4 arg5 harg5 arg6 harg6 arg7 harg7 arg8 harg8 arg9 harg9 arg10 harg10 hc0 x0 x1 x2 x3 x4 x5 x6 xs0
  unfold out0_B_7
  rw [View.read_writes_eq_canon _ _ _ hc]
  rw [pieces_B] at hc ⊢
  exact canon_outPieces H y (hc y)

/-- A later point's state. -/
theorem sout_B (hc0 : ¬cond0_0 i)
    (H : Agrees (loads arg1 harg1 arg2 harg2 arg3 harg3 arg4 harg4 arg5 harg5 arg6 harg6 arg7 harg7 arg10 x0 x1 x2 x3 x4 x5 x6 (s0B arg9 harg9 xs0)) D t) (y) :
    sout0_B_0 c i arg1 harg1 arg2 harg2 arg3 harg3 arg4 harg4 arg5 harg5 arg6 harg6 arg7 harg7 arg8 harg8 arg9 harg9 arg10 harg10 hc0 x0 x1 x2 x3 x4 x5 x6 xs0 y
      = stBlk D t y := by
  have hc := scover0_B_0 c i arg1 harg1 arg2 harg2 arg3 harg3 arg4 harg4 arg5 harg5 arg6 harg6 arg7 harg7 arg8 harg8 arg9 harg9 arg10 harg10 hc0 x0 x1 x2 x3 x4 x5 x6 xs0
  unfold sout0_B_0
  rw [View.read_writes_eq_canon _ _ _ hc, spieces_B]
  exact canon_stPieces H y

/-- The first point's output block. -/
theorem out_A (hc0 : cond0_0 i)
    (H : Agrees (loads arg1 harg1 arg2 harg2 arg3 harg3 arg4 harg4 arg5 harg5 arg6 harg6 arg7 harg7 arg10 x0 x1 x2 x3 x4 x5 x6 (s0A arg9)) D t) (y) :
    out0_A_7 c i arg1 harg1 arg2 harg2 arg3 harg3 arg4 harg4 arg5 harg5 arg6 harg6 arg7 harg7 arg8 harg8 arg9 harg9 arg10 harg10 hc0 x0 x1 x2 x3 x4 x5 x6 y
      = outBlk D t y := by
  have hc := cover0_A_7 c i arg1 harg1 arg2 harg2 arg3 harg3 arg4 harg4 arg5 harg5 arg6 harg6 arg7 harg7 arg8 harg8 arg9 harg9 arg10 harg10 hc0 x0 x1 x2 x3 x4 x5 x6
  unfold out0_A_7
  rw [View.read_writes_eq_canon _ _ _ hc]
  rw [pieces_A] at hc ⊢
  exact canon_outPieces H y (hc y)

/-- The first point's state. -/
theorem sout_A (hc0 : cond0_0 i)
    (H : Agrees (loads arg1 harg1 arg2 harg2 arg3 harg3 arg4 harg4 arg5 harg5 arg6 harg6 arg7 harg7 arg10 x0 x1 x2 x3 x4 x5 x6 (s0A arg9)) D t) (y) :
    sout0_A_0 c i arg1 harg1 arg2 harg2 arg3 harg3 arg4 harg4 arg5 harg5 arg6 harg6 arg7 harg7 arg8 harg8 arg9 harg9 arg10 harg10 hc0 x0 x1 x2 x3 x4 x5 x6 y
      = stBlk D t y := by
  have hc := scover0_A_0 c i arg1 harg1 arg2 harg2 arg3 harg3 arg4 harg4 arg5 harg5 arg6 harg6 arg7 harg7 arg8 harg8 arg9 harg9 arg10 harg10 hc0 x0 x1 x2 x3 x4 x5 x6
  unfold sout0_A_0
  rw [View.read_writes_eq_canon _ _ _ hc, spieces_A, canon_append _ _ y (stPieces_cover _ y)]
  exact canon_stPieces H y

end

end Cert.KernelIdeal.Chain

end

end
-- ==== Proof.KValue.lean ====
module

public import proofs.«01_k».proof.Proof.Points

@[expose] public section

set_option maxRecDepth 16384

noncomputable section

namespace Cert.KernelIdeal.Chain

open Idealize.ShloMosaic Idealize.ShloMosaic.TcCoe Cert.KernelIdeal.Gen Cert.Retention

variable (m : (ℓ : Loc nD τ sig) → Buf (Elt Ideal) ℓ) (c : Dev nD)

/-- The layer's input, by batch, row and channel. -/
def inX (b : Fin 2) (r : Fin 16384) (k : Fin 1024) : EReal := (m ((c : Thread nD τ).loc main_arg0) : FVec Ideal S2x16384x1024 .f32) (ix3 b r k)
/-- The input weight. -/
def inW (k : Fin 1024) (j : Fin 8712) : EReal := (m ((c : Thread nD τ).loc main_arg1) : FVec Ideal S1024x8712 .f32) (ix2 k j)
/-- The mixer's gain. -/
def inG (j : Fin 512) : EReal := (m ((c : Thread nD τ).loc main_arg2) : FVec Ideal S512 .f32) (ix1 j)

/-- The decays' table. -/
theorem V_dm (h : Fin 4) (r j : Fin 128) : (V m c main_v30 : FVec Ideal S4x128x128 .f32) (ix3 h r j) = decay h r j * scl := by
  unfold V decay lam scl num
  simp only [List.flatten_cons, List.flatten_nil, List.append_nil, List.cons_append, List.nil_append, hostOps0, hostOps0_1, hostOps0_2]
  after_reads_at
  congr 1
  split_ifs
  · rfl
  · exact Ideal.ofBits_zero_f32

/-- The queries' decays. -/
theorem V_qd (h : Fin 4) (r j : Fin 128) : (V m c main_v52 : FVec Ideal S4x128x128 .f32) (ix3 h r j) = qdec h r * scl := by
  unfold V qdec lam scl num
  simp only [List.flatten_cons, List.flatten_nil, List.append_nil, List.cons_append, List.nil_append, hostOps0, hostOps0_1, hostOps0_2]
  after_reads_at

/-- The values' decays. -/
theorem V_kd (h : Fin 4) (r j : Fin 128) : (V m c main_v40 : FVec Ideal S4x128x128 .f32) (ix3 h r j) = kdec h r := by
  unfold V kdec lam num
  simp only [List.flatten_cons, List.flatten_nil, List.append_nil, List.cons_append, List.nil_append, hostOps0, hostOps0_1, hostOps0_2]
  after_reads_at

/-- The chunk's decay. -/
theorem V_cd (h : Fin 4) (j : Fin 128) : (V m c main_v57 : FVec Ideal S4x1x128 .f32) (ix3 h 0 j) = cdec h := by
  unfold V cdec lam num
  simp only [List.flatten_cons, List.flatten_nil, List.append_nil, List.cons_append, List.nil_append, hostOps0, hostOps0_1, hostOps0_2]
  after_reads_at

/-- The gain's row. -/
theorem V_gn (j : Fin 512) : (V m c main_v59 : FVec Ideal S1x512 .f32) (ix2 0 j) = inG m c j := by
  unfold V
  simp only [List.flatten_cons, List.flatten_nil, List.append_nil, List.cons_append, List.nil_append, hostOps0, hostOps0_1, hostOps0_2]
  after_reads_at
  rfl

/-- The input's rows. -/
theorem V_x (b : Fin 2) (r : Fin 16384) (k : Fin 1024) : (V m c main_v58 : FVec Ideal S2x16384x1024 .bf16) (ix3 b r k) = inX m c b r k := by
  unfold V
  simp only [List.flatten_cons, List.flatten_nil, List.append_nil, List.cons_append, List.nil_append, hostOps0, hostOps0_1, hostOps0_2]
  after_reads_at
  unfold inX
  congr 1
  congr 1
  · apply Fin.ext; show (b.val * 16384 + r.val) / 16384 = b.val; omega
  · apply Fin.ext; show (b.val * 16384 + r.val) % 16384 = r.val; omega

/-- The weight's columns. -/
theorem V_w (k : Fin 1024) (j : Fin 1536) : (V m c main_v3 : FVec Ideal S1024x1536 .bf16) (ix2 k j) = inW m c k ⟨j.val, by omega⟩ := by
  unfold V
  simp only [List.flatten_cons, List.flatten_nil, List.append_nil, List.cons_append, List.nil_append, hostOps0, hostOps0_1, hostOps0_2]
  after_reads_at
  rfl

/-- The windows' block indices over the grid. -/
theorem idx : ∀ t : Fin cfg0.N, win0_0.index t = ![0, t.val, 0] ∧ win0_1.index t = ![0, 0] ∧ win0_2.index t = ![0, 0, 0]
    ∧ win0_3.index t = ![0, 0, 0] ∧ win0_4.index t = ![0, 0, 0] ∧ win0_5.index t = ![0, 0, 0] ∧ win0_6.index t = ![0, 0] :=
  (by decide +kernel : ∀ t : Fin grid0.N, _)

/-- The mixer's data of the run. -/
def D : Data := dataOf (inX m c) (inW m c) (inG m c)

theorem iblk_x (t : Fin cfg0.N) (b : Fin 2) (r : Fin 512) (k : Fin 1024) :
    (iblk m c 0 t : Vec Ideal S2x512x1024 .bf16) (ix3 b r k) = inX m c b ⟨(512 * t.val + r.val) % 16384, Nat.mod_lt _ (by decide)⟩ k := by
  have ht : t.val < 32 := lt_of_lt_of_eq t.isLt N_0
  obtain ⟨i0, -⟩ := idx t
  rw [← V_x]
  refine congrArg (V m c main_v58) (funext fun a => Fin.ext ?_)
  match a with
  | ⟨0, _⟩ => show win0_0.index t 0 * 2 + 1 * b.val = b.val; rw [i0]; show 0 * 2 + 1 * b.val = b.val; omega
  | ⟨1, _⟩ => show win0_0.index t 1 * 512 + 1 * r.val = (512 * t.val + r.val) % 16384; rw [i0]; show t.val * 512 + 1 * r.val = _; omega
  | ⟨2, _⟩ => show win0_0.index t 2 * 1024 + 1 * k.val = k.val; rw [i0]; show 0 * 1024 + 1 * k.val = k.val; omega

theorem iblk_w (t : Fin cfg0.N) (k : Fin 1024) (j : Fin 1536) :
    (iblk m c 1 t : Vec Ideal S1024x1536 .bf16) (ix2 k j) = inW m c k ⟨j.val, by omega⟩ := by
  obtain ⟨-, i1, -⟩ := idx t
  rw [← V_w]
  refine congrArg (V m c main_v3) (funext fun a => Fin.ext ?_)
  match a with
  | ⟨0, _⟩ => show win0_1.index t 0 * 1024 + 1 * k.val = k.val; rw [i1]; show 0 * 1024 + 1 * k.val = k.val; omega
  | ⟨1, _⟩ => show win0_1.index t 1 * 1536 + 1 * j.val = j.val; rw [i1]; show 0 * 1536 + 1 * j.val = j.val; omega

theorem iblk_dm (t : Fin cfg0.N) (h : Fin 4) (r j : Fin 128) :
    (iblk m c 2 t : Vec Ideal S4x128x128 .f32) (ix3 h r j) = decay h r j * scl := by
  obtain ⟨-, -, i2, -⟩ := idx t
  rw [← V_dm m c]
  refine congrArg (V m c main_v30) (funext fun a => Fin.ext ?_)
  match a with
  | ⟨0, _⟩ => show win0_2.index t 0 * 4 + 1 * h.val = h.val; rw [i2]; show 0 * 4 + 1 * h.val = h.val; omega
  | ⟨1, _⟩ => show win0_2.index t 1 * 128 + 1 * r.val = r.val; rw [i2]; show 0 * 128 + 1 * r.val = r.val; omega
  | ⟨2, _⟩ => show win0_2.index t 2 * 128 + 1 * j.val = j.val; rw [i2]; show 0 * 128 + 1 * j.val = j.val; omega

theorem iblk_qd (t : Fin cfg0.N) (h : Fin 4) (r j : Fin 128) :
    (iblk m c 3 t : Vec Ideal S4x128x128 .f32) (ix3 h r j) = qdec h r * scl := by
  obtain ⟨-, -, -, i3, -⟩ := idx t
  rw [← V_qd m c h r j]
  refine congrArg (V m c main_v52) (funext fun a => Fin.ext ?_)
  match a with
  | ⟨0, _⟩ => show win0_3.index t 0 * 4 + 1 * h.val = h.val; rw [i3]; show 0 * 4 + 1 * h.val = h.val; omega
  | ⟨1, _⟩ => show win0_3.index t 1 * 128 + 1 * r.val = r.val; rw [i3]; show 0 * 128 + 1 * r.val = r.val; omega
  | ⟨2, _⟩ => show win0_3.index t 2 * 128 + 1 * j.val = j.val; rw [i3]; show 0 * 128 + 1 * j.val = j.val; omega

theorem iblk_kd (t : Fin cfg0.N) (h : Fin 4) (r j : Fin 128) :
    (iblk m c 4 t : Vec Ideal S4x128x128 .f32) (ix3 h r j) = kdec h r := by
  obtain ⟨-, -, -, -, i4, -⟩ := idx t
  rw [← V_kd m c h r j]
  refine congrArg (V m c main_v40) (funext fun a => Fin.ext ?_)
  match a with
  | ⟨0, _⟩ => show win0_4.index t 0 * 4 + 1 * h.val = h.val; rw [i4]; show 0 * 4 + 1 * h.val = h.val; omega
  | ⟨1, _⟩ => show win0_4.index t 1 * 128 + 1 * r.val = r.val; rw [i4]; show 0 * 128 + 1 * r.val = r.val; omega
  | ⟨2, _⟩ => show win0_4.index t 2 * 128 + 1 * j.val = j.val; rw [i4]; show 0 * 128 + 1 * j.val = j.val; omega

theorem iblk_cd (t : Fin cfg0.N) (h : Fin 4) (j : Fin 128) :
    (iblk m c 5 t : Vec Ideal S4x1x128 .f32) (ix3 h 0 j) = cdec h := by
  obtain ⟨-, -, -, -, -, i5, -⟩ := idx t
  rw [← V_cd m c h j]
  refine congrArg (V m c main_v57) (funext fun a => Fin.ext ?_)
  match a with
  | ⟨0, _⟩ => show win0_5.index t 0 * 4 + 1 * h.val = h.val; rw [i5]; show 0 * 4 + 1 * h.val = h.val; omega
  | ⟨1, _⟩ => show win0_5.index t 1 * 1 + 1 * 0 = 0; rw [i5]; rfl
  | ⟨2, _⟩ => show win0_5.index t 2 * 128 + 1 * j.val = j.val; rw [i5]; show 0 * 128 + 1 * j.val = j.val; omega

theorem iblk_gn (t : Fin cfg0.N) (j : Fin 512) :
    (iblk m c 6 t : Vec Ideal S1x512 .f32) (ix2 0 j) = inG m c j := by
  obtain ⟨-, -, -, -, -, -, i6⟩ := idx t
  rw [← V_gn]
  refine congrArg (V m c main_v59) (funext fun a => Fin.ext ?_)
  match a with
  | ⟨0, _⟩ => show win0_6.index t 0 * 1 + 1 * 0 = 0; rw [i6]; rfl
  | ⟨1, _⟩ => show win0_6.index t 1 * 512 + 1 * j.val = j.val; rw [i6]; show 0 * 512 + 1 * j.val = j.val; omega

/-- A point loads the mixer's data, its start state being the mixer's. -/
theorem agrees_pt (t : Fin cfg0.N) (n : ℕ) (hn : t.val = n) (s0 : Fin 2 → Fin 4 → FVec Ideal S64x128 .f32)
    (hs : ∀ b h d e, s0 b h (ix2 d e) = (D m c).state b h (4 * n) d e) :
    Agrees (loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_1
      (iblk m c 0 t) (iblk m c 1 t) (iblk m c 2 t) (iblk m c 3 t) (iblk m c 4 t) (iblk m c 5 t) (iblk m c 6 t) s0) (D m c) n := by
  subst hn
  exact agrees_loads _ _ _ _ _ _ _ _ _ _ _ _ _ _ _ _ _ _ _ _ _ _ (inX m c) (inW m c) (inG m c) t.val s0
    (iblk_x m c t) (iblk_w m c t) (iblk_dm m c t) (iblk_qd m c t) (iblk_kd m c t) (iblk_cd m c t) (iblk_gn m c t) hs

/-- What the first point leaves. -/
theorem outs_A (t : Fin cfg0.N) (h0 : t.val % 32 = 0) (ht : t.val = 0) :
    (∀ y, (outsAt0 m c t.val t.isLt).1 y = outBlk (D m c) 0 y) ∧ ∀ y, (outsAt0 m c t.val t.isLt).2 y = stBlk (D m c) 0 y := by
  have H := agrees_pt m c t 0 ht (s0A scM0_0) (s0A_apply scM0_0 (D m c))
  rw [outsAt0_A m c t h0]
  dsimp only
  exact ⟨fun y => out_A (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t) (iblk m c 6 t) c (grid0.coords t) ((hcond0_0 t).mpr h0) H y,
    fun y => sout_A (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t) (iblk m c 6 t) c (grid0.coords t) ((hcond0_0 t).mpr h0) H y⟩

/-- What a later point leaves, the point before having left the mixer's states. -/
theorem outs_B (t : Fin cfg0.N) (h0 : ¬t.val % 32 = 0) (n : ℕ) (ht : t.val = n + 1)
    (ih : ∀ y, (outsAt0 m c (t.val - 1) (Nat.lt_of_le_of_lt (Nat.sub_le _ _) t.isLt)).2 y = stBlk (D m c) n y) :
    (∀ y, (outsAt0 m c t.val t.isLt).1 y = outBlk (D m c) (n + 1) y) ∧ ∀ y, (outsAt0 m c t.val t.isLt).2 y = stBlk (D m c) (n + 1) y := by
  rw [outsAt0_B m c t h0]
  generalize (outsAt0 m c (t.val - 1) (Nat.lt_of_le_of_lt (Nat.sub_le _ _) t.isLt)).2 = xs at ih
  have H := agrees_pt m c t (n + 1) ht (s0B scM0_0 (Memref.isWhole_whole _) xs) (s0B_apply scM0_0 (Memref.isWhole_whole _) xs (D m c) n ih)
  dsimp only
  exact ⟨fun y => out_B (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t) (iblk m c 6 t) xs c (grid0.coords t) (fun h => h0 ((hcond0_0 t).mp h)) H y,
    fun y => sout_B (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t) (iblk m c 6 t) xs c (grid0.coords t) (fun h => h0 ((hcond0_0 t).mp h)) H y⟩

/-- After point `n` the output block and the state scratch hold the mixer's values. -/
theorem outs_eq : ∀ (n : ℕ) (hn : n < cfg0.N), (∀ y, (outsAt0 m c n hn).1 y = outBlk (D m c) n y)
    ∧ ∀ y, (outsAt0 m c n hn).2 y = stBlk (D m c) n y
  | 0, hn => outs_A m c ⟨0, hn⟩ (Nat.zero_mod _) rfl
  | n + 1, hn => outs_B m c ⟨n + 1, hn⟩ (by
      have hN : n + 1 < 32 := lt_of_lt_of_eq hn N_0
      show ¬(n + 1) % 32 = 0
      omega) n rfl (outs_eq n (Nat.lt_of_succ_lt hn)).2

/-- The kernel's result at batch `b`, row `128 n + r`, channel `128 h + e`. -/
theorem G7_apply (y : S2x16384x512.Idx) (b : Fin 2) (h : Fin 4) (n : ℕ) (r e : Fin 128) (h0 : (y 0).val = b.val)
    (h1 : (y 1).val = 128 * n + r.val) (h2 : (y 2).val = 128 * h.val + e.val) :
    Value.G7 m c y = (D m c).out b h n r e := by
  have hy1 : (y 1).val < 16384 := (y 1).isLt
  have hp : Value.pt7Of y = n / 4 := by
    show 32 * ((y 0).val / 2 - 0) + 1 * ((y 1).val / 512 - 0) + 1 * ((y 2).val / 512 - 0) = n / 4
    omega
  have hlt : Value.pt7Of y < cfg0.N := by rw [hp]; exact lt_of_lt_of_eq (by omega : n / 4 < 32) N_0.symm
  unfold Value.G7
  rw [dif_pos hlt, ← Value.outsAt0_sweep m c _ hlt, (outs_eq m c _ hlt).1]
  refine (outBlk_at _ _ _ b (n % 4) h r e ?_ ?_ ?_).trans ?_
  · show (y 0).val % 2 = _; omega
  · show (y 1).val % 512 = _; omega
  · show (y 2).val % 512 = _; omega
  · rw [hp]; congr 1; omega

end Cert.KernelIdeal.Chain

end

end
-- ==== Proof.Equation.lean ====
module

public import proofs.«01_k».proof.Proof.Math

@[expose] public section

noncomputable section

namespace Cert.Retention

open Idealize.ShloMosaic

/-- The scale is one eighth. -/
theorem scl_eq : scl = (((1 : ℝ) / 8 : ℝ) : EReal) := by
  unfold scl
  simp [Ideal.ofBits, Ideal.ieee, -EReal.coe_mul]; norm_num

theorem scl_nonneg : 0 ≤ scl := by rw [scl_eq]; exact_mod_cast (by norm_num : (0 : ℝ) ≤ 1 / 8)

theorem scl_ne_top : scl ≠ ⊤ := by rw [scl_eq]; exact EReal.coe_ne_top _

/-- The scale distributes over a sum of two. -/
theorem scl_add (a b : EReal) : scl * (a + b) = scl * a + scl * b :=
  EReal.left_distrib_of_nonneg_of_ne_top scl_nonneg scl_ne_top a b

/-- The scale distributes over a finite sum. -/
theorem scl_sum {ι : Type} [Fintype ι] (f : ι → EReal) : scl * ∑ i, f i = ∑ i, scl * f i := by
  classical
  induction (Finset.univ : Finset ι) using Finset.induction_on with
  | empty => simp
  | insert a s ha ih => rw [Finset.sum_insert ha, Finset.sum_insert ha, scl_add, ih]

/-- The scale moves from each key to the decay of the score. -/
theorem score_scaled (q k : Fin 64 → EReal) (dm v : EReal) :
    (∑ d, q d * (k d * scl)) * dm * v = (∑ d, q d * k d) * (dm * scl) * v := by
  rw [show (∑ d, q d * (k d * scl)) = scl * ∑ d, q d * k d by
    rw [scl_sum]; exact Finset.sum_congr rfl fun d _ => by rw [← mul_assoc, mul_comm]]
  rw [mul_comm dm scl, ← mul_assoc, mul_comm (∑ d, q d * k d) scl]

/-- The scale moves from each chunk's products to their sum. -/
theorem kv_scaled (k kd v : Fin 128 → EReal) :
    ∑ j, (k j * scl * kd j) * v j = scl * ∑ j, k j * (v j * kd j) := by
  rw [scl_sum]
  refine Finset.sum_congr rfl fun j _ => ?_
  rw [mul_comm (k j) scl, mul_assoc scl, mul_assoc scl, mul_assoc (k j), mul_comm (kd j)]

/-- A state scaled throughout is the scale times the state. -/
theorem state_scaled (cd s kv : EReal) : cd * (scl * s) + scl * kv = scl * (cd * s + kv) := by
  rw [scl_add, ← mul_assoc, mul_comm cd scl, mul_assoc]

/-- The scale moves from the state to the decay of its query. -/
theorem cross_scaled (q s : Fin 64 → EReal) (qd : EReal) :
    (∑ d, q d * (scl * s d)) * qd = (∑ d, q d * s d) * (qd * scl) := by
  rw [show (∑ d, q d * (scl * s d)) = scl * ∑ d, q d * s d by
    rw [scl_sum]; exact Finset.sum_congr rfl fun d _ => by rw [← mul_assoc, mul_comm (q d), mul_assoc]]
  rw [mul_comm qd scl, ← mul_assoc, mul_comm (∑ d, q d * s d) scl]

end Cert.Retention

end

end
-- ==== Proof.RefHost.lean ====
module

public import proofs.«01_k».proof.Proof.Math
public import proofs.«01_k».proof.Proof.Gen.ReferenceIdeal.Run
public import Idealize.ShloMosaic.Lib.StableHlo.ReadAt

@[expose] public section

set_option maxRecDepth 16384

noncomputable section

namespace Cert.ReferenceIdeal.Value

open Idealize.ShloMosaic Idealize.ShloMosaic.TcCoe Cert.ReferenceIdeal Cert.ReferenceIdeal.Gen Cert.Retention StableHlo

variable (m : (ℓ : Loc nD τ sig) → Buf (Elt Ideal) ℓ) (c : Dev nD)

/-- The layer's input, by batch, row and channel. -/
def inX (b : Fin 2) (r : Fin 16384) (k : Fin 1024) : EReal := (m ((c : Thread nD τ).loc main_arg0) : FVec Ideal S2x16384x1024 .f32) (ix3 b r k)
/-- The input projection's weight. -/
def inW (k : Fin 1024) (j : Fin 8712) : EReal := (m ((c : Thread nD τ).loc main_arg1) : FVec Ideal S1024x8712 .f32) (ix2 k j)
/-- The heads' gain. -/
def inG (j : Fin 512) : EReal := (m ((c : Thread nD τ).loc main_arg2) : FVec Ideal S512 .f32) (ix1 j)

/-- The mixer's data the reference computes with. -/
def D : Data := dataOf (inX m c) (inW m c) (inG m c)

theorem row_mk (n r : Fin 128) (p : n.val * 128 + r.val < 16384) : (⟨n.val * 128 + r.val, p⟩ : Fin 16384) = row n.val r :=
  Fin.ext (show n.val * 128 + r.val = (128 * n.val + r.val) % 16384 by omega)

theorem q_eq (b : Fin 2) (h : Fin 4) (n r : Fin 128) (d : Fin 64) :
    (D m c).q b h n.val r d = proj (inX m c) (inW m c) b (row n.val r) ⟨h.val * 64 + d.val, by omega⟩ :=
  congrArg (proj (inX m c) (inW m c) b (row n.val r)) (Fin.ext (by dsimp only; omega))

theorem k_eq (b : Fin 2) (h : Fin 4) (n r : Fin 128) (d : Fin 64) :
    (D m c).k b h n.val r d = proj (inX m c) (inW m c) b (row n.val r) ⟨256 + (h.val * 64 + d.val), by omega⟩ :=
  congrArg (proj (inX m c) (inW m c) b (row n.val r)) (Fin.ext (by dsimp only; omega))

theorem v_eq (b : Fin 2) (h : Fin 4) (n r : Fin 128) (e : Fin 128) :
    (D m c).v b h n.val r e = proj (inX m c) (inW m c) b (row n.val r) ⟨512 + (h.val * 128 + e.val), by omega⟩ :=
  congrArg (proj (inX m c) (inW m c) b (row n.val r)) (Fin.ext (by dsimp only; omega))

/-- The reference's queries at the loop's entry. -/
theorem E_v13 (b : Fin 2) (n r : Fin 128) (h : Fin 4) (d : Fin 64) :
    (entryContents preI m c (Proc.devRef .tc main_v13) : FVec Ideal S2x128x128x4x64 .f32) (ix5 b n r h d) = (D m c).q b h n.val r d := by
  unfold entryContents
  simp only [afterL]
  after_reads_at
  simp only [row_mk, q_eq]
  rfl

/-- The reference's within-chunk part at the loop's entry. -/
theorem E_v39 (b : Fin 2) (n r : Fin 128) (h : Fin 4) (e : Fin 128) :
    (entryContents preI m c (Proc.devRef .tc main_v39) : FVec Ideal S2x128x4x128x128 .f32) (ix5 b n h r e)
      = ∑ j, (∑ d, (D m c).q b h n.val r d * ((D m c).k b h n.val j d * scl)) * decay h r j * (D m c).v b h n.val j e := by
  unfold entryContents
  simp only [afterL]
  after_reads_at
  simp only [row_mk, q_eq, k_eq, v_eq]
  rw [show (id (constant (F := Ideal) S_ FTy.f32 0#32) ix0 : EReal) = 0 from Ideal.ofBits_zero_f32]
  rfl

/-- The decays of the state to each row at the loop's entry. -/
theorem E_v55 (h : Fin 4) (r : Fin 128) :
    (entryContents preI m c (Proc.devRef .tc main_v55) : FVec Ideal S4x128 .f32) (ix2 h r) = qdec h r := by
  unfold entryContents
  simp only [afterL]
  after_reads_at
  rfl

/-- The gates' projections at the loop's entry. -/
theorem E_v4 (b : Fin 2) (R : Fin 16384) (j : Fin 512) :
    (entryContents preI m c (Proc.devRef .tc main_v4) : FVec Ideal S2x16384x512 .f32) (ix3 b R j)
      = proj (inX m c) (inW m c) b R ⟨1024 + j.val, by omega⟩ := by
  unfold entryContents
  simp only [afterL]
  after_reads_at
  rfl

/-- A chunk's products of keys and values at the loop's entry. -/
theorem E_v69_0 (b : Fin 2) (n e : Fin 128) (h : Fin 4) (d : Fin 64) :
    (entryContents preI m c (Proc.devRef .tc main_v69_0) : FVec Ideal S128x2x4x64x128 .f32) (ix5 n b h d e)
      = ∑ j, ((D m c).k b h n.val j d * scl * kdec h j) * (D m c).v b h n.val j e := by
  unfold entryContents
  simp only [afterL]
  after_reads_at
  simp only [id_eq]
  pointwise
  simp only [row_mk, k_eq, v_eq]
  rfl

/-- The decay over a chunk at the loop's entry. -/
theorem E_v69_1 (h : Fin 4) :
    (entryContents preI m c (Proc.devRef .tc main_v69_1) : FVec Ideal S1x4x1x1 .f32) (ix4 0 h 0 0) = cdec h := by
  unfold entryContents
  simp only [afterL]
  after_reads_at
  simp only [id_eq]
  pointwise
  rfl

/-- The state is zero at the loop's entry. -/
theorem E_v69_3 (b : Fin 2) (h : Fin 4) (d : Fin 64) (e : Fin 128) :
    (entryContents preI m c (Proc.devRef .tc main_v69_3) : FVec Ideal S2x4x64x128 .f32) (ix4 b h d e) = (0 : EReal) := by
  unfold entryContents
  simp only [afterL]
  after_reads_at
  simp only [id_eq]
  pointwise

/-- The result after the loop from any contents at its end: the gated, normalised sum of the two parts. -/
theorem post_v103 (V : Valuation τ sig (Elt Ideal)) (b : Fin 2) (n r : Fin 128) (h : Fin 4) (e : Fin 128) :
    (afterL postI V (Proc.devRef .tc main_v103) : FVec Ideal S2x16384x512 .bf16) (ix3 b ⟨n.val * 128 + r.val, by omega⟩ ⟨h.val * 128 + e.val, by omega⟩)
      = gated (fun e' => HAdd.hAdd (α := EReal) ((V (Proc.devRef .tc main_v39) : FVec Ideal S2x128x4x128x128 .f32) (ix5 b n h r e'))
          (HMul.hMul (α := EReal) (∑ d, HMul.hMul (α := EReal) ((V (Proc.devRef .tc main_v13) : FVec Ideal S2x128x128x4x64 .f32) (ix5 b n r h d))
              ((V (Proc.devRef .tc main_v69_4) : FVec Ideal S128x2x4x64x128 .f32) (ix5 n b h d e')))
            ((V (Proc.devRef .tc main_v55) : FVec Ideal S4x128 .f32) (ix2 h r))))
        (fun e' => (V (Proc.devRef .tc main_arg2) : FVec Ideal S512 .f32) (ix1 ⟨h.val * 128 + e'.val, by omega⟩))
        (fun e' => (V (Proc.devRef .tc main_v4) : FVec Ideal S2x16384x512 .f32) (ix3 b ⟨n.val * 128 + r.val, by omega⟩ ⟨h.val * 128 + e'.val, by omega⟩)) e := by
  have q (a : Fin 128) (r : Fin 128) (p : (a.val * 128 + r.val) / 128 < 128) : (⟨(a.val * 128 + r.val) / 128, p⟩ : Fin 128) = a := Fin.ext (by dsimp only; omega)
  have q4 (a : Fin 4) (r : Fin 128) (p : (a.val * 128 + r.val) / 128 < 4) : (⟨(a.val * 128 + r.val) / 128, p⟩ : Fin 4) = a := Fin.ext (by dsimp only; omega)
  have w (a : Fin 128) (r : Fin 128) (p : (a.val * 128 + r.val) % 128 < 128) : (⟨(a.val * 128 + r.val) % 128, p⟩ : Fin 128) = r := Fin.ext (by dsimp only; omega)
  have w4 (a : Fin 4) (r : Fin 128) (p : (a.val * 128 + r.val) % 128 < 128) : (⟨(a.val * 128 + r.val) % 128, p⟩ : Fin 128) = r := Fin.ext (by dsimp only; omega)
  simp only [afterL]
  after_reads_at
  simp only [q, q4, w, w4]
  rfl

end Cert.ReferenceIdeal.Value

end

end
-- ==== Proof.RefLoop.lean ====
module

public import proofs.«01_k».proof.Proof.Math
public import proofs.«01_k».proof.Proof.Gen.ReferenceIdeal.Run
public import proofs.«01_k».proof.Proof.RefHost
public import Idealize.ShloMosaic.Lib.StableHlo.ReadAt
public import Idealize.ShloMosaic.Lib.DynamicIndex
public import Idealize.ShloMosaic.Lib.Pipeline.Value

@[expose] public section

set_option maxRecDepth 16384

noncomputable section

namespace Cert.ReferenceIdeal.Value

open Idealize.ShloMosaic Idealize.ShloMosaic.TcCoe Cert.ReferenceIdeal Cert.ReferenceIdeal.Gen Cert.Retention StableHlo

/-- The counter's word, clamped to the 128 slots, is the counter. -/
theorem slot_eq (n : Fin 128) : (min (max (Scf.iv 0#32 1#32 n.val).toInt 0) ((127 : Nat) : Int)).toNat = n.val := by
  rw [Scf.toInt_iv (ub := 128#32) (by decide) (show n.val ≤ 128 from n.isLt.le)]
  rw [show (0#32 : BitVec 32).toInt = 0 from rfl, show (1#32 : BitVec 32).toInt = 1 from rfl]
  omega

/-- The slots' block at the counter lies inside the stored states. -/
theorem slot_slices (n : Fin 128) : S128x2x4x64x128.Slices ![n.val, 0, 0, 0, 0] S1x2x4x64x128 :=
  ⟨rfl, fun a => by fin_cases a <;> simp [Shape.size, S128x2x4x64x128, S1x2x4x64x128] <;> omega⟩

/-- One trip's new state at an index, from contents whose counter is `n`. -/
theorem step3_at (V : Valuation τ sig (Elt Ideal)) (n : Fin 128) (hV : V (Proc.devRef .tc main_v69_2) = fun _ => Scf.iv 0#32 1#32 n.val)
    (b : Fin 2) (h : Fin 4) (d : Fin 64) (e : Fin 128) :
    (step_main_v69_3 V : FVec Ideal S2x4x64x128 .f32) (ix4 b h d e)
      = HAdd.hAdd (α := EReal) (HMul.hMul (α := EReal) ((V (Proc.devRef .tc main_v69_1) : FVec Ideal S1x4x1x1 .f32) (ix4 0 h 0 0))
            ((V (Proc.devRef .tc main_v69_3) : FVec Ideal S2x4x64x128 .f32) (ix4 b h d e)))
          ((V (Proc.devRef .tc main_v69_0) : FVec Ideal S128x2x4x64x128 .f32) (ix5 n b h d e)) := by
  unfold step_main_v69_3
  rw [hV, Host.dynamicSlice_eq_extractStridedSlice_of_clamp _ _ _ _ ![n.val, 0, 0, 0, 0]
    (fun a => by fin_cases a; exacts [slot_eq n, rfl, rfl, rfl, rfl]) (slot_slices n)]
  simp only [id_eq]
  pointwise

/-- One trip's stored states at an index, from contents whose counter is `n`. -/
theorem step4_at (V : Valuation τ sig (Elt Ideal)) (n : Fin 128) (hV : V (Proc.devRef .tc main_v69_2) = fun _ => Scf.iv 0#32 1#32 n.val)
    (a : Fin 128) (b : Fin 2) (h : Fin 4) (d : Fin 64) (e : Fin 128) :
    (step_main_v69_4 V : FVec Ideal S128x2x4x64x128 .f32) (ix5 a b h d e)
      = if a = n then (V (Proc.devRef .tc main_v69_3) : FVec Ideal S2x4x64x128 .f32) (ix4 b h d e)
        else (V (Proc.devRef .tc main_v69_4) : FVec Ideal S128x2x4x64x128 .f32) (ix5 a b h d e) := by
  unfold step_main_v69_4
  rw [hV, Host.dynamicUpdateSlice_eq_updateSlice _ _ _ _ ![n.val, 0, 0, 0, 0]
    (fun a => by fin_cases a; exacts [slot_eq n, rfl, rfl, rfl, rfl]) (slot_slices n)]
  simp only [id_eq]
  pointwise
  by_cases ha : a = n
  · subst ha
    rw [if_pos rfl, dif_pos]
    intro x
    fin_cases x
    exacts [⟨Nat.le_refl _, Nat.lt_succ_self _⟩, ⟨Nat.zero_le _, b.isLt⟩, ⟨Nat.zero_le _, h.isLt⟩, ⟨Nat.zero_le _, d.isLt⟩, ⟨Nat.zero_le _, e.isLt⟩]
  · rw [if_neg ha, dif_neg]
    intro hh
    have h0 := hh 0
    simp at h0
    exact ha (Fin.ext (by omega))

variable (m : (ℓ : Loc nD τ sig) → Buf (Elt Ideal) ℓ) (c : Dev nD)

/-- A chunk's products of the scaled, decayed keys and the values. -/
def chunkKV (b : Fin 2) (h : Fin 4) (n : ℕ) (d : Fin 64) (e : Fin 128) : EReal :=
  ∑ j, ((D m c).k b h n j d * scl * kdec h j) * (D m c).v b h n j e

/-- The reference's state before chunk `n`. -/
def refState (b : Fin 2) (h : Fin 4) : ℕ → Fin 64 → Fin 128 → EReal
  | 0 => fun _ _ => 0
  | n + 1 => fun d e => cdec h * refState b h n d e + chunkKV m c b h n d e

/-- After `k` trips the state is the reference's state before chunk `k`, and every earlier chunk's slot holds the state before it. -/
theorem loop_at (k : ℕ) (hk : k ≤ 128) :
    atK m k c (Proc.devRef .tc main_v69_0) = entryContents preI m c (Proc.devRef .tc main_v69_0)
    ∧ atK m k c (Proc.devRef .tc main_v69_1) = entryContents preI m c (Proc.devRef .tc main_v69_1)
    ∧ (∀ b h d e, (atK m k c (Proc.devRef .tc main_v69_3) : FVec Ideal S2x4x64x128 .f32) (ix4 b h d e) = refState m c b h k d e)
    ∧ ∀ (a : Fin 128) b h d e, a.val < k →
        (atK m k c (Proc.devRef .tc main_v69_4) : FVec Ideal S128x2x4x64x128 .f32) (ix5 a b h d e) = refState m c b h a.val d e := by
  induction k with
  | zero => exact ⟨rfl, rfl, fun b h d e => E_v69_3 m c b h d e, fun a b h d e ha => absurd ha (Nat.not_lt_zero _)⟩
  | succ k ih =>
    obtain ⟨i0, i1, i3, i4⟩ := ih (by omega)
    have hst : Agree (atK m (k + 1) c) (STEP (atK m k c)) := trip_agree (atK m k c)
    have hc := atK_ctr m c k
    refine ⟨?_, ?_, fun b h d e => ?_, fun a b h d e ha => ?_⟩
    · exact (hst main_v69_0 (by decide)).trans ((STEP_main_v69_0 _).trans i0)
    · exact (hst main_v69_1 (by decide)).trans ((STEP_main_v69_1 _).trans i1)
    · rw [(hst main_v69_3 (by decide)).trans (STEP_main_v69_3 _)]
      refine (step3_at (atK m k c) ⟨k, by omega⟩ hc b h d e).trans ?_
      rw [i0, i1, i3 b h d e, E_v69_0 m c b ⟨k, by omega⟩ e h d, E_v69_1 m c h]
      rfl
    · rw [(hst main_v69_4 (by decide)).trans (STEP_main_v69_4 _)]
      refine (step4_at (atK m k c) ⟨k, by omega⟩ hc a b h d e).trans ?_
      by_cases h' : a.val = k
      · rw [if_pos (Fin.ext h'), i3 b h d e, h']
      · rw [if_neg fun hh => h' (congrArg Fin.val hh), i4 a b h d e (by omega)]

/-- What neither the loop's condition nor its body writes is as at the loop's entry. -/
theorem kept (j : Ref sig .tc) (hj : j ∈ [main_v13, main_v39, main_v55, main_v4, main_arg0, main_arg1, main_arg2]) :
    ∀ k, after condOps (atK m k c) (Proc.devRef .tc j) = entryContents preI m c (Proc.devRef .tc j) := by
  have hcond (V : Valuation τ sig (Elt Ideal)) : after condOps V (Proc.devRef .tc j) = V (Proc.devRef .tc j) := by
    fin_cases hj <;> exact after_of_writes_sub _ _ condOps_writes (by decide +kernel)
  have hbody (V : Valuation τ sig (Elt Ideal)) : afterL bodyI V (Proc.devRef .tc j) = V (Proc.devRef .tc j) := by
    simp only [afterL_cons, afterL_nil]
    fin_cases hj <;>
      exact (after_of_writes_sub _ _ while0Ops0_3_writes (by decide +kernel)).trans
        ((after_of_writes_sub _ _ while0Ops0_2_writes (by decide +kernel)).trans
          ((after_of_writes_sub _ _ while0Ops0_1_writes (by decide +kernel)).trans
            (after_of_writes_sub _ _ while0Ops0_writes (by decide +kernel))))
  intro k
  rw [hcond]
  induction k with
  | zero => rfl
  | succ k ih =>
    rw [show atK m (k + 1) c = afterL bodyI (after condOps (atK m k c)) from rfl, hbody, hcond, ih]

/-- The operations before the loop write no argument. -/
theorem pre_keeps (j : Ref sig .tc) (hj : j ∈ [main_arg0, main_arg1, main_arg2]) :
    entryContents preI m c (Proc.devRef .tc j) = m ((c : Thread nD τ).loc j) := by
  simp only [entryContents, afterL_cons, afterL_nil]
  fin_cases hj <;>
    exact (after_of_writes_sub _ _ hostOps0_2_writes (by decide +kernel)).trans
      ((after_of_writes_sub _ _ hostOps0_1_writes (by decide +kernel)).trans
        (after_of_writes_sub _ _ hostOps0_writes (by decide +kernel)))

/-- The operations after the loop write no argument. -/
theorem post_keeps (V : Valuation τ sig (Elt Ideal)) (j : Ref sig .tc) (hj : j ∈ [main_arg0, main_arg1, main_arg2]) :
    afterL postI V (Proc.devRef .tc j) = V (Proc.devRef .tc j) := by
  simp only [afterL_cons, afterL_nil]
  fin_cases hj <;> after_results

/-- The reference leaves its arguments unchanged. -/
theorem final_arg (j : Ref sig .tc) (hj : j ∈ [main_arg0, main_arg1, main_arg2]) :
    finalContents condOps preI bodyI postI 128 m c (Proc.devRef .tc j) = m ((c : Thread nD τ).loc j) :=
  (post_keeps _ j hj).trans ((kept m c j (by fin_cases hj <;> decide) 128).trans (pre_keeps m c j hj))

/-- The gated head depends on its three rows only. -/
theorem gated_congr {o o' gn gn' g g' : Fin 128 → EReal} (h1 : ∀ e, o e = o' e) (h2 : ∀ e, gn e = gn' e) (h3 : ∀ e, g e = g' e) (e : Fin 128) :
    gated o gn g e = gated o' gn' g' e := by
  rw [funext h1, funext h2, funext h3]

/-- The reference's result at an index. -/
theorem final_v103 (b : Fin 2) (n r : Fin 128) (h : Fin 4) (e : Fin 128) :
    (finalContents condOps preI bodyI postI 128 m c (Proc.devRef .tc main_v103) : FVec Ideal S2x16384x512 .bf16)
        (ix3 b ⟨n.val * 128 + r.val, by omega⟩ ⟨h.val * 128 + e.val, by omega⟩)
      = gated (fun e' => (∑ j, (∑ d, (D m c).q b h n.val r d * ((D m c).k b h n.val j d * scl)) * decay h r j * (D m c).v b h n.val j e')
            + (∑ d, (D m c).q b h n.val r d * refState m c b h n.val d e') * qdec h r)
          ((D m c).gn h) ((D m c).g b h n.val r) e := by
  have hK (j hj) := kept m c j hj 128
  have h4 (d : Fin 64) (e' : Fin 128) :
      (after condOps (atK m 128 c) (Proc.devRef .tc main_v69_4) : FVec Ideal S128x2x4x64x128 .f32) (ix5 n b h d e') = refState m c b h n.val d e' := by
    rw [cond_keeps (atK m 128 c) main_v69_4 (by decide)]
    exact (loop_at m c 128 le_rfl).2.2.2 n b h d e' n.isLt
  have e1 := hK main_v13 (by decide)
  have e2 := hK main_v39 (by decide)
  have e3 := hK main_v55 (by decide)
  have e4 := hK main_v4 (by decide)
  have e5 := (hK main_arg2 (by decide)).trans (pre_keeps m c main_arg2 (by decide))
  have hE13 := E_v13 m c b n r h
  have hE39 := E_v39 m c b n r h
  have hE55 := E_v55 m c h r
  have hE4 := E_v4 m c b ⟨n.val * 128 + r.val, by omega⟩
  clear hK
  show (afterL postI (after condOps (atK m 128 c)) (Proc.devRef .tc main_v103) : FVec Ideal S2x16384x512 .bf16)
        (ix3 b ⟨n.val * 128 + r.val, by omega⟩ ⟨h.val * 128 + e.val, by omega⟩) = _
  generalize after condOps (atK m 128 c) = W at *
  generalize entryContents preI m c = W₀ at *
  refine (post_v103 W b n r h e).trans (gated_congr (fun e' => ?_) (fun e' => ?_) (fun e' => ?_) e)
  · rw [e1, e2, e3, hE39, hE55]
    simp only [hE13, h4]
  · rw [e5]
    exact congrArg (inG m c) (Fin.ext (by dsimp only; omega))
  · rw [e4, hE4, row_mk]
    exact congrArg (proj (inX m c) (inW m c) b (row n.val r)) (Fin.ext (by dsimp only; omega))

end Cert.ReferenceIdeal.Value

end

end
-- ==== Proof.RefValue.lean ====
module

public import proofs.«01_k».proof.Proof.Equation
public import proofs.«01_k».proof.Proof.RefLoop
public import Idealize.ShloMosaic.Lib.Quiescent

@[expose] public section

set_option maxRecDepth 16384

noncomputable section

namespace Cert.ReferenceIdeal.Value

open Idealize.ShloMosaic Idealize.ShloMosaic.TcCoe Idealize.SL.Sem Cert.ReferenceIdeal Cert.ReferenceIdeal.Gen Cert.Retention StableHlo

variable (m : (ℓ : Loc nD τ sig) → Buf (Elt Ideal) ℓ) (c : Dev nD) (ρ : Dev nD → PrngReg)

/-- The reference's state is the scale times the mixer's state. -/
theorem refState_eq (b : Fin 2) (h : Fin 4) (n : ℕ) (d : Fin 64) (e : Fin 128) :
    refState m c b h n d e = scl * (D m c).state b h n d e := by
  induction n with
  | zero => exact (mul_zero scl).symm
  | succ n ih =>
    show cdec h * refState m c b h n d e + chunkKV m c b h n d e = _
    rw [ih]
    unfold chunkKV
    rw [kv_scaled (fun j => (D m c).k b h n j d) (kdec h) (fun j => (D m c).v b h n j e), state_scaled]
    rfl

/-- The reference's result at an index is the mixer's output. -/
theorem final_apply (b : Fin 2) (n r : Fin 128) (h : Fin 4) (e : Fin 128) :
    (finalContents condOps preI bodyI postI 128 m c (Proc.devRef .tc main_v103) : FVec Ideal S2x16384x512 .bf16)
        (ix3 b ⟨n.val * 128 + r.val, by omega⟩ ⟨h.val * 128 + e.val, by omega⟩) = (D m c).out b h n.val r e := by
  refine (final_v103 m c b n r h e).trans ?_
  unfold Data.out
  refine gated_congr (fun e' => ?_) (fun _ => rfl) (fun _ => rfl) e
  simp only [refState_eq]
  unfold chunkOut
  rw [cross_scaled]
  refine congrArg₂ (· + ·) (Finset.sum_congr rfl fun j _ => ?_) rfl
  exact score_scaled _ _ _ _

/-- The reference's result buffer after its run. -/
abbrev result : Buf (Elt Ideal) ((c.tc : Thread nD τ).loc main_v103) :=
  finalContents condOps preI bodyI postI 128 m c (Proc.devRef .tc main_v103)

/-- The reference's run, read: its result and its unchanged arguments. -/
theorem run : θ_run (defs (F := Ideal)) (onTc (τ := τ) (main (F := Ideal))) ⟨m, fun _ => 0, ρ⟩ (fun r => ∀ c : Dev nD,
      r.2.mem ((c.tc : Thread nD τ).loc main_v103) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨h c main_v103 (by decide),
      (h c main_arg0 (by decide)).trans (final_arg m c main_arg0 (by decide)),
      (h c main_arg1 (by decide)).trans (final_arg m c main_arg1 (by decide)),
      (h c main_arg2 (by decide)).trans (final_arg m c main_arg2 (by decide))⟩) (run_fold m ρ)

/-- The reference's frame: its arguments end unchanged, and it has no semaphore. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (run m ρ)

end Cert.ReferenceIdeal.Value

end

end
-- ==== Proof.Kernel2IdealPaths.lean ====
module

public import proofs.«01_k».proof.Proof.Gen.Kernel2Ideal.Flash.Runs
public import Idealize.ShloMosaic.Lib.Tactic.Stretches
public import Idealize.ShloMosaic.Lib.VecWindow
public import Idealize.ShloMosaic.Lib.Pipeline.Value

@[expose] public section

set_option maxRecDepth 16384

noncomputable section

namespace Cert.Kernel2Ideal.Experts

open Idealize.ShloMosaic Idealize.ShloMosaic.TcCoe Idealize.ShloMosaic.Tactic Cert.Kernel2Ideal.Gen

/-- The result's block of 512 rows: from the block's number of rows, its rows' words, its expert's three weights as the scratches hold
    them and the three biases. -/
def ffn (nr : BitVec 32) (x : Vec Ideal S512x512 .i32) (wg wu wd : Vec Ideal S1024x1024 .bf16) (bg bu bd : Vec Ideal S1x1x1x1024 .f32) : Vec Ideal S512x1024 .bf16 :=
  k0_pay1 (k0_pay7 nr x wg bg) (k0_pay8 nr x wu) bu wd bd

/-- The number of rows of the point's block, as the body loads it. -/
def rowsOf (i : grid0.Coords) (T1 : S348.Idx → Elt Ideal .i32) : BitVec 32 :=
  View.readAt (Elt Ideal) (tbM0_1).view (Rect.unit (s := S348) (k0_off4 i) S1.size (k0_off4_inb i)).toLoadRect T1 (Shape.Idx.first (numel1_S1.symm ▸ Nat.one_pos))

/-- A load of a whole staging block of an expert's weight reads the block. -/
theorem ld_w (a : Memref sig .tc .vmem S1x1x1024x1024 .f32) (x : Vec Ideal S1x1x1024x1024 .f32) :
    View.readAt (Elt Ideal) a.view (Rect.unit (s := S1x1x1024x1024) ![0, 0, 0, 0] S1x1x1024x1024.size inb_S1x1x1024x1024_S1x1x1024x1024_0_0_0_0).toLoadRect (a.view.rep x) = x :=
  View.readAt_rep_full _ _ _

/-- A load of a whole staging block of a bias reads the block. -/
theorem ld_b (a : Memref sig .tc .vmem S1x1x1x1024 .f32) (x : Vec Ideal S1x1x1x1024 .f32) :
    View.readAt (Elt Ideal) a.view (Rect.unit (s := S1x1x1x1024) ![0, 0, 0, 0] S1x1x1x1024.size inb_S1x1x1x1024_S1x1x1x1024_0_0_0_0).toLoadRect (a.view.rep x) = x :=
  View.readAt_rep_full _ _ _

/-- A load of the whole staging block of the rows reads the block. -/
theorem ld_x (a : Memref sig .tc .vmem S512x512 .i32) (x : Vec Ideal S512x512 .i32) :
    View.readAt (Elt Ideal) a.view (Rect.unit (s := S512x512) ![0, 0] S512x512.size inb_S512x512_S512x512_0_0).toLoadRect (a.view.rep x) = x :=
  View.readAt_rep_full _ _ _

/-- A load of a whole scratch just stored whole reads what was stored. -/
theorem ld_c (v : View sig .tc .vmem S1024x1024 .bf16) (x : Vec Ideal S1024x1024 .bf16) :
    v.readCov (Val := Elt Ideal) [⟨Rect.unit (s := S1024x1024) ![0, 0] S1024x1024.size inb_S1024x1024_S1024x1024_0_0, x⟩]
      (Rect.unit (s := S1024x1024) ![0, 0] S1024x1024.size inb_S1024x1024_S1024x1024_0_0).toLoadRect = x :=
  View.readCov_full _ _ _ _ _

/-- A store of a whole buffer leaves what was stored. -/
theorem st_whole (b : Ref sig .tc) (f w : b.ty.Contents (Elt Ideal)) {off : Fin b.ty.shape.rank → ℕ} (inb : ∀ a, off a + b.ty.shape.size a ≤ b.ty.shape.size a) :
    (View.whole b).writes (Elt Ideal) f [⟨Rect.unit off b.ty.shape.size inb, w⟩] = w :=
  View.read_writes_full (View.whole b) f inb w []

section
variable (c : Dev nD) (i : grid0.Coords) (arg4 : Memref sig .tc .vmem S512x512 .i32) (harg4 : arg4.IsWhole) (arg5 : Memref sig .tc .vmem S1x1x1024x1024 .f32) (harg5 : arg5.IsWhole)
  (arg6 : Memref sig .tc .vmem S1x1x1x1024 .f32) (harg6 : arg6.IsWhole) (arg7 : Memref sig .tc .vmem S1x1x1024x1024 .f32) (harg7 : arg7.IsWhole)
  (arg8 : Memref sig .tc .vmem S1x1x1x1024 .f32) (harg8 : arg8.IsWhole) (arg9 : Memref sig .tc .vmem S1x1x1024x1024 .f32) (harg9 : arg9.IsWhole)
  (arg10 : Memref sig .tc .vmem S1x1x1x1024 .f32) (harg10 : arg10.IsWhole) (arg11 : Memref sig .tc .vmem S512x1024 .bf16) (harg11 : arg11.IsWhole)
  (T0 : S348.Idx → Elt Ideal .i32) (T1 : S348.Idx → Elt Ideal .i32) (T2 : S1.Idx → Elt Ideal .i32)
  (x0 : S512x512.Idx → Elt Ideal .i32) (x1 : S1x1x1024x1024.Idx → Elt Ideal .f32) (x2 : S1x1x1x1024.Idx → Elt Ideal .f32) (x3 : S1x1x1024x1024.Idx → Elt Ideal .f32)
  (x4 : S1x1x1x1024.Idx → Elt Ideal .f32) (x5 : S1x1x1024x1024.Idx → Elt Ideal .f32) (x6 : S1x1x1x1024.Idx → Elt Ideal .f32)
  (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

/-- A block's first point stores the layer of its rows at its expert's weights. -/
theorem pieces_A (k0_h1) (hc1) (k0_h3) : (kernelRun0_A c i arg4 harg4 arg5 harg5 arg6 harg6 arg7 harg7 arg8 harg8 arg9 harg9 arg10 harg10 arg11 harg11 T0 T1 T2 x0 x1 x2 x3 x4 x5 x6 k0_h1 hc1 k0_h3).1
    = [⟨Rect.unit ![0, 0] S512x1024.size inb_S512x1024_S512x1024_0_0, ffn (rowsOf i T1) x0 (k0_pay3 x1) (k0_pay4 x3) (k0_pay5 x5) x2 x4 x6⟩] := by
  dsimp only [kernelRun0_A]
  sl_open_run
  unfold ffn rowsOf
  rw [ld_w, ld_w, ld_w, ld_b, ld_b, ld_b, ld_x, ld_c, ld_c, ld_c]

/-- The first scratch then holds the gate's weight. -/
theorem gate_A (k0_h1) (hc1) (k0_h3) : (kernelRun0_A c i arg4 harg4 arg5 harg5 arg6 harg6 arg7 harg7 arg8 harg8 arg9 harg9 arg10 harg10 arg11 harg11 T0 T1 T2 x0 x1 x2 x3 x4 x5 x6 k0_h1 hc1 k0_h3).2.1 = (k0_pay3 x1 : FVec Ideal S1024x1024 .bf16) := by
  dsimp only [kernelRun0_A]
  sl_open_run
  rw [ld_w]
  exact st_whole cc0_scratch0 _ _ _

/-- The second scratch then holds the second weight. -/
theorem up_A (k0_h1) (hc1) (k0_h3) : (kernelRun0_A c i arg4 harg4 arg5 harg5 arg6 harg6 arg7 harg7 arg8 harg8 arg9 harg9 arg10 harg10 arg11 harg11 T0 T1 T2 x0 x1 x2 x3 x4 x5 x6 k0_h1 hc1 k0_h3).2.2.1 = (k0_pay4 x3 : FVec Ideal S1024x1024 .bf16) := by
  dsimp only [kernelRun0_A]
  sl_open_run
  rw [ld_w]
  exact st_whole cc0_scratch1 _ _ _

/-- The third scratch then holds the last weight. -/
theorem down_A (k0_h1) (hc1) (k0_h3) : (kernelRun0_A c i arg4 harg4 arg5 harg5 arg6 harg6 arg7 harg7 arg8 harg8 arg9 harg9 arg10 harg10 arg11 harg11 T0 T1 T2 x0 x1 x2 x3 x4 x5 x6 k0_h1 hc1 k0_h3).2.2.2.1 = (k0_pay5 x5 : FVec Ideal S1024x1024 .bf16) := by
  dsimp only [kernelRun0_A]
  sl_open_run
  rw [ld_w]
  exact st_whole cc0_scratch2 _ _ _

/-- A later point of the same expert stores the layer of its rows at the weights the scratches hold. -/
theorem pieces_B (k0_h1) (hc1) (k0_h3) : (kernelRun0_B c i arg4 harg4 arg5 harg5 arg6 harg6 arg7 harg7 arg8 harg8 arg9 harg9 arg10 harg10 arg11 harg11 T0 T1 T2 x0 x1 x2 x3 x4 x5 x6 xa0 xa1 xa2 k0_h1 hc1 k0_h3).1
    = [⟨Rect.unit ![0, 0] S512x1024.size inb_S512x1024_S512x1024_0_0, ffn (rowsOf i T1) x0 xa0 xa1 xa2 x2 x4 x6⟩] := by
  dsimp only [kernelRun0_B]
  sl_open_run
  unfold ffn rowsOf
  rw [ld_b, ld_b, ld_b, ld_x, View.readAt_full, View.readAt_full, View.readAt_full]
  rfl

/-- The scratches keep what they held. -/
theorem kept_B (k0_h1) (hc1) (k0_h3) : (kernelRun0_B c i arg4 harg4 arg5 harg5 arg6 harg6 arg7 harg7 arg8 harg8 arg9 harg9 arg10 harg10 arg11 harg11 T0 T1 T2 x0 x1 x2 x3 x4 x5 x6 xa0 xa1 xa2 k0_h1 hc1 k0_h3).2.1 = xa0
    ∧ (kernelRun0_B c i arg4 harg4 arg5 harg5 arg6 harg6 arg7 harg7 arg8 harg8 arg9 harg9 arg10 harg10 arg11 harg11 T0 T1 T2 x0 x1 x2 x3 x4 x5 x6 xa0 xa1 xa2 k0_h1 hc1 k0_h3).2.2.1 = xa1 ∧ (kernelRun0_B c i arg4 harg4 arg5 harg5 arg6 harg6 arg7 harg7 arg8 harg8 arg9 harg9 arg10 harg10 arg11 harg11 T0 T1 T2 x0 x1 x2 x3 x4 x5 x6 xa0 xa1 xa2 k0_h1 hc1 k0_h3).2.2.2.1 = xa2 :=
  ⟨rfl, rfl, rfl⟩

/-- A point past the valid blocks stores zeros. -/
theorem pieces_C (k0_h1) (k0_h3) : (kernelRun0_C c i arg4 harg4 arg5 harg5 arg6 harg6 arg7 harg7 arg8 harg8 arg9 harg9 arg10 harg10 arg11 harg11 T0 T1 T2 x0 x1 x2 x3 x4 x5 x6 xa0 xa1 xa2 k0_h1 k0_h3).1
    = [⟨Rect.unit ![0, 0] S512x1024.size inb_S512x1024_S512x1024_0_0, (k0_pay2 : FVec Ideal S512x1024 .bf16)⟩] := by
  dsimp only [kernelRun0_C]
  sl_open_run
  rfl

/-- Past the valid blocks the scratches keep what they held. -/
theorem kept_C (k0_h1) (k0_h3) : (kernelRun0_C c i arg4 harg4 arg5 harg5 arg6 harg6 arg7 harg7 arg8 harg8 arg9 harg9 arg10 harg10 arg11 harg11 T0 T1 T2 x0 x1 x2 x3 x4 x5 x6 xa0 xa1 xa2 k0_h1 k0_h3).2.1 = xa0
    ∧ (kernelRun0_C c i arg4 harg4 arg5 harg5 arg6 harg6 arg7 harg7 arg8 harg8 arg9 harg9 arg10 harg10 arg11 harg11 T0 T1 T2 x0 x1 x2 x3 x4 x5 x6 xa0 xa1 xa2 k0_h1 k0_h3).2.2.1 = xa1 ∧ (kernelRun0_C c i arg4 harg4 arg5 harg5 arg6 harg6 arg7 harg7 arg8 harg8 arg9 harg9 arg10 harg10 arg11 harg11 T0 T1 T2 x0 x1 x2 x3 x4 x5 x6 xa0 xa1 xa2 k0_h1 k0_h3).2.2.2.1 = xa2 :=
  ⟨rfl, rfl, rfl⟩

end

end Cert.Kernel2Ideal.Experts

end

end
-- ==== Proof.Kernel2IdealTables.lean ====
module

public import proofs.«01_k».proof.Proof.Kernel2IdealPaths
public import Idealize.ShloMosaic.Lib.WordCmp

@[expose] public section

set_option maxRecDepth 16384

noncomputable section

namespace Cert.Kernel2Ideal.Experts

open Idealize.ShloMosaic Idealize.ShloMosaic.WordCmp Idealize.ShloMosaic.TcCoe Idealize.ShloMosaic.Tactic Cert.Kernel2Ideal.Gen Cert.Kernel2Ideal

/-- The three tables as one family. -/
def tabs (T0 T1 : S348.Idx → BitVec 32) (T2 : S1.Idx → BitVec 32) : pre0.Contents (Elt Ideal)
  | 0 => T0
  | 1 => T1
  | 2 => T2
  | ⟨_ + 3, h⟩ => absurd h (Nat.not_lt.2 (Nat.le_add_left _ _))

/-- A table position below the number of blocks. -/
def at348 (n : ℕ) (h : n < 348) : S348.Idx := fun a => match a with
  | ⟨0, _⟩ => ⟨n, h⟩

/-- The only position of the table of one word. -/
def at1 : S1.Idx := fun a => match a with
  | ⟨0, _⟩ => ⟨0, Nat.one_pos⟩

theorem at1_only (y : S1.Idx) : y = at1 := funext fun a => by
  match a with
  | ⟨0, _⟩ => exact Subsingleton.elim (α := Fin 1) _ _

/-- What the launch asks of the tables: every block's expert is one of the 32, and at least one block is valid. -/
structure Good (T0 : S348.Idx → BitVec 32) (T2 : S1.Idx → BitVec 32) : Prop where
  known : ∀ y, (T0 y).toNat < 32
  some : 1 ≤ (T2 at1).toInt

/-- The expert of block `n`. -/
def expert (T0 : S348.Idx → BitVec 32) (n : ℕ) : ℕ := if h : n < 348 then (T0 (at348 n h)).toNat else 0

/-- The number of valid blocks. -/
def valids (T2 : S1.Idx → BitVec 32) : ℕ := (T2 at1).toNat

theorem Good.pos {T0 : S348.Idx → BitVec 32} {T2 : S1.Idx → BitVec 32} (g : Good T0 T2) : 1 ≤ valids T2 ∧ valids T2 < 2 ^ 31 := by
  have h := g.some
  have h31 := (toInt_nonneg_iff_lt_half (T2 at1)).mp (by omega)
  rw [toInt_eq_toNat_of_lt_half h31] at h
  unfold valids
  norm_num at h31
  omega

theorem Good.lt {T0 : S348.Idx → BitVec 32} {T2 : S1.Idx → BitVec 32} (g : Good T0 T2) (n : ℕ) : expert T0 n < 32 := by
  unfold expert
  split
  · exact g.known _
  · omega

/-- A word below the number of blocks is its position. -/
theorem word_pos (n : ℕ) (h : n < 348) : (BitVec.ofNat 32 n).toNat = n := by
  rw [BitVec.toNat_ofNat]
  omega

theorem crd_lt (i : grid0.Coords) : (i 0).val < 348 := (i 0).isLt

/-- The expert table's word at a point is that point's expert. -/
theorem at_expert (T0 T1 : S348.Idx → BitVec 32) (T2 : S1.Idx → BitVec 32) (i : grid0.Coords) (H) :
    ((tabs T0 T1 T2).at 0 (Rect.unit (s := S348) ![(Scalar.indexCast (BitVec.ofNat 32 (i 0).val)).toNat] S1.size H) numel1_S1) = T0 (at348 (i 0).val (crd_lt i)) := by
  refine congrArg T0 (funext fun a => Fin.ext ?_)
  match a with
  | ⟨0, _⟩ =>
    show (BitVec.ofNat 32 (i 0).val).toNat + 1 * _ = (i 0).val
    rw [word_pos _ (crd_lt i)]
    have : ∀ x : Fin 1, (i 0).val + 1 * x.val = (i 0).val := fun x => by omega
    exact this _

/-- The blocks' index maps of the weights and biases: the point's expert in layer 0. -/
theorem idx_w (T0 T1 : S348.Idx → BitVec 32) (T2 : S1.Idx → BitVec 32) (i : grid0.Coords) :
    cc0_transform_1 k0_off1_inb numel1_S1 (tabs T0 T1 T2) i = ![0, expert T0 (i 0).val, 0, 0] := by
  have e : expert T0 (i 0).val = (T0 (at348 (i 0).val (crd_lt i))).toNat := dif_pos (crd_lt i)
  rw [e, ← at_expert T0 T1 T2 i (k0_off1_inb i)]
  rfl

/-- The number of valid blocks less one, as a word. -/
theorem pred_word {T0 : S348.Idx → BitVec 32} {T2 : S1.Idx → BitVec 32} (g : Good T0 T2) : (IntOp.subi (T2 at1) 1#32).toNat = valids T2 - 1 := by
  have ⟨h1, h2⟩ := g.pos
  unfold valids at *
  unfold IntOp.subi
  rw [BitVec.toNat_sub]
  norm_num
  omega

/-- The rows' index map: the point's block, or the last valid block. -/
theorem idx_x {T0 : S348.Idx → BitVec 32} (T1 : S348.Idx → BitVec 32) {T2 : S1.Idx → BitVec 32} (g : Good T0 T2) (i : grid0.Coords) :
    cc0_transform_0 inb_S1_S1_0 numel1_S1 (tabs T0 T1 T2) i = ![min (i 0).val (valids T2 - 1), 0] := by
  have ⟨h1, h2⟩ := g.pos
  have hp := pred_word g
  have e : (IntOp.minsi (BitVec.ofNat 32 (i 0).val) (IntOp.subi (T2 at1) 1#32)).toNat = min (i 0).val (valids T2 - 1) := by
    have hi := crd_lt i
    have hs : (IntOp.subi (T2 at1) 1#32) = BitVec.ofNat 32 (valids T2 - 1) := by
      rw [← hp, BitVec.ofNat_toNat, BitVec.setWidth_eq]
    have hc := cmpi_slt_ofNat_eq_one_iff (w := 32) (a := (i 0).val) (b := valids T2 - 1) (by norm_num; omega) (by norm_num; omega)
    rw [cmpi_slt_eq, ofBool_decide_eq_one_iff] at hc
    unfold IntOp.minsi
    rw [hs]
    by_cases hlt : (i 0).val < valids T2 - 1
    · rw [if_pos (by rw [BitVec.slt_iff_toInt_lt]; exact hc.mpr hlt), word_pos _ hi]
      omega
    · rw [if_neg (by rw [BitVec.slt_iff_toInt_lt]; exact fun h => hlt (hc.mp h)), ← hs, hp]
      omega
  have e2 : ∀ H, (tabs T0 T1 T2).at 2 (Rect.unit (s := S1) ![0] S1.size H) numel1_S1 = T2 at1 := fun H => congrArg T2 (at1_only _)
  rw [← e]
  unfold cc0_transform_0
  rw [e2]
  rfl

/-- The word of the number of valid blocks, as the body loads it. -/
theorem ld_valid (T2 : S1.Idx → BitVec 32) : View.readAt (Elt Ideal) (tbM0_2).view (Rect.unit (s := S1) ![0] S1.size inb_S1_S1_0).toLoadRect T2 (Shape.Idx.first (numel1_S1.symm ▸ Nat.one_pos)) = T2 at1 :=
  congrArg T2 (at1_only _)

/-- The body's first branch is taken on the valid blocks. -/
theorem cond_valid {T0 : S348.Idx → BitVec 32} {T2 : S1.Idx → BitVec 32} (g : Good T0 T2) (i : grid0.Coords) : k0_cond1 i (T2 at1) = 1#1 ↔ (i 0).val < valids T2 := by
  have ⟨h1, h2⟩ := g.pos
  have hi := crd_lt i
  have hs : T2 at1 = BitVec.ofNat 32 (valids T2) := by
    unfold valids
    rw [BitVec.ofNat_toNat, BitVec.setWidth_eq]
  have hc := cmpi_slt_ofNat_eq_one_iff (w := 32) (a := (i 0).val) (b := valids T2) (by norm_num; omega) (by norm_num; omega)
  rw [← hs] at hc
  rw [← hc]
  show IntOp.cmpi .ne ((IntOp.cmpi .slt (BitVec.ofNat 32 (i 0).val) (T2 at1)).setWidth 32) 0#32 = 1#1 ↔ _
  generalize IntOp.cmpi .slt (BitVec.ofNat 32 (i 0).val) (T2 at1) = b
  revert b
  decide

/-- The body's last branch is taken on the others. -/
theorem cond_rest {T0 : S348.Idx → BitVec 32} {T2 : S1.Idx → BitVec 32} (g : Good T0 T2) (i : grid0.Coords) : k0_cond3 i (T2 at1) = 1#1 ↔ ¬ (i 0).val < valids T2 := by
  have ⟨h1, h2⟩ := g.pos
  have hi := crd_lt i
  have hs : T2 at1 = BitVec.ofNat 32 (valids T2) := by
    unfold valids
    rw [BitVec.ofNat_toNat, BitVec.setWidth_eq]
  have hc := cmpi_sge_ofNat_eq_one_iff (w := 32) (a := (i 0).val) (b := valids T2) (by norm_num; omega) (by norm_num; omega)
  rw [← hs] at hc
  rw [Nat.not_lt, ← hc]
  show IntOp.cmpi .ne ((IntOp.cmpi .sge (BitVec.ofNat 32 (i 0).val) (T2 at1)).setWidth 32) 0#32 = 1#1 ↔ _
  generalize IntOp.cmpi .sge (BitVec.ofNat 32 (i 0).val) (T2 at1) = b
  revert b
  decide

/-- The expert table's word at the point, as the body loads it. -/
theorem ld_expert (T0 : S348.Idx → BitVec 32) (i : grid0.Coords) : View.readAt (Elt Ideal) (tbM0_0).view (Rect.unit (s := S348) (k0_off2 i) S1.size (k0_off2_inb i)).toLoadRect T0 (Shape.Idx.first (numel1_S1.symm ▸ Nat.one_pos)) = T0 (at348 (i 0).val (crd_lt i)) :=
  at_expert T0 T0 (fun _ => 0) i (k0_off2_inb i)

/-- The rows table's word at the point, as the body loads it. -/
theorem rowsOf_eq (T1 : S348.Idx → BitVec 32) (i : grid0.Coords) : rowsOf i T1 = T1 (at348 (i 0).val (crd_lt i)) :=
  at_expert T1 T1 (fun _ => 0) i (k0_off4_inb i)

/-- The expert table's word at the point before, as the body loads it. -/
theorem ld_before (T0 : S348.Idx → BitVec 32) (i : grid0.Coords) : View.readAt (Elt Ideal) (tbM0_0).view (Rect.unit (s := S348) (k0_off3 i) S1.size (k0_off3_inb i)).toLoadRect T0 (Shape.Idx.first (numel1_S1.symm ▸ Nat.one_pos)) = T0 (at348 ((i 0).val - 1) (lt_of_le_of_lt (Nat.sub_le _ _) (crd_lt i))) := by
  have hi := crd_lt i
  refine congrArg T0 (funext fun a => Fin.ext ?_)
  match a with
  | ⟨0, _⟩ =>
    show (IntOp.maxsi (IntOp.subi (BitVec.ofNat 32 (i 0).val) 1#32) 0#32).toNat + 1 * _ = (i 0).val - 1
    have e : (IntOp.maxsi (IntOp.subi (BitVec.ofNat 32 (i 0).val) 1#32) 0#32).toNat = (i 0).val - 1 := by
      generalize (i 0).val = n at hi
      revert n
      decide +kernel
    rw [e]
    have : ∀ x : Fin 1, ((i 0).val - 1) + 1 * x.val = (i 0).val - 1 := fun x => by omega
    exact this _

/-- The body turns an expert's weights into the scratches at a block's first point. -/
theorem cond_first (T0 : S348.Idx → BitVec 32) (i : grid0.Coords) :
    Scalar.cmpi .ne (Scalar.extui (Scalar.ori (Scalar.cmpi .eq (BitVec.ofNat 32 (i 0).val) 0#32) (Scalar.cmpi .ne
      (View.readAt (Elt Ideal) (tbM0_0).view (Rect.unit (s := S348) (k0_off2 i) S1.size (k0_off2_inb i)).toLoadRect T0 (Shape.Idx.first (numel1_S1.symm ▸ Nat.one_pos)))
      (View.readAt (Elt Ideal) (tbM0_0).view (Rect.unit (s := S348) (k0_off3 i) S1.size (k0_off3_inb i)).toLoadRect T0 (Shape.Idx.first (numel1_S1.symm ▸ Nat.one_pos)))))) 0#32 = 1#1
    ↔ (i 0).val = 0 ∨ expert T0 (i 0).val ≠ expert T0 ((i 0).val - 1) := by
  have hi := crd_lt i
  rw [ld_expert, ld_before]
  have e1 : expert T0 (i 0).val = (T0 (at348 (i 0).val (crd_lt i))).toNat := dif_pos (crd_lt i)
  have e2 : expert T0 ((i 0).val - 1) = (T0 (at348 ((i 0).val - 1) (lt_of_le_of_lt (Nat.sub_le _ _) (crd_lt i)))).toNat := dif_pos (lt_of_le_of_lt (Nat.sub_le _ _) (crd_lt i))
  have h1 := cmpi_eq_ofNat_eq_one_iff (w := 32) (a := (i 0).val) (b := 0) (by norm_num; omega) (by norm_num)
  rw [← h1, e1, e2]
  generalize T0 (at348 (i 0).val (crd_lt i)) = p
  generalize T0 (at348 ((i 0).val - 1) (lt_of_le_of_lt (Nat.sub_le _ _) (crd_lt i))) = q
  show IntOp.cmpi .ne ((IntOp.ori (IntOp.cmpi .eq (BitVec.ofNat 32 (i 0).val) (BitVec.ofNat 32 0)) (IntOp.cmpi .ne p q)).setWidth 32) 0#32 = 1#1 ↔ _
  generalize IntOp.cmpi .eq (BitVec.ofNat 32 (i 0).val) (BitVec.ofNat 32 0) = b
  have h2 : p.toNat ≠ q.toNat ↔ IntOp.cmpi .ne p q = 1#1 := by
    rw [cmpi_ne_eq_toNat, ofBool_decide_eq_one_iff]
  rw [h2]
  generalize IntOp.cmpi .ne p q = d
  revert b d
  decide

/-- The launch's checks hold of such tables: every block lies inside its array and its rows fill whole words. -/
theorem ok {T0 : S348.Idx → BitVec 32} (T1 : S348.Idx → BitVec 32) {T2 : S1.Idx → BitVec 32} (g : Good T0 T2) : ok0 (F := Ideal) (tabs T0 T1 T2) := by
  have hx : ∀ i : grid0.Coords, ∀ a, (cc0_transform_0 inb_S1_S1_0 numel1_S1 (tabs T0 T1 T2) i a + 1) * S512x512.size a ≤ S178176x512.size a := fun i a => by
    have hi := crd_lt i
    rw [idx_x T1 g]
    match a with
    | ⟨0, _⟩ =>
      show (min (i 0).val (valids T2 - 1) + 1) * 512 ≤ 178176
      omega
    | ⟨1, _⟩ => exact Nat.le_refl 512
  have hw : ∀ i : grid0.Coords, ∀ a, (cc0_transform_1 k0_off1_inb numel1_S1 (tabs T0 T1 T2) i a + 1) * S1x1x1024x1024.size a ≤ S2x32x1024x1024.size a := fun i a => by
    have he := g.lt (i 0).val
    rw [idx_w]
    match a with
    | ⟨0, _⟩ => show (0 + 1) * 1 ≤ 2; omega
    | ⟨1, _⟩ => show (expert T0 (i 0).val + 1) * 1 ≤ 32; omega
    | ⟨2, _⟩ => exact Nat.le_refl 1024
    | ⟨3, _⟩ => exact Nat.le_refl 1024
  have hb : ∀ i : grid0.Coords, ∀ a, (cc0_transform_1 k0_off1_inb numel1_S1 (tabs T0 T1 T2) i a + 1) * S1x1x1x1024.size a ≤ S2x32x1x1024.size a := fun i a => by
    have he := g.lt (i 0).val
    rw [idx_w]
    match a with
    | ⟨0, _⟩ => show (0 + 1) * 1 ≤ 2; omega
    | ⟨1, _⟩ => show (expert T0 (i 0).val + 1) * 1 ≤ 32; omega
    | ⟨2, _⟩ => exact Nat.le_refl 1
    | ⟨3, _⟩ => exact Nat.le_refl 1024
  exact ⟨fun i => ⟨hx i, .inl rfl⟩,
    fun i => ⟨hw i, .inl rfl⟩, fun i => ⟨hb i, .inl rfl⟩, fun i => ⟨hw i, .inl rfl⟩, fun i => ⟨hb i, .inl rfl⟩, fun i => ⟨hw i, .inl rfl⟩, fun i => ⟨hb i, .inl rfl⟩⟩

end Cert.Kernel2Ideal.Experts

end
-- ==== Proof.Kernel2IdealBody.lean ====
module

public import proofs.«01_k».proof.Proof.Kernel2IdealTables
public import Idealize.ShloMosaic.Lib.Pipeline.Kit
public import Idealize.ShloMosaic.Lib.Pipeline.TableIdle
public import Idealize.ShloMosaic.Lib.Pipeline.FrameBody
public import Idealize.ShloMosaic.Adequacy
public import Idealize.ShloMosaic.Init

@[expose] public section

set_option maxRecDepth 16384

noncomputable section

namespace Cert.Kernel2Ideal.Experts

open Idealize.ShloMosaic Idealize.ShloMosaic.TcCoe Idealize.ShloMosaic.Tactic Cert.Kernel2Ideal.Gen Cert.Kernel2Ideal
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Expert `e`'s block of a weight array, in layer 0. -/
def wblk (A : S2x32x1024x1024.Idx → Elt Ideal .f32) (e : ℕ) : Vec Ideal S1x1x1024x1024 .f32 := fun y => A fun a => match a with
  | ⟨0, _⟩ => (⟨0, by decide⟩ : Fin 2)
  | ⟨1, _⟩ => (⟨e % 32, Nat.mod_lt _ (by decide)⟩ : Fin 32)
  | ⟨2, _⟩ => (y 2 : Fin 1024)
  | ⟨3, _⟩ => (y 3 : Fin 1024)

/-- Expert `e`'s block of a bias array, in layer 0. -/
def bblk (A : S2x32x1x1024.Idx → Elt Ideal .f32) (e : ℕ) : Vec Ideal S1x1x1x1024 .f32 := fun y => A fun a => match a with
  | ⟨0, _⟩ => (⟨0, by decide⟩ : Fin 2)
  | ⟨1, _⟩ => (⟨e % 32, Nat.mod_lt _ (by decide)⟩ : Fin 32)
  | ⟨2, _⟩ => (y 2 : Fin 1)
  | ⟨3, _⟩ => (y 3 : Fin 1024)

/-- Block `n` of the rows. -/
def xblk (A : S178176x512.Idx → Elt Ideal .i32) (n : ℕ) : Vec Ideal S512x512 .i32 := fun y => A fun a => match a with
  | ⟨0, _⟩ => (⟨(n % 348) * 512 + (y 0 : Fin 512).val, by have h0 : (y 0 : Fin 512).val < 512 := (y 0 : Fin 512).isLt; have := Nat.mod_lt n (show 348 > 0 by decide); show _ < 178176; omega⟩ : Fin 178176)
  | ⟨1, _⟩ => (y 1 : Fin 512)

/-- The number of rows of block `n`. -/
def rows (T1 : S348.Idx → BitVec 32) (n : ℕ) : BitVec 32 := if h : n < 348 then T1 (at348 n h) else 0

variable {T0 : S348.Idx → BitVec 32} (T1 : S348.Idx → BitVec 32) {T2 : S1.Idx → BitVec 32} (g : Good T0 T2)

/-- The tables as the launch takes them, and the pipeline at them. -/
def adm : (pcfg0 (F := Ideal)).Adm := ⟨tabs T0 T1 T2, ok T1 g⟩
abbrev cfgA : Pipeline.Cfg sig Λ₀ := cfg0 (F := Ideal) (adm T1 g)
abbrev pcs : Fin 1 → Pipeline.Cfg sig Λ₀ := Pipeline.pin (pcfgs (F := Ideal)) fun _ => adm T1 g

/-- A point's coordinates. -/
abbrev crd (t : Fin (cfgA T1 g).N) : (cfgA T1 g).grid.Coords := (cfgA T1 g).grid.coords t

theorem crd_val (t : Fin (cfgA T1 g).N) : ((crd T1 g t) 0).val = t.val := by
  have ht : t.val < 348 := lt_of_lt_of_eq t.isLt N_0
  have h := Pipeline.Grid.coords_val (G := grid0) t (0 : Fin 1) (S := 1) (B := 348) (by decide) rfl
  refine h.trans ?_
  omega

theorem at348_eq {a b : ℕ} (h : a = b) (ha : a < 348) (hb : b < 348) : at348 a ha = at348 b hb := by
  subst h
  rfl

/-- The rows' word the body loads at a point is the point's block's. -/
theorem rows_at (t : Fin (cfgA T1 g).N) : rowsOf (crd T1 g t) T1 = rows T1 t.val := by
  have ht : t.val < 348 := lt_of_lt_of_eq t.isLt N_0
  rw [rowsOf_eq, rows, dif_pos ht]
  exact congrArg T1 (at348_eq (crd_val T1 g t) _ _)

/-- The windows' current staging buffers at a point, and that each is whole. -/
abbrev st0 (t : Fin (cfgA T1 g).N) : Memref sig .tc .vmem S512x512 .i32 := spec0_0.stage ((cfgA T1 g).slots t (0 : Fin 8))
abbrev st1 (t : Fin (cfgA T1 g).N) : Memref sig .tc .vmem S1x1x1024x1024 .f32 := spec0_1.stage ((cfgA T1 g).slots t (1 : Fin 8))
abbrev st2 (t : Fin (cfgA T1 g).N) : Memref sig .tc .vmem S1x1x1x1024 .f32 := spec0_2.stage ((cfgA T1 g).slots t (2 : Fin 8))
abbrev st3 (t : Fin (cfgA T1 g).N) : Memref sig .tc .vmem S1x1x1024x1024 .f32 := spec0_3.stage ((cfgA T1 g).slots t (3 : Fin 8))
abbrev st4 (t : Fin (cfgA T1 g).N) : Memref sig .tc .vmem S1x1x1x1024 .f32 := spec0_4.stage ((cfgA T1 g).slots t (4 : Fin 8))
abbrev st5 (t : Fin (cfgA T1 g).N) : Memref sig .tc .vmem S1x1x1024x1024 .f32 := spec0_5.stage ((cfgA T1 g).slots t (5 : Fin 8))
abbrev st6 (t : Fin (cfgA T1 g).N) : Memref sig .tc .vmem S1x1x1x1024 .f32 := spec0_6.stage ((cfgA T1 g).slots t (6 : Fin 8))
abbrev st7 (t : Fin (cfgA T1 g).N) : Memref sig .tc .vmem S512x1024 .bf16 := spec0_7.stage ((cfgA T1 g).slots t (7 : Fin 8))
abbrev hw0 (t : Fin (cfgA T1 g).N) : (st0 T1 g t).IsWhole := hstage0_0 (((cfgA T1 g).slots t (0 : Fin 8)).cast nbuf0_0)
abbrev hw1 (t : Fin (cfgA T1 g).N) : (st1 T1 g t).IsWhole := hstage0_1 (((cfgA T1 g).slots t (1 : Fin 8)).cast nbuf0_1)
abbrev hw2 (t : Fin (cfgA T1 g).N) : (st2 T1 g t).IsWhole := hstage0_2 (((cfgA T1 g).slots t (2 : Fin 8)).cast nbuf0_2)
abbrev hw3 (t : Fin (cfgA T1 g).N) : (st3 T1 g t).IsWhole := hstage0_3 (((cfgA T1 g).slots t (3 : Fin 8)).cast nbuf0_3)
abbrev hw4 (t : Fin (cfgA T1 g).N) : (st4 T1 g t).IsWhole := hstage0_4 (((cfgA T1 g).slots t (4 : Fin 8)).cast nbuf0_4)
abbrev hw5 (t : Fin (cfgA T1 g).N) : (st5 T1 g t).IsWhole := hstage0_5 (((cfgA T1 g).slots t (5 : Fin 8)).cast nbuf0_5)
abbrev hw6 (t : Fin (cfgA T1 g).N) : (st6 T1 g t).IsWhole := hstage0_6 (((cfgA T1 g).slots t (6 : Fin 8)).cast nbuf0_6)
abbrev hw7 (t : Fin (cfgA T1 g).N) : (st7 T1 g t).IsWhole := hstage0_7 (((cfgA T1 g).slots t (7 : Fin 8)).cast nbuf0_7)

/-- The rows are handed to every block's point, so no point leaves the result's block as it was. -/
theorem busy (t : Fin (cfgA T1 g).N) : (cfgA T1 g).idle (7 : Fin 8) (crd T1 g t) = false := by
  have e : (tabs T0 T1 T2 : pre0.Contents (Elt Ideal)).atD 2 ![0] = T2 at1 := by
    unfold Pipeline.Prefetch.Contents.atD
    rw [dif_pos (fun a => by match a with | ⟨0, _⟩ => exact Nat.le_refl 1)]
    exact congrArg T2 (at1_only _)
  show (!(k0_cond1 (crd T1 g t) ((tabs T0 T1 T2 : pre0.Contents (Elt Ideal)).atD 2 ![0]) == 1#1) && !(k0_cond3 (crd T1 g t) ((tabs T0 T1 T2 : pre0.Contents (Elt Ideal)).atD 2 ![0]) == 1#1)) = false
  rw [e]
  by_cases h : ((crd T1 g t) 0).val < valids T2
  · rw [(cond_valid g _).mpr h]; rfl
  · rw [(cond_rest g _).mpr h]; exact Bool.and_false _

variable (m : (ℓ : Loc nD τ sig) → Buf (Elt Ideal) ℓ) (ρ : Dev nD → PrngReg)

/-- Each window's block at a point, of the array as the launch finds it. -/
def iblk (c : Dev nD) (w : Fin (cfgA T1 g).W) (t : Fin (cfgA T1 g).N) : (((cfgA T1 g).win w).xblock (crd T1 g t)).Idx → Elt Ideal ((cfgA T1 g).win w).elt :=
  (((cfgA T1 g).win w).blk t).view.read (Elt Ideal) (m (((cfgA T1 g).win w).arr.view.loc (c : Thread nD τ)))

/-- The arguments at the layer's literal shapes. -/
abbrev X (c : Dev nD) : S178176x512.Idx → Elt Ideal .i32 := m ((c : Thread nD τ).loc main_arg0)
abbrev Wg (c : Dev nD) : S2x32x1024x1024.Idx → Elt Ideal .f32 := m ((c : Thread nD τ).loc main_arg4)
abbrev Bg (c : Dev nD) : S2x32x1x1024.Idx → Elt Ideal .f32 := m ((c : Thread nD τ).loc main_arg5)
abbrev Wu (c : Dev nD) : S2x32x1024x1024.Idx → Elt Ideal .f32 := m ((c : Thread nD τ).loc main_arg6)
abbrev Bu (c : Dev nD) : S2x32x1x1024.Idx → Elt Ideal .f32 := m ((c : Thread nD τ).loc main_arg7)
abbrev Wd (c : Dev nD) : S2x32x1024x1024.Idx → Elt Ideal .f32 := m ((c : Thread nD τ).loc main_arg8)
abbrev Bd (c : Dev nD) : S2x32x1x1024.Idx → Elt Ideal .f32 := m ((c : Thread nD τ).loc main_arg9)

theorem iblk0 (c : Dev nD) (t : Fin (cfgA T1 g).N) : iblk T1 g m c (0 : Fin 8) t = xblk (X m c) (min t.val (valids T2 - 1)) := by
  have ht : t.val < 348 := lt_of_lt_of_eq t.isLt N_0
  funext y
  refine congrArg (X m c) (funext fun a => Fin.ext ?_)
  have e : ((cfgA T1 g).win (0 : Fin 8)).index t = ![min t.val (valids T2 - 1), 0] := (idx_x T1 g (crd T1 g t)).trans (by rw [crd_val])
  match a with
  | ⟨0, _⟩ =>
    show ((cfgA T1 g).win (0 : Fin 8)).index t 0 * 512 + 1 * (y 0).val = (min t.val (valids T2 - 1) % 348) * 512 + (y 0).val
    rw [e]
    show min t.val (valids T2 - 1) * 512 + _ = _
    rw [Nat.mod_eq_of_lt (by omega)]
    omega
  | ⟨1, _⟩ =>
    show ((cfgA T1 g).win (0 : Fin 8)).index t 1 * 512 + 1 * (y 1).val = (y 1).val
    rw [e]
    show 0 * 512 + 1 * (y 1).val = (y 1).val
    omega

theorem iblk1 (c : Dev nD) (t : Fin (cfgA T1 g).N) : iblk T1 g m c (1 : Fin 8) t = wblk (Wg m c) (expert T0 t.val) := by
  have he := g.lt t.val
  funext y
  refine congrArg (Wg m c) (funext fun a => Fin.ext ?_)
  have e : ((cfgA T1 g).win (1 : Fin 8)).index t = ![0, expert T0 t.val, 0, 0] := (idx_w T0 T1 T2 (crd T1 g t)).trans (by rw [crd_val])
  match a with
  | ⟨0, _⟩ =>
    show ((cfgA T1 g).win (1 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (1 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (1 : Fin 8)).index t 2 * 1024 + 1 * (y 2 : Fin 1024).val = (y 2 : Fin 1024).val
    rw [e]
    show 0 * 1024 + 1 * (y 2 : Fin 1024).val = (y 2 : Fin 1024).val
    omega
  | ⟨3, _⟩ =>
    show ((cfgA T1 g).win (1 : Fin 8)).index t 3 * 1024 + 1 * (y 3 : Fin 1024).val = (y 3 : Fin 1024).val
    rw [e]
    show 0 * 1024 + 1 * (y 3 : Fin 1024).val = (y 3 : Fin 1024).val
    omega

theorem iblk3 (c : Dev nD) (t : Fin (cfgA T1 g).N) : iblk T1 g m c (3 : Fin 8) t = wblk (Wu m c) (expert T0 t.val) := by
  have he := g.lt t.val
  funext y
  refine congrArg (Wu m c) (funext fun a => Fin.ext ?_)
  have e : ((cfgA T1 g).win (3 : Fin 8)).index t = ![0, expert T0 t.val, 0, 0] := (idx_w T0 T1 T2 (crd T1 g t)).trans (by rw [crd_val])
  match a with
  | ⟨0, _⟩ =>
    show ((cfgA T1 g).win (3 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (3 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (3 : Fin 8)).index t 2 * 1024 + 1 * (y 2 : Fin 1024).val = (y 2 : Fin 1024).val
    rw [e]
    show 0 * 1024 + 1 * (y 2 : Fin 1024).val = (y 2 : Fin 1024).val
    omega
  | ⟨3, _⟩ =>
    show ((cfgA T1 g).win (3 : Fin 8)).index t 3 * 1024 + 1 * (y 3 : Fin 1024).val = (y 3 : Fin 1024).val
    rw [e]
    show 0 * 1024 + 1 * (y 3 : Fin 1024).val = (y 3 : Fin 1024).val
    omega

theorem iblk5 (c : Dev nD) (t : Fin (cfgA T1 g).N) : iblk T1 g m c (5 : Fin 8) t = wblk (Wd m c) (expert T0 t.val) := by
  have he := g.lt t.val
  funext y
  refine congrArg (Wd m c) (funext fun a => Fin.ext ?_)
  have e : ((cfgA T1 g).win (5 : Fin 8)).index t = ![0, expert T0 t.val, 0, 0] := (idx_w T0 T1 T2 (crd T1 g t)).trans (by rw [crd_val])
  match a with
  | ⟨0, _⟩ =>
    show ((cfgA T1 g).win (5 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (5 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (5 : Fin 8)).index t 2 * 1024 + 1 * (y 2 : Fin 1024).val = (y 2 : Fin 1024).val
    rw [e]
    show 0 * 1024 + 1 * (y 2 : Fin 1024).val = (y 2 : Fin 1024).val
    omega
  | ⟨3, _⟩ =>
    show ((cfgA T1 g).win (5 : Fin 8)).index t 3 * 1024 + 1 * (y 3 : Fin 1024).val = (y 3 : Fin 1024).val
    rw [e]
    show 0 * 1024 + 1 * (y 3 : Fin 1024).val = (y 3 : Fin 1024).val
    omega

theorem iblk2 (c : Dev nD) (t : Fin (cfgA T1 g).N) : iblk T1 g m c (2 : Fin 8) t = bblk (Bg m c) (expert T0 t.val) := by
  have he := g.lt t.val
  funext y
  refine congrArg (Bg m c) (funext fun a => Fin.ext ?_)
  have e : ((cfgA T1 g).win (2 : Fin 8)).index t = ![0, expert T0 t.val, 0, 0] := (idx_w T0 T1 T2 (crd T1 g t)).trans (by rw [crd_val])
  match a with
  | ⟨0, _⟩ =>
    show ((cfgA T1 g).win (2 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (2 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (2 : Fin 8)).index t 2 * 1 + 1 * (y 2 : Fin 1).val = (y 2 : Fin 1).val
    rw [e]
    show 0 * 1 + 1 * (y 2 : Fin 1).val = (y 2 : Fin 1).val
    omega
  | ⟨3, _⟩ =>
    show ((cfgA T1 g).win (2 : Fin 8)).index t 3 * 1024 + 1 * (y 3 : Fin 1024).val = (y 3 : Fin 1024).val
    rw [e]
    show 0 * 1024 + 1 * (y 3 : Fin 1024).val = (y 3 : Fin 1024).val
    omega

theorem iblk4 (c : Dev nD) (t : Fin (cfgA T1 g).N) : iblk T1 g m c (4 : Fin 8) t = bblk (Bu m c) (expert T0 t.val) := by
  have he := g.lt t.val
  funext y
  refine congrArg (Bu m c) (funext fun a => Fin.ext ?_)
  have e : ((cfgA T1 g).win (4 : Fin 8)).index t = ![0, expert T0 t.val, 0, 0] := (idx_w T0 T1 T2 (crd T1 g t)).trans (by rw [crd_val])
  match a with
  | ⟨0, _⟩ =>
    show ((cfgA T1 g).win (4 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (4 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (4 : Fin 8)).index t 2 * 1 + 1 * (y 2 : Fin 1).val = (y 2 : Fin 1).val
    rw [e]
    show 0 * 1 + 1 * (y 2 : Fin 1).val = (y 2 : Fin 1).val
    omega
  | ⟨3, _⟩ =>
    show ((cfgA T1 g).win (4 : Fin 8)).index t 3 * 1024 + 1 * (y 3 : Fin 1024).val = (y 3 : Fin 1024).val
    rw [e]
    show 0 * 1024 + 1 * (y 3 : Fin 1024).val = (y 3 : Fin 1024).val
    omega

theorem iblk6 (c : Dev nD) (t : Fin (cfgA T1 g).N) : iblk T1 g m c (6 : Fin 8) t = bblk (Bd m c) (expert T0 t.val) := by
  have he := g.lt t.val
  funext y
  refine congrArg (Bd m c) (funext fun a => Fin.ext ?_)
  have e : ((cfgA T1 g).win (6 : Fin 8)).index t = ![0, expert T0 t.val, 0, 0] := (idx_w T0 T1 T2 (crd T1 g t)).trans (by rw [crd_val])
  match a with
  | ⟨0, _⟩ =>
    show ((cfgA T1 g).win (6 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (6 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (6 : Fin 8)).index t 2 * 1 + 1 * (y 2 : Fin 1).val = (y 2 : Fin 1).val
    rw [e]
    show 0 * 1 + 1 * (y 2 : Fin 1).val = (y 2 : Fin 1).val
    omega
  | ⟨3, _⟩ =>
    show ((cfgA T1 g).win (6 : Fin 8)).index t 3 * 1024 + 1 * (y 3 : Fin 1024).val = (y 3 : Fin 1024).val
    rw [e]
    show 0 * 1024 + 1 * (y 3 : Fin 1024).val = (y 3 : Fin 1024).val
    omega

/-- What the call leaves in block `n` of its result: the layer of the block's rows on a valid block, zeros on another. -/
def outBlk (T0 T1 : S348.Idx → BitVec 32) (T2 : S1.Idx → BitVec 32) (c : Dev nD) (n : ℕ) : Vec Ideal S512x1024 .bf16 :=
  if n < valids T2 then
    ffn (rows T1 n) (xblk (X m c) n) (k0_pay3 (wblk (Wg m c) (expert T0 n))) (k0_pay4 (wblk (Wu m c) (expert T0 n))) (k0_pay5 (wblk (Wd m c) (expert T0 n)))
      (bblk (Bg m c) (expert T0 n)) (bblk (Bu m c) (expert T0 n)) (bblk (Bd m c) (expert T0 n))
  else (k0_pay2 : FVec Ideal S512x1024 .bf16)

/-- The expert whose weights the scratches hold before position `n`: that of the last valid block before it. -/
def lastE (T0 : S348.Idx → BitVec 32) (T2 : S1.Idx → BitVec 32) (n : ℕ) : ℕ := expert T0 (min n (valids T2) - 1)

/-- Between points: from the first point on the scratches hold the last valid block's expert's weights; the tables are kept. -/
def Phi (c : Dev nD) (n : Fin ((cfgA T1 g).N + 1)) : sProp 𝕄 :=
  iprop((∃ a : Buf (Elt Ideal) ((c : Thread nD τ).loc cc0_scratch0), ⌜n.val ≠ 0 → a = (k0_pay3 (wblk (Wg m c) (lastE T0 T2 n.val)) : FVec Ideal S1024x1024 .bf16)⌝ ∗ (scM0_0.view.loc (c : Thread nD τ) ↦{fullShare} a))
    ∗ (∃ a : Buf (Elt Ideal) ((c : Thread nD τ).loc cc0_scratch1), ⌜n.val ≠ 0 → a = (k0_pay4 (wblk (Wu m c) (lastE T0 T2 n.val)) : FVec Ideal S1024x1024 .bf16)⌝ ∗ (scM0_1.view.loc (c : Thread nD τ) ↦{fullShare} a))
    ∗ (∃ a : Buf (Elt Ideal) ((c : Thread nD τ).loc cc0_scratch2), ⌜n.val ≠ 0 → a = (k0_pay5 (wblk (Wd m c) (lastE T0 T2 n.val)) : FVec Ideal S1024x1024 .bf16)⌝ ∗ (scM0_2.view.loc (c : Thread nD τ) ↦{fullShare} a))
    ∗ (tbM0_0.view.loc (c : Thread nD τ) ↦{fullShare.right} T0)
    ∗ (tbM0_1.view.loc (c : Thread nD τ) ↦{fullShare.right} T1)
    ∗ (tbM0_2.view.loc (c : Thread nD τ) ↦{fullShare.right} T2))

/-- The certificate's data: each array as launched, each window's buffer after a point, and what holds between points. -/
def dats (_ : Fin 1) (c : Dev nD) : Dat τ (Elt Ideal) Unit ℕ (UR sig nD τ) ℕ (cfgA T1 g) c where
  A w := m (((cfgA T1 g).win w).arr.view.loc (c : Thread nD τ))
  after w t := match w with
    | ⟨0, _⟩ => iblk T1 g m c (0 : Fin 8) t
    | ⟨1, _⟩ => iblk T1 g m c (1 : Fin 8) t
    | ⟨2, _⟩ => iblk T1 g m c (2 : Fin 8) t
    | ⟨3, _⟩ => iblk T1 g m c (3 : Fin 8) t
    | ⟨4, _⟩ => iblk T1 g m c (4 : Fin 8) t
    | ⟨5, _⟩ => iblk T1 g m c (5 : Fin 8) t
    | ⟨6, _⟩ => iblk T1 g m c (6 : Fin 8) t
    | ⟨7, _⟩ => outBlk m T0 T1 T2 c t.val
    | ⟨_ + 8, h⟩ => absurd h (Nat.not_lt.2 (Nat.le_add_left _ _))
  Φ n := Phi T1 g m c n
  q _ := fullShare
  owed _ := 0

theorem after0 (c : Dev nD) (t : Fin (cfgA T1 g).N) : (dats T1 g m 0 c).after (0 : Fin 8) t = iblk T1 g m c (0 : Fin 8) t := rfl
theorem before0 (c : Dev nD) (t : Fin (cfgA T1 g).N) (d) : (dats T1 g m 0 c).before (0 : Fin 8) t d = iblk T1 g m c (0 : Fin 8) t :=
  ((dats T1 g m 0 c).before_in_eq_fetched (0 : Fin 8) rfl (fun _ => rfl) (fun _ _ _ => rfl) (fun t => by rw [after0]; unfold Dat.blockOf iblk; rfl) t d).trans
    (by unfold Dat.fetched Dat.blockOf iblk; rfl)
theorem after1 (c : Dev nD) (t : Fin (cfgA T1 g).N) : (dats T1 g m 0 c).after (1 : Fin 8) t = iblk T1 g m c (1 : Fin 8) t := rfl
theorem before1 (c : Dev nD) (t : Fin (cfgA T1 g).N) (d) : (dats T1 g m 0 c).before (1 : Fin 8) t d = iblk T1 g m c (1 : Fin 8) t :=
  ((dats T1 g m 0 c).before_in_eq_fetched (1 : Fin 8) rfl (fun _ => rfl) (fun _ _ _ => rfl) (fun t => by rw [after1]; unfold Dat.blockOf iblk; rfl) t d).trans
    (by unfold Dat.fetched Dat.blockOf iblk; rfl)
theorem after2 (c : Dev nD) (t : Fin (cfgA T1 g).N) : (dats T1 g m 0 c).after (2 : Fin 8) t = iblk T1 g m c (2 : Fin 8) t := rfl
theorem before2 (c : Dev nD) (t : Fin (cfgA T1 g).N) (d) : (dats T1 g m 0 c).before (2 : Fin 8) t d = iblk T1 g m c (2 : Fin 8) t :=
  ((dats T1 g m 0 c).before_in_eq_fetched (2 : Fin 8) rfl (fun _ => rfl) (fun _ _ _ => rfl) (fun t => by rw [after2]; unfold Dat.blockOf iblk; rfl) t d).trans
    (by unfold Dat.fetched Dat.blockOf iblk; rfl)
theorem after3 (c : Dev nD) (t : Fin (cfgA T1 g).N) : (dats T1 g m 0 c).after (3 : Fin 8) t = iblk T1 g m c (3 : Fin 8) t := rfl
theorem before3 (c : Dev nD) (t : Fin (cfgA T1 g).N) (d) : (dats T1 g m 0 c).before (3 : Fin 8) t d = iblk T1 g m c (3 : Fin 8) t :=
  ((dats T1 g m 0 c).before_in_eq_fetched (3 : Fin 8) rfl (fun _ => rfl) (fun _ _ _ => rfl) (fun t => by rw [after3]; unfold Dat.blockOf iblk; rfl) t d).trans
    (by unfold Dat.fetched Dat.blockOf iblk; rfl)
theorem after4 (c : Dev nD) (t : Fin (cfgA T1 g).N) : (dats T1 g m 0 c).after (4 : Fin 8) t = iblk T1 g m c (4 : Fin 8) t := rfl
theorem before4 (c : Dev nD) (t : Fin (cfgA T1 g).N) (d) : (dats T1 g m 0 c).before (4 : Fin 8) t d = iblk T1 g m c (4 : Fin 8) t :=
  ((dats T1 g m 0 c).before_in_eq_fetched (4 : Fin 8) rfl (fun _ => rfl) (fun _ _ _ => rfl) (fun t => by rw [after4]; unfold Dat.blockOf iblk; rfl) t d).trans
    (by unfold Dat.fetched Dat.blockOf iblk; rfl)
theorem after5 (c : Dev nD) (t : Fin (cfgA T1 g).N) : (dats T1 g m 0 c).after (5 : Fin 8) t = iblk T1 g m c (5 : Fin 8) t := rfl
theorem before5 (c : Dev nD) (t : Fin (cfgA T1 g).N) (d) : (dats T1 g m 0 c).before (5 : Fin 8) t d = iblk T1 g m c (5 : Fin 8) t :=
  ((dats T1 g m 0 c).before_in_eq_fetched (5 : Fin 8) rfl (fun _ => rfl) (fun _ _ _ => rfl) (fun t => by rw [after5]; unfold Dat.blockOf iblk; rfl) t d).trans
    (by unfold Dat.fetched Dat.blockOf iblk; rfl)
theorem after6 (c : Dev nD) (t : Fin (cfgA T1 g).N) : (dats T1 g m 0 c).after (6 : Fin 8) t = iblk T1 g m c (6 : Fin 8) t := rfl
theorem before6 (c : Dev nD) (t : Fin (cfgA T1 g).N) (d) : (dats T1 g m 0 c).before (6 : Fin 8) t d = iblk T1 g m c (6 : Fin 8) t :=
  ((dats T1 g m 0 c).before_in_eq_fetched (6 : Fin 8) rfl (fun _ => rfl) (fun _ _ _ => rfl) (fun t => by rw [after6]; unfold Dat.blockOf iblk; rfl) t d).trans
    (by unfold Dat.fetched Dat.blockOf iblk; rfl)

theorem after7 (c : Dev nD) (t : Fin (cfgA T1 g).N) : (dats T1 g m 0 c).after (7 : Fin 8) t = outBlk m T0 T1 T2 c t.val := rfl

/-- A store of a whole staging buffer leaves what was stored. -/
theorem st_block (a : Memref sig .tc .vmem S512x1024 .bf16) (f) (x : Vec Ideal S512x1024 .bf16) (L : List (View.Piece (Elt Ideal) S512x1024 .bf16))
    (h : L = [⟨Rect.unit ![0, 0] S512x1024.size inb_S512x1024_S512x1024_0_0, x⟩]) : a.view.read (Elt Ideal) (a.view.writes (Elt Ideal) f L) = x := by
  rw [h]
  exact View.read_writes_full a.view f inb_S512x1024_S512x1024_0_0 x []

set_option maxHeartbeats 4000000 in
/-- The body at a point of a valid block that is its expert's first. -/
theorem body_A (c : Dev nD) (t : Fin (cfgA T1 g).N) (hv : t.val < valids T2) (hf : t.val = 0 ∨ expert T0 t.val ≠ expert T0 (t.val - 1)) :
    iprop((dats T1 g m 0 c).Φ t.castSucc ∗ (dats T1 g m 0 c).owesAt () t.castSucc ∗ (∃ d, owns (c : Thread nD τ) (st0 T1 g t) fullShare ((dats T1 g m 0 c).before (0 : Fin 8) t d)) ∗ (∃ d, owns (c : Thread nD τ) (st1 T1 g t) fullShare ((dats T1 g m 0 c).before (1 : Fin 8) t d)) ∗ (∃ d, owns (c : Thread nD τ) (st2 T1 g t) fullShare ((dats T1 g m 0 c).before (2 : Fin 8) t d)) ∗ (∃ d, owns (c : Thread nD τ) (st3 T1 g t) fullShare ((dats T1 g m 0 c).before (3 : Fin 8) t d)) ∗ (∃ d, owns (c : Thread nD τ) (st4 T1 g t) fullShare ((dats T1 g m 0 c).before (4 : Fin 8) t d)) ∗ (∃ d, owns (c : Thread nD τ) (st5 T1 g t) fullShare ((dats T1 g m 0 c).before (5 : Fin 8) t d)) ∗ (∃ d, owns (c : Thread nD τ) (st6 T1 g t) fullShare ((dats T1 g m 0 c).before (6 : Fin 8) t d)) ∗ (∃ d, owns (c : Thread nD τ) (st7 T1 g t) fullShare ((dats T1 g m 0 c).before (7 : Fin 8) t d)))
      ⊢ wp frame (wpE (defs₀ (F := Ideal)) Variants.none c none) Set.univ (cc0_moe_experts (crd T1 g t) (Memref.whole main_arg1) (Memref.isWhole_whole _) (Memref.whole main_arg2) (Memref.isWhole_whole _) (Memref.whole main_arg3) (Memref.isWhole_whole _) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) (Memref.whole cc0_scratch0) (Memref.isWhole_whole _) (Memref.whole cc0_scratch1) (Memref.isWhole_whole _) (Memref.whole cc0_scratch2) (Memref.isWhole_whole _)) fun _ =>
          iprop((dats T1 g m 0 c).Φ t.succ ∗ (dats T1 g m 0 c).owesAt () t.succ
            ∗ bigSep Finset.univ fun w : Fin (cfgA T1 g).W =>
                match (cfgA T1 g).idle w ((cfgA T1 g).grid.coords t) with
                | true =>
                  match ((cfgA T1 g).win w).flush t with
                  | false => iprop(∃ d, owns (c : Thread nD τ) (((cfgA T1 g).win w).stage ((cfgA T1 g).slots t w)) fullShare ((dats T1 g m 0 c).before w t d))
                  | true => owns (c : Thread nD τ) (((cfgA T1 g).win w).stage ((cfgA T1 g).slots t w)) fullShare ((dats T1 g m 0 c).after w t)
                | false => owns (c : Thread nD τ) (((cfgA T1 g).win w).stage ((cfgA T1 g).slots t w)) fullShare ((dats T1 g m 0 c).after w t)) := by
  have ht : t.val < 348 := lt_of_lt_of_eq t.isLt N_0
  have ⟨hv1, _⟩ := g.pos
  have hi7 := busy T1 g t
  rw [bigSep_W0]
  rewrite [hi7]
  simp only [before0, before1, before2, before3, before4, before5, before6, after0, after1, after2, after3, after4, after5, after6, after7]
  rewrite [show (dats T1 g m 0 c).Φ t.succ = Phi T1 g m c t.succ from rfl, show (dats T1 g m 0 c).Φ t.castSucc = Phi T1 g m c t.castSucc from rfl,
    show (dats T1 g m 0 c).owesAt () t.succ = (dats T1 g m 0 c).owesAt () t.castSucc from rfl]
  unfold Phi
  simp only [Fin.val_castSucc, Fin.val_succ]
  have k0_h1 : k0_cond1 (crd T1 g t) (View.readAt (Elt Ideal) (tbM0_2).view (Rect.unit (s := S1) ![0] S1.size inb_S1_S1_0).toLoadRect T2 (Shape.Idx.first (numel1_S1.symm ▸ Nat.one_pos))) = 1#1 := by
    rw [ld_valid]; exact (cond_valid g _).mpr (by rw [crd_val]; exact hv)
  have k0_h3 : ¬ (k0_cond3 (crd T1 g t) (View.readAt (Elt Ideal) (tbM0_2).view (Rect.unit (s := S1) ![0] S1.size inb_S1_S1_0).toLoadRect T2 (Shape.Idx.first (numel1_S1.symm ▸ Nat.one_pos))) = 1#1) := by
    rw [ld_valid]; exact fun h => (cond_rest g _).mp h (by rw [crd_val]; exact hv)
  have hm : min t.val (valids T2 - 1) = t.val := by omega
  have hc1 := (cond_first T0 (crd T1 g t)).mpr (by rw [crd_val]; exact hf)
  have hl : lastE T0 T2 (t.val + 1) = expert T0 t.val := congrArg (expert T0) (by omega)
  iintro ⟨⟨⟨%a0, %ha0, HS0⟩, ⟨%a1, %ha1, HS1⟩, ⟨%a2, %ha2, HS2⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) k0_h1 hc1 k0_h3).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexists _; iexact H7
  isplitl [HS0]; · iexact HS0
  isplitl [HS1]; · iexact HS1
  isplitl [HS2]; · iexact HS2
  iintro ⟨H0, H1, H2, H3, H4, H5, H6, HT0, HT1, HT2, ⟨%e7, H7⟩, HS0, HS1, HS2⟩
  isplitl [HS0 HS1 HS2 HT0 HT1 HT2]
  · isplitl [HS0]
    · iexists _; isplitr; swap
      · iexact HS0
      · ipureintro; exact fun _ => (gate_A c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) k0_h1 hc1 k0_h3).trans (by rw [iblk1, hl])
    isplitl [HS1]
    · iexists _; isplitr; swap
      · iexact HS1
      · ipureintro; exact fun _ => (up_A c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) k0_h1 hc1 k0_h3).trans (by rw [iblk3, hl])
    isplitl [HS2]
    · iexists _; isplitr; swap
      · iexact HS2
      · ipureintro; exact fun _ => (down_A c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) k0_h1 hc1 k0_h3).trans (by rw [iblk5, hl])
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact st_block _ _ (outBlk m T0 T1 T2 c t.val) _ ((pieces_A c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) k0_h1 hc1 k0_h3).trans (by
        rw [outBlk, if_pos hv, rows_at, iblk0, iblk1, iblk2, iblk3, iblk4, iblk5, iblk6, hm]))

set_option maxHeartbeats 4000000 in
/-- The body at a point of a valid block of the same expert as the block before. -/
theorem body_B (c : Dev nD) (t : Fin (cfgA T1 g).N) (hv : t.val < valids T2) (hf : ¬ (t.val = 0 ∨ expert T0 t.val ≠ expert T0 (t.val - 1))) :
    iprop((dats T1 g m 0 c).Φ t.castSucc ∗ (dats T1 g m 0 c).owesAt () t.castSucc ∗ (∃ d, owns (c : Thread nD τ) (st0 T1 g t) fullShare ((dats T1 g m 0 c).before (0 : Fin 8) t d)) ∗ (∃ d, owns (c : Thread nD τ) (st1 T1 g t) fullShare ((dats T1 g m 0 c).before (1 : Fin 8) t d)) ∗ (∃ d, owns (c : Thread nD τ) (st2 T1 g t) fullShare ((dats T1 g m 0 c).before (2 : Fin 8) t d)) ∗ (∃ d, owns (c : Thread nD τ) (st3 T1 g t) fullShare ((dats T1 g m 0 c).before (3 : Fin 8) t d)) ∗ (∃ d, owns (c : Thread nD τ) (st4 T1 g t) fullShare ((dats T1 g m 0 c).before (4 : Fin 8) t d)) ∗ (∃ d, owns (c : Thread nD τ) (st5 T1 g t) fullShare ((dats T1 g m 0 c).before (5 : Fin 8) t d)) ∗ (∃ d, owns (c : Thread nD τ) (st6 T1 g t) fullShare ((dats T1 g m 0 c).before (6 : Fin 8) t d)) ∗ (∃ d, owns (c : Thread nD τ) (st7 T1 g t) fullShare ((dats T1 g m 0 c).before (7 : Fin 8) t d)))
      ⊢ wp frame (wpE (defs₀ (F := Ideal)) Variants.none c none) Set.univ (cc0_moe_experts (crd T1 g t) (Memref.whole main_arg1) (Memref.isWhole_whole _) (Memref.whole main_arg2) (Memref.isWhole_whole _) (Memref.whole main_arg3) (Memref.isWhole_whole _) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) (Memref.whole cc0_scratch0) (Memref.isWhole_whole _) (Memref.whole cc0_scratch1) (Memref.isWhole_whole _) (Memref.whole cc0_scratch2) (Memref.isWhole_whole _)) fun _ =>
          iprop((dats T1 g m 0 c).Φ t.succ ∗ (dats T1 g m 0 c).owesAt () t.succ
            ∗ bigSep Finset.univ fun w : Fin (cfgA T1 g).W =>
                match (cfgA T1 g).idle w ((cfgA T1 g).grid.coords t) with
                | true =>
                  match ((cfgA T1 g).win w).flush t with
                  | false => iprop(∃ d, owns (c : Thread nD τ) (((cfgA T1 g).win w).stage ((cfgA T1 g).slots t w)) fullShare ((dats T1 g m 0 c).before w t d))
                  | true => owns (c : Thread nD τ) (((cfgA T1 g).win w).stage ((cfgA T1 g).slots t w)) fullShare ((dats T1 g m 0 c).after w t)
                | false => owns (c : Thread nD τ) (((cfgA T1 g).win w).stage ((cfgA T1 g).slots t w)) fullShare ((dats T1 g m 0 c).after w t)) := by
  have ht : t.val < 348 := lt_of_lt_of_eq t.isLt N_0
  have ⟨hv1, _⟩ := g.pos
  have hi7 := busy T1 g t
  rw [bigSep_W0]
  rewrite [hi7]
  simp only [before0, before1, before2, before3, before4, before5, before6, after0, after1, after2, after3, after4, after5, after6, after7]
  rewrite [show (dats T1 g m 0 c).Φ t.succ = Phi T1 g m c t.succ from rfl, show (dats T1 g m 0 c).Φ t.castSucc = Phi T1 g m c t.castSucc from rfl,
    show (dats T1 g m 0 c).owesAt () t.succ = (dats T1 g m 0 c).owesAt () t.castSucc from rfl]
  unfold Phi
  simp only [Fin.val_castSucc, Fin.val_succ]
  have k0_h1 : k0_cond1 (crd T1 g t) (View.readAt (Elt Ideal) (tbM0_2).view (Rect.unit (s := S1) ![0] S1.size inb_S1_S1_0).toLoadRect T2 (Shape.Idx.first (numel1_S1.symm ▸ Nat.one_pos))) = 1#1 := by
    rw [ld_valid]; exact (cond_valid g _).mpr (by rw [crd_val]; exact hv)
  have k0_h3 : ¬ (k0_cond3 (crd T1 g t) (View.readAt (Elt Ideal) (tbM0_2).view (Rect.unit (s := S1) ![0] S1.size inb_S1_S1_0).toLoadRect T2 (Shape.Idx.first (numel1_S1.symm ▸ Nat.one_pos))) = 1#1) := by
    rw [ld_valid]; exact fun h => (cond_rest g _).mp h (by rw [crd_val]; exact hv)
  have hm : min t.val (valids T2 - 1) = t.val := by omega
  have hc1 := fun h => hf (by have e := (cond_first T0 (crd T1 g t)).mp h; rw [crd_val] at e; exact e)
  have hn : t.val ≠ 0 := fun h => hf (.inl h)
  have hb : lastE T0 T2 t.val = expert T0 t.val := (congrArg (expert T0) (by omega)).trans (Decidable.of_not_not fun h => hf (.inr (Ne.symm h)))
  have hl : lastE T0 T2 t.val = lastE T0 T2 (t.val + 1) := hb.trans (congrArg (expert T0) (by omega))
  iintro ⟨⟨⟨%a0, %ha0, HS0⟩, ⟨%a1, %ha1, HS1⟩, ⟨%a2, %ha2, HS2⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 hc1 k0_h3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexists _; iexact H7
  isplitl [HS0]; · iexact HS0
  isplitl [HS1]; · iexact HS1
  isplitl [HS2]; · iexact HS2
  iintro ⟨H0, H1, H2, H3, H4, H5, H6, HT0, HT1, HT2, ⟨%e7, H7⟩, HS0, HS1, HS2⟩
  isplitl [HS0 HS1 HS2 HT0 HT1 HT2]
  · isplitl [HS0]
    · iexists _; isplitr; swap
      · iexact HS0
      · ipureintro; exact fun _ => ((kept_B c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 hc1 k0_h3).1).trans ((ha0 hn).trans (by rw [hl]))
    isplitl [HS1]
    · iexists _; isplitr; swap
      · iexact HS1
      · ipureintro; exact fun _ => ((kept_B c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 hc1 k0_h3).2.1).trans ((ha1 hn).trans (by rw [hl]))
    isplitl [HS2]
    · iexists _; isplitr; swap
      · iexact HS2
      · ipureintro; exact fun _ => ((kept_B c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 hc1 k0_h3).2.2).trans ((ha2 hn).trans (by rw [hl]))
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact st_block _ _ (outBlk m T0 T1 T2 c t.val) _ ((pieces_B c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 hc1 k0_h3).trans (by
        rw [outBlk, if_pos hv, rows_at, iblk0, iblk2, iblk4, iblk6, hm, ha0 hn, ha1 hn, ha2 hn, hb]))

set_option maxHeartbeats 4000000 in
/-- The body at a point of a block past the valid ones. -/
theorem body_C (c : Dev nD) (t : Fin (cfgA T1 g).N) (hv : ¬ t.val < valids T2) :
    iprop((dats T1 g m 0 c).Φ t.castSucc ∗ (dats T1 g m 0 c).owesAt () t.castSucc ∗ (∃ d, owns (c : Thread nD τ) (st0 T1 g t) fullShare ((dats T1 g m 0 c).before (0 : Fin 8) t d)) ∗ (∃ d, owns (c : Thread nD τ) (st1 T1 g t) fullShare ((dats T1 g m 0 c).before (1 : Fin 8) t d)) ∗ (∃ d, owns (c : Thread nD τ) (st2 T1 g t) fullShare ((dats T1 g m 0 c).before (2 : Fin 8) t d)) ∗ (∃ d, owns (c : Thread nD τ) (st3 T1 g t) fullShare ((dats T1 g m 0 c).before (3 : Fin 8) t d)) ∗ (∃ d, owns (c : Thread nD τ) (st4 T1 g t) fullShare ((dats T1 g m 0 c).before (4 : Fin 8) t d)) ∗ (∃ d, owns (c : Thread nD τ) (st5 T1 g t) fullShare ((dats T1 g m 0 c).before (5 : Fin 8) t d)) ∗ (∃ d, owns (c : Thread nD τ) (st6 T1 g t) fullShare ((dats T1 g m 0 c).before (6 : Fin 8) t d)) ∗ (∃ d, owns (c : Thread nD τ) (st7 T1 g t) fullShare ((dats T1 g m 0 c).before (7 : Fin 8) t d)))
      ⊢ wp frame (wpE (defs₀ (F := Ideal)) Variants.none c none) Set.univ (cc0_moe_experts (crd T1 g t) (Memref.whole main_arg1) (Memref.isWhole_whole _) (Memref.whole main_arg2) (Memref.isWhole_whole _) (Memref.whole main_arg3) (Memref.isWhole_whole _) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) (Memref.whole cc0_scratch0) (Memref.isWhole_whole _) (Memref.whole cc0_scratch1) (Memref.isWhole_whole _) (Memref.whole cc0_scratch2) (Memref.isWhole_whole _)) fun _ =>
          iprop((dats T1 g m 0 c).Φ t.succ ∗ (dats T1 g m 0 c).owesAt () t.succ
            ∗ bigSep Finset.univ fun w : Fin (cfgA T1 g).W =>
                match (cfgA T1 g).idle w ((cfgA T1 g).grid.coords t) with
                | true =>
                  match ((cfgA T1 g).win w).flush t with
                  | false => iprop(∃ d, owns (c : Thread nD τ) (((cfgA T1 g).win w).stage ((cfgA T1 g).slots t w)) fullShare ((dats T1 g m 0 c).before w t d))
                  | true => owns (c : Thread nD τ) (((cfgA T1 g).win w).stage ((cfgA T1 g).slots t w)) fullShare ((dats T1 g m 0 c).after w t)
                | false => owns (c : Thread nD τ) (((cfgA T1 g).win w).stage ((cfgA T1 g).slots t w)) fullShare ((dats T1 g m 0 c).after w t)) := by
  have ht : t.val < 348 := lt_of_lt_of_eq t.isLt N_0
  have ⟨hv1, _⟩ := g.pos
  have hi7 := busy T1 g t
  rw [bigSep_W0]
  rewrite [hi7]
  simp only [before0, before1, before2, before3, before4, before5, before6, after0, after1, after2, after3, after4, after5, after6, after7]
  rewrite [show (dats T1 g m 0 c).Φ t.succ = Phi T1 g m c t.succ from rfl, show (dats T1 g m 0 c).Φ t.castSucc = Phi T1 g m c t.castSucc from rfl,
    show (dats T1 g m 0 c).owesAt () t.succ = (dats T1 g m 0 c).owesAt () t.castSucc from rfl]
  unfold Phi
  simp only [Fin.val_castSucc, Fin.val_succ]
  have k0_h1 : ¬ (k0_cond1 (crd T1 g t) (View.readAt (Elt Ideal) (tbM0_2).view (Rect.unit (s := S1) ![0] S1.size inb_S1_S1_0).toLoadRect T2 (Shape.Idx.first (numel1_S1.symm ▸ Nat.one_pos))) = 1#1) := by
    rw [ld_valid]; exact fun h => hv (by rw [← crd_val T1 g t]; exact (cond_valid g _).mp h)
  have k0_h3 : k0_cond3 (crd T1 g t) (View.readAt (Elt Ideal) (tbM0_2).view (Rect.unit (s := S1) ![0] S1.size inb_S1_S1_0).toLoadRect T2 (Shape.Idx.first (numel1_S1.symm ▸ Nat.one_pos))) = 1#1 := by
    rw [ld_valid]; exact (cond_rest g _).mpr (by rw [crd_val]; exact hv)
  have hn : t.val ≠ 0 := by omega
  have hl : lastE T0 T2 t.val = lastE T0 T2 (t.val + 1) := congrArg (expert T0) (by omega)
  iintro ⟨⟨⟨%a0, %ha0, HS0⟩, ⟨%a1, %ha1, HS1⟩, ⟨%a2, %ha2, HS2⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 k0_h3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexists _; iexact H7
  isplitl [HS0]; · iexact HS0
  isplitl [HS1]; · iexact HS1
  isplitl [HS2]; · iexact HS2
  iintro ⟨H0, H1, H2, H3, H4, H5, H6, HT0, HT1, HT2, ⟨%e7, H7⟩, HS0, HS1, HS2⟩
  isplitl [HS0 HS1 HS2 HT0 HT1 HT2]
  · isplitl [HS0]
    · iexists _; isplitr; swap
      · iexact HS0
      · ipureintro; exact fun _ => ((kept_C c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 k0_h3).1).trans ((ha0 hn).trans (by rw [hl]))
    isplitl [HS1]
    · iexists _; isplitr; swap
      · iexact HS1
      · ipureintro; exact fun _ => ((kept_C c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 k0_h3).2.1).trans ((ha1 hn).trans (by rw [hl]))
    isplitl [HS2]
    · iexists _; isplitr; swap
      · iexact HS2
      · ipureintro; exact fun _ => ((kept_C c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 k0_h3).2.2).trans ((ha2 hn).trans (by rw [hl]))
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact st_block _ _ (outBlk m T0 T1 T2 c t.val) _ ((pieces_C c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 k0_h3).trans (by
        rw [outBlk, if_neg hv]))

end Cert.Kernel2Ideal.Experts

end
-- ==== Proof.Kernel2IdealRun.lean ====
module

public import proofs.«01_k».proof.Proof.Kernel2IdealBody
public import Idealize.ShloMosaic.Lib.Pipeline.Cells

@[expose] public section

set_option maxRecDepth 16384

noncomputable section

namespace Cert.Kernel2Ideal.Experts

open Idealize.ShloMosaic Idealize.ShloMosaic.TcCoe Idealize.ShloMosaic.Tactic Cert.Kernel2Ideal.Gen Cert.Kernel2Ideal
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable {T0 : S348.Idx → BitVec 32} (T1 : S348.Idx → BitVec 32) {T2 : S1.Idx → BitVec 32} (g : Good T0 T2)
variable (m : (ℓ : Loc nD τ sig) → Buf (Elt Ideal) ℓ) (ρ : Dev nD → PrngReg)

/-- The body at every point: one of its three ways through. -/
theorem body_obligation (c : Dev nD) : BodyObligation (dats T1 g m 0 c) (defs₀ (F := Ideal)) Variants.none () Set.univ := fun t => by
  rw [bigSep_W0]
  by_cases hv : t.val < valids T2
  · by_cases hf : t.val = 0 ∨ expert T0 t.val ≠ expert T0 (t.val - 1)
    · exact body_A T1 g m c t hv hf
    · exact body_B T1 g m c t hv hf
  · exact body_C T1 g m c t hv

/-- The launch's element of the rounds library's algebra. -/
def el₀ : UR sig nD τ :=
  initOf (Pipeline.cells (pcs T1 g) ((launch0 (F := Ideal)).cellOf_inj fun _ => adm T1 g))
    (Pipeline.launchToks (pcs T1 g) ((launch0 (F := Ideal)).cellOf_inj fun _ => adm T1 g))

theorem share_full (c : Dev nD) (w : Fin (cfgA T1 g).W) : (dats T1 g m 0 c).share w = fullShare := by
  unfold Dat.share
  split <;> rfl

/-- The three tables as the region is handed them. -/
theorem tables_eq (c : Dev nD) (q : Fin 3 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Before the first point nothing is asked of the scratches. -/
theorem enter (c : Dev nD) :
    iprop(BI.emp ∗ Pipeline.prefHeld pre0 c (fun _ => fullShare.right) (adm T1 g).1 ∗ Pipeline.scopedRest spec0 c) ⊢ (dats T1 g m 0 c).Φ 0 := by
  rw [tables_eq, scopedRest0_eq, show (dats T1 g m 0 c).Φ 0 = Phi T1 g m c 0 from rfl]
  unfold Phi
  iintro ⟨-, ⟨HT0, HT1, HT2⟩, ⟨%a0, HS0⟩, ⟨%a1, HS1⟩, ⟨%a2, HS2⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HS2]
  · iexists a2; isplitr; swap
    · iexact HS2
    · ipureintro; exact fun h => absurd rfl h
  isplitl [HT0]; · iexact HT0
  isplitl [HT1]; · iexact HT1
  iexact HT2

/-- After the last point the scratches are given back. -/
theorem leave (c : Dev nD) : (dats T1 g m 0 c).Φ (Fin.last (cfgA T1 g).N) ⊢ iprop(BI.emp ∗ Pipeline.scopedRest spec0 c) := by
  rw [scopedRest0_eq, show (dats T1 g m 0 c).Φ (Fin.last (cfgA T1 g).N) = Phi T1 g m c (Fin.last _) from rfl]
  unfold Phi
  iintro ⟨⟨%a0, -, HS0⟩, ⟨%a1, -, HS1⟩, ⟨%a2, -, HS2⟩, -, -, -⟩
  isplitr; · iempintro
  isplitl [HS0]; · iexists a0; iexact HS0
  isplitl [HS1]; · iexists a1; iexact HS1
  iexists a2; iexact HS2

/-- The memory holds these tables on every device. -/
def Held (T0 T1 : S348.Idx → BitVec 32) (T2 : S1.Idx → BitVec 32) : Prop :=
  ∀ c : Dev nD, m ((c : Thread nD τ).loc main_arg1) = (T0 : S348.Idx → Elt Ideal .i32) ∧ m ((c : Thread nD τ).loc main_arg2) = (T1 : S348.Idx → Elt Ideal .i32)
    ∧ m ((c : Thread nD τ).loc main_arg3) = (T2 : S1.Idx → Elt Ideal .i32)

theorem held_at (h : Held m T0 T1 T2) (c : Dev nD) (j : Fin 3) : m ((c : Thread nD τ).loc (pre0.ref j)) = (adm T1 g).1 j := by
  fin_cases j
  · exact (h c).1
  · exact (h c).2.1
  · exact (h c).2.2

set_option backward.isDefEq.respectTransparency.types false in
set_option maxHeartbeats 4000000 in
/-- Every run ends, with each array at what the points wrote back, the tables kept and no counter raised. -/
theorem run_arrays (h : Held m T0 T1 T2) : θ_run (defs (F := Ideal)) (onTc (τ := τ) (main (F := Ideal))) ⟨m, fun _ => 0, ρ⟩ (fun r =>
    (∀ c : Dev nD, (∀ w : Fin (cfgA T1 g).W, r.2.mem (((cfgA T1 g).win w).arr.view.loc (c : Thread nD τ)) = (dats T1 g m 0 c).arrAt w (cfgA T1 g).N)
      ∧ ∀ j, r.2.mem ((c : Thread nD τ).loc (pre0.ref j)) = (adm T1 g).1 j) ∧ r.2.sem = fun _ => 0) :=
  Pipeline.θ_run_region_noSem_pf_quiescent pcfgs (fun _ => adm T1 g) (dats T1 g m) () ((launch0 (F := Ideal)).cellOf_inj fun _ => adm T1 g) (0 : Fin 1)
    (launch0 (F := Ideal)).win.to₀ (launch0 (F := Ideal)).pre (emb₁ : Emb (UR sig nD τ) 𝕄) defs₀ Variants.none m ρ main
    (hbody := fun c => (body_obligation T1 g m c).loose) (hne := (launch0 (F := Ideal)).block_pos)
    (harr := (launch0 (F := Ideal)).arr_whole) (hstage := (launch0 (F := Ideal)).stage_whole) (howed := fun _ _ => rfl)
    (u₀ := el₀ T1 g) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T1 g) (dats T1 g m) 0 (launch0 (F := Ideal)).win.arr_inj c (launch0 (F := Ideal)).arr_whole
      (share_full T1 g m c) _ _ fun _ => rfl)
    (hpf := held_at T1 g m h)
    (X := fun _ => iprop(emp)) (Y := fun _ => iprop(emp)) (Z := fun _ => iprop(emp))
    (hX := fun c => by rw [unscopedRestP0_eq]; iintro -; isplitr <;> iempintro)
    (hin := enter T1 g m)
    (hout := leave T1 g m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Position `(r, j)` of a block of 512 rows. -/
def inBlk (r : Fin 512) (j : Fin 1024) : S512x1024.Idx := fun a => match a with
  | ⟨0, _⟩ => r
  | ⟨1, _⟩ => j

/-- The call's whole result: each block of 512 rows at what its point stored. -/
def result (T0 T1 : S348.Idx → BitVec 32) (T2 : S1.Idx → BitVec 32) (c : Dev nD) : S178176x1024.Idx → Elt Ideal .bf16 := fun i =>
  outBlk m T0 T1 T2 c ((i 0 : Fin 178176).val / 512) (inBlk ⟨(i 0 : Fin 178176).val % 512, Nat.mod_lt _ (by decide)⟩ (i 1 : Fin 1024))

theorem idx_out (t : Fin (cfgA T1 g).N) : ((cfgA T1 g).win (7 : Fin 8)).index t = ![t.val, 0] := by
  have ht : t.val < 348 := lt_of_lt_of_eq t.isLt N_0
  have e : ((cfgA T1 g).win (7 : Fin 8)).index t = ![(BitVec.ofNat 32 ((crd T1 g t) 0).val).toNat, 0] := rfl
  rw [e, crd_val, word_pos _ ht]

/-- Every point writes its block back. -/
theorem flush_out (t : Fin (cfgA T1 g).N) : ((cfgA T1 g).win (7 : Fin 8)).flush t = true := by
  refine (Pipeline.Window.flush_out ((cfgA T1 g).win (7 : Fin 8)) rfl t).mpr ?_
  by_cases h : t.val + 1 < (cfgA T1 g).N
  · refine .inr ⟨h, fun e => ?_⟩
    rw [idx_out, idx_out] at e
    have e0 : t.val + 1 = t.val := congrFun e 0
    omega
  · exact .inl (by have := t.isLt; show t.val + 1 = (cfgA T1 g).N; omega)

/-- A block's position in the array: 512 rows per block. -/
theorem emb_out (t : Fin (cfgA T1 g).N) (y : S512x1024.Idx) (a : Fin 2) :
    ((((cfgA T1 g).win (7 : Fin 8)).blk t).view.emb y a).val = (![t.val * 512 + (y 0 : Fin 512).val, (y 1 : Fin 1024).val] : Fin 2 → ℕ) a := by
  match a with
  | ⟨0, _⟩ =>
    show ((cfgA T1 g).win (7 : Fin 8)).index t 0 * 512 + 1 * (y 0 : Fin 512).val = t.val * 512 + (y 0 : Fin 512).val
    rw [idx_out]
    show t.val * 512 + 1 * (y 0 : Fin 512).val = t.val * 512 + (y 0 : Fin 512).val
    omega
  | ⟨1, _⟩ =>
    show ((cfgA T1 g).win (7 : Fin 8)).index t 1 * 1024 + 1 * (y 1 : Fin 1024).val = (y 1 : Fin 1024).val
    rw [idx_out]
    show 0 * 1024 + 1 * (y 1 : Fin 1024).val = (y 1 : Fin 1024).val
    omega

/-- The result array after the run. -/
theorem arr_out (c : Dev nD) : (dats T1 g m 0 c).arrAt (7 : Fin 8) (cfgA T1 g).N = result m T0 T1 T2 c := by
  refine (dats T1 g m 0 c).arrAt_eq_of_cover (7 : Fin 8) (result m T0 T1 T2 c) (fun t _ => ?_) (fun i => ?_)
  · funext y
    show outBlk m T0 T1 T2 c t.val y = result m T0 T1 T2 c ((((cfgA T1 g).win (7 : Fin 8)).blk t).view.emb y)
    unfold result
    have h0 : (y 0 : Fin 512).val < 512 := (y 0 : Fin 512).isLt
    have e0 : ((((cfgA T1 g).win (7 : Fin 8)).blk t).view.emb y (0 : Fin 2)).val = t.val * 512 + (y 0 : Fin 512).val := emb_out T1 g t y 0
    have e1 : ((((cfgA T1 g).win (7 : Fin 8)).blk t).view.emb y (1 : Fin 2)).val = (y 1 : Fin 1024).val := emb_out T1 g t y 1
    have hb : ((((cfgA T1 g).win (7 : Fin 8)).blk t).view.emb y (0 : Fin 2)).val / 512 = t.val := by rw [e0]; omega
    refine congr (congrArg (outBlk m T0 T1 T2 c) hb.symm) (funext fun a => Fin.ext ?_)
    match a with
    | ⟨0, _⟩ =>
      show (y 0 : Fin 512).val = ((((cfgA T1 g).win (7 : Fin 8)).blk t).view.emb y (0 : Fin 2)).val % 512
      rw [e0]; omega
    | ⟨1, _⟩ => exact e1.symm
  · have hi : (i (0 : Fin 2) : Fin 178176).val < 178176 := (i (0 : Fin 2) : Fin 178176).isLt
    let t : Fin (cfgA T1 g).N := ⟨(i (0 : Fin 2) : Fin 178176).val / 512, lt_of_lt_of_eq (by omega) N_0.symm⟩
    let y : S512x1024.Idx := inBlk ⟨(i (0 : Fin 2) : Fin 178176).val % 512, Nat.mod_lt _ (by decide)⟩ (i (1 : Fin 2) : Fin 1024)
    refine ⟨t, flush_out T1 g t, ?_⟩
    have e : i = (((cfgA T1 g).win (7 : Fin 8)).blk t).view.emb y := funext fun a => Fin.ext (by
      refine Eq.trans ?_ (emb_out T1 g t y a).symm
      match a with
      | ⟨0, _⟩ =>
        show (i (0 : Fin 2) : Fin 178176).val = (i (0 : Fin 2) : Fin 178176).val / 512 * 512 + (i (0 : Fin 2) : Fin 178176).val % 512
        omega
      | ⟨1, _⟩ => rfl)
    rw [e]
    exact View.emb_mem_set _ _

include g in
/-- Every run ends with the result as above, every argument unchanged and no counter raised. -/
theorem run (h : Held m T0 T1 T2) : θ_run (defs (F := Ideal)) (onTc (τ := τ) (main (F := Ideal))) ⟨m, fun _ => 0, ρ⟩ (fun r =>
    (∀ c : Dev nD, r.2.mem ((c.tc : Thread nD τ).loc main_v0) = result m T0 T1 T2 c ∧
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)))
      ∧ r.2.sem = fun _ => 0) :=
  (θ_run defs _ _).mono (fun r hr => ⟨fun c =>
    ⟨((hr.1 c).1 (7 : Fin 8)).trans (arr_out T1 g m c),
      ((hr.1 c).1 (0 : Fin 8)).trans ((dats T1 g m 0 c).arrAt_in (0 : Fin 8) rfl _),
      ((hr.1 c).2 0).trans (held_at T1 g m h c 0).symm, ((hr.1 c).2 1).trans (held_at T1 g m h c 1).symm, ((hr.1 c).2 2).trans (held_at T1 g m h c 2).symm,
      ((hr.1 c).1 (1 : Fin 8)).trans ((dats T1 g m 0 c).arrAt_in (1 : Fin 8) rfl _),
      ((hr.1 c).1 (2 : Fin 8)).trans ((dats T1 g m 0 c).arrAt_in (2 : Fin 8) rfl _),
      ((hr.1 c).1 (3 : Fin 8)).trans ((dats T1 g m 0 c).arrAt_in (3 : Fin 8) rfl _),
      ((hr.1 c).1 (4 : Fin 8)).trans ((dats T1 g m 0 c).arrAt_in (4 : Fin 8) rfl _),
      ((hr.1 c).1 (5 : Fin 8)).trans ((dats T1 g m 0 c).arrAt_in (5 : Fin 8) rfl _),
      ((hr.1 c).1 (6 : Fin 8)).trans ((dats T1 g m 0 c).arrAt_in (6 : Fin 8) rfl _)⟩, hr.2⟩) (run_arrays T1 g m ρ h)

end Cert.Kernel2Ideal.Experts

end
-- ==== Proof.ExpertsMath.lean ====
module

public import Idealize.ShloMosaic.Lib.Pointwise

@[expose] public section

noncomputable section

namespace Cert.Experts

open Idealize.ShloMosaic

/-- The bound of the clamps. -/
def lim : EReal := Ideal.ofBits .f32 0x40E00000#32
/-- The lower bound of the second clamp. -/
def nlim : EReal := Ideal.ofBits .f32 0xC0E00000#32
/-- The slope inside the sigmoid. -/
def alpha : EReal := Ideal.ofBits .f32 0x3FD9DB23#32
/-- The first projection, bounded above. -/
def gateOf (s : EReal) : EReal := min s lim
/-- The second projection, bounded on both sides. -/
def upOf (s : EReal) : EReal := min lim (max nlim s)
/-- One hidden entry: the second projection plus one, times the first, times the sigmoid of the sloped first. -/
def hid (gate up : EReal) : EReal := (up + 1) * gate * Ideal.div 1 (1 + Ideal.exp (-(alpha * gate)))

/-- One expert's layer of one row, at output channel `j`. -/
def layer (x : Fin 1024 → EReal) (wg wu wd : Fin 1024 → Fin 1024 → EReal) (bg bu bd : Fin 1024 → EReal) (j : Fin 1024) : EReal :=
  (∑ f, hid (gateOf ((∑ d, x d * wg d f) + bg f)) (upOf ((∑ d, x d * wu d f) + bu f)) * wd f j) + bd j

/-- A row of a block of `nr` rows: as it is below `nr`, zero from there on. -/
def masked (nr : BitVec 32) (r : ℕ) (x : EReal) : EReal := Scalar.select (IntOp.cmpi .slt (BitVec.ofNat 32 r) nr) x 0

/-- The word an entry of a packed row is read from: the words hold the row's first half in their lower 16 bits and its second half
    in their upper 16 bits, and either half is moved to the upper bits of a word whose lower bits are zero. -/
def wordAt (w : Fin 512 → BitVec 32) (d : Fin 1024) : BitVec 32 :=
  if h : d.val < 512 then w ⟨d.val, h⟩ <<< 16#32 else w ⟨d.val - 512, by omega⟩ &&& 4294901760#32

/-- An entry of a packed row: the number its word encodes. -/
def unpacked (w : Fin 512 → BitVec 32) (d : Fin 1024) : EReal := Ideal.ofBits .f32 (wordAt w d)

/-- A row of zero words is a row of zeros. -/
theorem unpacked_zero (d : Fin 1024) : unpacked (fun _ => 0#32) d = 0 := by
  have h : wordAt (fun _ => 0#32) d = 0#32 := by
    unfold wordAt
    split
    · show 0#32 <<< 16#32 = 0#32; decide
    · show 0#32 &&& 4294901760#32 = 0#32; decide
  rw [unpacked, h]
  exact Ideal.ofBits_zero_f32

/-- Masking the words of a packed row masks its entries. -/
theorem unpacked_masked (nr : BitVec 32) (r : ℕ) (w : Fin 512 → BitVec 32) (d : Fin 1024) :
    unpacked (fun k => Scalar.select (IntOp.cmpi .slt (BitVec.ofNat 32 r) nr) (w k) 0#32) d = masked nr r (unpacked w d) := by
  unfold masked Scalar.select
  split
  · rfl
  · exact unpacked_zero d

/-- The experts' result at row `r` and channel `j` of block `n`: the layer of the block's row at the block's expert's weights in
    layer 0 for a valid block, zero past the valid ones. -/
def outAt (X : IVec ⟨2, ![178176, 512]⟩ 32) (T0 T1 : IVec ⟨1, ![348]⟩ 32) (T2 : IVec ⟨1, ![1]⟩ 32)
    (Wg : FVec Ideal ⟨4, ![2, 32, 1024, 1024]⟩ .f32) (Bg : FVec Ideal ⟨4, ![2, 32, 1, 1024]⟩ .f32)
    (Wu : FVec Ideal ⟨4, ![2, 32, 1024, 1024]⟩ .f32) (Bu : FVec Ideal ⟨4, ![2, 32, 1, 1024]⟩ .f32)
    (Wd : FVec Ideal ⟨4, ![2, 32, 1024, 1024]⟩ .f32) (Bd : FVec Ideal ⟨4, ![2, 32, 1, 1024]⟩ .f32)
    (n : Fin 348) (r : Fin 512) (j : Fin 1024) : EReal :=
  let e : Fin 32 := ⟨(T0 (ix1 n)).toNat % 32, Nat.mod_lt _ (by decide)⟩
  if n.val < (T2 (ix1 0)).toNat then
    layer (fun d => masked (T1 (ix1 n)) r.val (unpacked (fun k => X (ix2 ⟨n.val * 512 + r.val, by omega⟩ k)) d))
      (fun d f => Wg (ix4 0 e d f)) (fun d f => Wu (ix4 0 e d f)) (fun d f => Wd (ix4 0 e d f))
      (fun f => Bg (ix4 0 e 0 f)) (fun f => Bu (ix4 0 e 0 f)) (fun f => Bd (ix4 0 e 0 f)) j
  else 0

end Cert.Experts

end

end
-- ==== Proof.ExpertsKValue.lean ====
module

public import proofs.«01_k».proof.Proof.Kernel2IdealRun
public import proofs.«01_k».proof.Proof.ExpertsMath

@[expose] public section

set_option maxRecDepth 16384

noncomputable section

namespace Cert.Kernel2Ideal.Experts

open Idealize.ShloMosaic Idealize.ShloMosaic.TcCoe Cert.Kernel2Ideal.Gen Cert.Experts

/-- The unpacked and masked rows at an index. -/
theorem pay6_apply (nr : BitVec 32) (x : Vec Ideal S512x512 .i32) (r : Fin 512) (d : Fin 1024) :
    (k0_pay6 (F := Ideal) nr x : FVec Ideal S512x1024 .bf16) (ix2 r d) = masked nr r.val (unpacked (fun k => x (ix2 r k)) d) := by
  rw [← unpacked_masked]
  unfold unpacked wordAt
  pointwise [k0_pay6]
  split <;> rfl

/-- The first projection at an index. -/
theorem pay7_apply (nr : BitVec 32) (x : Vec Ideal S512x512 .i32) (w : Vec Ideal S1024x1024 .bf16) (b : Vec Ideal S1x1x1x1024 .f32) (r : Fin 512) (f : Fin 1024) :
    k0_pay7 (F := Ideal) nr x w b (ix2 r f) = gateOf (HAdd.hAdd (α := EReal) (∑ d : Fin 1024, HMul.hMul (α := EReal) (masked nr r.val (unpacked (fun k => x (ix2 r k)) d)) (w (ix2 d f))) (b (ix4 0 0 0 f))) := by
  have h := pay6_apply nr x r
  unfold k0_pay7
  generalize (k0_pay6 (F := Ideal) nr x : FVec Ideal S512x1024 .bf16) = y at h
  simp only [← h]
  pointwise [gateOf, lim]

/-- The second projection's products at an index. -/
theorem pay8_apply (nr : BitVec 32) (x : Vec Ideal S512x512 .i32) (w : Vec Ideal S1024x1024 .bf16) (r : Fin 512) (f : Fin 1024) :
    k0_pay8 (F := Ideal) nr x w (ix2 r f) = ∑ d : Fin 1024, HMul.hMul (α := EReal) (masked nr r.val (unpacked (fun k => x (ix2 r k)) d)) (w (ix2 d f)) := by
  have h := pay6_apply nr x r
  unfold k0_pay8
  generalize (k0_pay6 (F := Ideal) nr x : FVec Ideal S512x1024 .bf16) = y at h
  simp only [← h]
  pointwise

/-- A block's result at an index is its expert's layer of the block's masked row. -/
theorem ffn_apply (nr : BitVec 32) (x : Vec Ideal S512x512 .i32) (wg wu wd : Vec Ideal S1024x1024 .bf16) (bg bu bd : Vec Ideal S1x1x1x1024 .f32) (r : Fin 512) (j : Fin 1024) :
    (ffn nr x wg wu wd bg bu bd : FVec Ideal S512x1024 .bf16) (ix2 r j)
      = layer (fun d => masked nr r.val (unpacked (fun k => x (ix2 r k)) d)) (fun d f => wg (ix2 d f)) (fun d f => wu (ix2 d f)) (fun d f => wd (ix2 d f))
          (fun f => bg (ix4 0 0 0 f)) (fun f => bu (ix4 0 0 0 f)) (fun f => bd (ix4 0 0 0 f)) j := by
  have h7 := pay7_apply nr x wg bg r
  have h8 := pay8_apply nr x wu r
  unfold ffn
  generalize k0_pay7 (F := Ideal) nr x wg bg = y7 at h7
  generalize k0_pay8 (F := Ideal) nr x wu = y8 at h8
  unfold layer upOf
  simp only [← h7, ← h8]
  pointwise [k0_pay1, hid, lim, nlim, alpha]
  simp only [zero_sub]

theorem at348_ix (n : ℕ) (h : n < 348) : at348 n h = ix1 (⟨n, h⟩ : Fin 348) := funext fun a => by
  match a with
  | ⟨0, _⟩ => rfl

theorem at1_ix : at1 = ix1 (0 : Fin 1) := (at1_only _).symm

theorem inBlk_ix (r : Fin 512) (j : Fin 1024) : inBlk r j = ix2 r j := funext fun a => by
  match a with
  | ⟨0, _⟩ => rfl
  | ⟨1, _⟩ => rfl

/-- An expert's weight as a scratch holds it, at an index. -/
theorem pay3_apply (A : S2x32x1024x1024.Idx → Elt Ideal .f32) (e : ℕ) (d f : Fin 1024) :
    k0_pay3 (F := Ideal) (wblk A e) (ix2 d f) = A (ix4 0 ⟨e % 32, Nat.mod_lt _ (by decide)⟩ d f) := by
  have h : wblk A e (ix4 0 0 d f) = A (ix4 0 ⟨e % 32, Nat.mod_lt _ (by decide)⟩ d f) := congrArg A (funext fun a => by
    match a with
    | ⟨0, _⟩ => rfl
    | ⟨1, _⟩ => rfl
    | ⟨2, _⟩ => rfl
    | ⟨3, _⟩ => rfl)
  refine Eq.trans ?_ h
  generalize wblk A e = w
  pointwise [k0_pay3]

theorem pay4_eq (w : Vec Ideal S1x1x1024x1024 .f32) : k0_pay4 (F := Ideal) w = k0_pay3 w := rfl
theorem pay5_eq (w : Vec Ideal S1x1x1024x1024 .f32) : k0_pay5 (F := Ideal) w = k0_pay3 w := rfl

/-- An expert's bias at an index. -/
theorem bblk_apply (A : S2x32x1x1024.Idx → Elt Ideal .f32) (e : ℕ) (f : Fin 1024) :
    bblk A e (ix4 0 0 0 f) = A (ix4 0 ⟨e % 32, Nat.mod_lt _ (by decide)⟩ 0 f) := congrArg A (funext fun a => by
  match a with
  | ⟨0, _⟩ => rfl
  | ⟨1, _⟩ => rfl
  | ⟨2, _⟩ => rfl
  | ⟨3, _⟩ => rfl)

/-- A block of the rows' words at an index. -/
theorem xblk_apply (A : S178176x512.Idx → Elt Ideal .i32) (n : Fin 348) (r : Fin 512) (d : Fin 512) :
    xblk A n.val (ix2 r d) = A (ix2 ⟨n.val * 512 + r.val, by omega⟩ d) := congrArg A (funext fun a => by
  match a with
  | ⟨0, _⟩ => exact Fin.ext (show n.val % 348 * 512 + r.val = n.val * 512 + r.val by rw [Nat.mod_eq_of_lt n.isLt])
  | ⟨1, _⟩ => rfl)

variable (m : (ℓ : Loc nD τ sig) → Buf (Elt Ideal) ℓ) (c : Dev nD) (T0 T1 : S348.Idx → BitVec 32) (T2 : S1.Idx → BitVec 32)

/-- The kernel's result at row `r` and channel `j` of block `n`. -/
theorem outBlk_apply (n : Fin 348) (r : Fin 512) (j : Fin 1024) :
    outBlk m T0 T1 T2 c n.val (ix2 r j) = outAt (X m c) T0 T1 T2 (Wg m c) (Bg m c) (Wu m c) (Bu m c) (Wd m c) (Bd m c) n r j := by
  have hr : rows T1 n.val = T1 (ix1 n) := by rw [rows, dif_pos n.isLt, at348_ix]
  have he : expert T0 n.val = (T0 (ix1 n)).toNat := by rw [expert, dif_pos n.isLt, at348_ix]
  unfold outBlk outAt valids
  rw [at1_ix]
  split
  · rw [ffn_apply, hr, he, pay4_eq, pay5_eq]
    simp only [pay3_apply, bblk_apply, xblk_apply]
  · pointwise [k0_pay2]

/-- The kernel's result at an index: row `i 0` is row `i 0 % 512` of block `i 0 / 512`. -/
theorem result_apply (i0 : Fin 178176) (j : Fin 1024) :
    result m T0 T1 T2 c (ix2 i0 j) = outAt (X m c) T0 T1 T2 (Wg m c) (Bg m c) (Wu m c) (Bu m c) (Wd m c) (Bd m c)
      ⟨i0.val / 512, by omega⟩ ⟨i0.val % 512, Nat.mod_lt _ (by decide)⟩ j :=
  Eq.trans (congrArg (outBlk m T0 T1 T2 c (i0.val / 512)) (inBlk_ix ⟨i0.val % 512, Nat.mod_lt _ (by decide)⟩ j))
    (outBlk_apply m c T0 T1 T2 ⟨i0.val / 512, by omega⟩ _ _)

end Cert.Kernel2Ideal.Experts
-- ==== Proof.ExpertsRValue.lean ====
module

public import proofs.«01_k».proof.Proof.ExpertsMath
public import proofs.«01_k».proof.Proof.Gen.Reference2Ideal.Read
public import Idealize.ShloMosaic.Lib.WordCmp
public import Idealize.ShloMosaic.Lib.ValueIdx
public import Idealize.ShloMosaic.Lib.IdealHost

@[expose] public section

set_option maxRecDepth 16384

noncomputable section

namespace Cert.Reference2Ideal.Experts

open Cert.Experts Cert.Reference2Ideal Cert.Reference2Ideal.Gen Cert.Reference2Ideal.Read Idealize.ShloMosaic
  Idealize.ShloMosaic.WordCmp

/-- The dimension numbers of taking, for each of 348 start indices, one `[K, 1024]` slab of 32. -/
abbrev slabDims (K : ℕ) (wf : GatherDims.WF ⟨3, ![32, K, 1024]⟩ ⟨2, ![348, 1]⟩ ⟨3, ![348, K, 1024]⟩ [1, 2] [0] [] [0] [] 1 ![1, K, 1024]) :
    GatherDims ⟨3, ![32, K, 1024]⟩ ⟨2, ![348, 1]⟩ ⟨3, ![348, K, 1024]⟩ where
  offsetDims := [1, 2]
  collapsedSliceDims := [0]
  operandBatchingDims := []
  startIndicesBatchingDims := []
  startIndexMap := [0]
  indexVectorDim := 1
  sliceSizes := ![1, K, 1024]
  wf := wf

/-- Taking slabs, read at an index: entry `(n, d, f)` is the operand at slab `e` when the start index of `n`, bounded to the 32
    slabs, is `e`. -/
theorem slab_apply {α : Type} (K : ℕ)
    (wf : GatherDims.WF ⟨3, ![32, K, 1024]⟩ ⟨2, ![348, 1]⟩ ⟨3, ![348, K, 1024]⟩ [1, 2] [0] [] [0] [] 1 ![1, K, 1024])
    (x : (⟨3, ![32, K, 1024]⟩ : Shape).Idx → α) (idx : IVec ⟨2, ![348, 1]⟩ 32) (n : Fin 348) (d : Fin K) (f : Fin 1024) (e : Fin 32)
    (he : min (idx (ix2 n (0 : Fin 1))).toInt.toNat 31 = e.val) :
    Host.gather (slabDims K wf) x idx (ix3 n d f) = x (ix3 e d f) := by
  unfold Host.gather
  congr 1
  funext a
  refine Fin.ext ?_
  show (slabDims K wf).start (ix3 n d f) idx a + (slabDims K wf).batchCoord (ix3 n d f) a + (slabDims K wf).offCoord (ix3 n d f) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    show (slabDims K wf).start (ix3 n d f) idx 0 = e.val
    unfold GatherDims.start
    rw [dif_pos (show (0 : Fin 3) ∈ (slabDims K wf).startIndexMap from List.mem_singleton.mpr rfl)]
    have hsi : (slabDims K wf).siIdx (ix3 n d f) ⟨List.idxOf (0 : Fin 3) (slabDims K wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    exact he
  | ⟨1, _⟩ =>
    have hs : (slabDims K wf).start (ix3 n d f) idx 1 = 0 := by
      unfold GatherDims.start
      rw [dif_neg (show ¬ (1 : Fin 3) ∈ ([0] : List (Fin 3)) from by decide)]
    show (slabDims K wf).start (ix3 n d f) idx 1 + _ = _
    rw [hs, Nat.zero_add]
    unfold GatherDims.offCoord
    rw [dif_pos ((GatherDims.mem_sKept _ _).mpr ⟨show ¬ (1 : Fin 3) ∈ ([0] : List (Fin 3)) from by decide, List.not_mem_nil⟩)]
    rfl
  | ⟨2, _⟩ =>
    have hs : (slabDims K wf).start (ix3 n d f) idx 2 = 0 := by
      unfold GatherDims.start
      rw [dif_neg (show ¬ (2 : Fin 3) ∈ ([0] : List (Fin 3)) from by decide)]
    show (slabDims K wf).start (ix3 n d f) idx 2 + _ = _
    rw [hs, Nat.zero_add]
    unfold GatherDims.offCoord
    rw [dif_pos ((GatherDims.mem_sKept _ _).mpr ⟨show ¬ (2 : Fin 3) ∈ ([0] : List (Fin 3)) from by decide, List.not_mem_nil⟩)]
    rfl

variable (x0 : (⟨S178176x512, .i32⟩ : BufTy).Contents (Elt Ideal)) (x1 x2 : (⟨S348, .i32⟩ : BufTy).Contents (Elt Ideal))
  (x3 : (⟨S1, .i32⟩ : BufTy).Contents (Elt Ideal)) (w4 w6 w8 : (⟨S2x32x1024x1024, .f32⟩ : BufTy).Contents (Elt Ideal))
  (b5 b7 b9 : (⟨S2x32x1x1024, .f32⟩ : BufTy).Contents (Elt Ideal))

/-- The start index of a block: its expert, none being negative. -/
theorem start_apply (h : ∀ y, (x1 y).toNat < 32) (n : Fin 348) : val_main_v23 (F := Ideal) x1 (ix2 n (0 : Fin 1)) = x1 (ix1 n) := by
  have hi : idx_main_v23 (ix2 n (0 : Fin 1)) = ix1 n := funext fun a => by
    match a with
    | ⟨0, _⟩ => rfl
  have hc : val_main_v19 (F := Ideal) x1 (ix1 n) = 0#1 := by
    rw [val_main_v19_apply, val_main_v18_apply, val_main_c_1_apply]
    show IntOp.cmpi .slt (x1 (ix1 n)) 0#32 = 0#1
    have hn := h (ix1 n)
    rw [cmpi_slt_of_lt (by norm_num; omega) (by norm_num)]
    simp
  rw [val_main_v23_apply, hi, val_main_v22_apply, hc]
  exact ValueIdx.select_zero _ _

theorem start_min (h : ∀ y, (x1 y).toNat < 32) (n : Fin 348) :
    min (val_main_v23 (F := Ideal) x1 (ix2 n (0 : Fin 1))).toInt.toNat 31 = (x1 (ix1 n)).toNat % 32 := by
  rw [start_apply x1 h n]
  have hn := h (ix1 n)
  rw [toInt_eq_toNat_of_lt_half (by norm_num; omega), Int.toNat_natCast, Nat.mod_eq_of_lt hn]
  omega

/-- Layer 0's weights at an expert. -/
theorem weights_apply (e : Fin 32) (d f : Fin 1024) : val_main_v17 (F := Ideal) w4 (ix3 e d f) = w4 (ix4 0 e d f) := by
  rw [val_main_v17_apply, val_main_v16_apply]
  refine congrArg w4 (funext fun a => Fin.ext ?_)
  match a with
  | ⟨0, _⟩ => rfl
  | ⟨1, _⟩ => show ((e.val * 1024 + d.val) * 1024 + f.val) / 1048576 % 32 = e.val; omega
  | ⟨2, _⟩ => show ((e.val * 1024 + d.val) * 1024 + f.val) / 1024 % 1024 = d.val; omega
  | ⟨3, _⟩ => show ((e.val * 1024 + d.val) * 1024 + f.val) % 1024 = f.val; omega

/-- Layer 0's biases at an expert. -/
theorem biases_apply (e : Fin 32) (f : Fin 1024) : val_main_v27 (F := Ideal) b5 (ix3 e (0 : Fin 1) f) = b5 (ix4 0 e 0 f) := by
  rw [val_main_v27_apply, val_main_v26_apply]
  refine congrArg b5 (funext fun a => Fin.ext ?_)
  match a with
  | ⟨0, _⟩ => rfl
  | ⟨1, _⟩ => show ((e.val * 1 + 0) * 1024 + f.val) / 1024 % 32 = e.val; omega
  | ⟨2, _⟩ => rfl
  | ⟨3, _⟩ => show ((e.val * 1 + 0) * 1024 + f.val) % 1024 = f.val; omega

/-- A block's expert's weight at an index. -/
theorem weight_apply (h : ∀ y, (x1 y).toNat < 32) (n : Fin 348) (d f : Fin 1024) :
    val_main_v24 (F := Ideal) x1 w4 (ix3 n d f) = w4 (ix4 0 ⟨(x1 (ix1 n)).toNat % 32, Nat.mod_lt _ (by decide)⟩ d f) := by
  refine (slab_apply 1024 gather_S32x1024x1024_S348x1_S348x1024x1024_12_0_n_n_0_1_110241024.wf (val_main_v17 (F := Ideal) w4) (val_main_v23 (F := Ideal) x1) n d f
    ⟨(x1 (ix1 n)).toNat % 32, Nat.mod_lt _ (by decide)⟩ (start_min x1 h n)).trans ?_
  exact weights_apply w4 _ d f

/-- A block's expert's bias at an index. -/
theorem bias_apply (h : ∀ y, (x1 y).toNat < 32) (n : Fin 348) (f : Fin 1024) :
    val_main_v34 (F := Ideal) x1 b5 (ix3 n (0 : Fin 1) f) = b5 (ix4 0 ⟨(x1 (ix1 n)).toNat % 32, Nat.mod_lt _ (by decide)⟩ 0 f) := by
  refine (slab_apply 1 gather_S32x1x1024_S348x1_S348x1x1024_12_0_n_n_0_1_111024.wf (val_main_v27 (F := Ideal) b5) (val_main_v23 (F := Ideal) x1) n 0 f
    ⟨(x1 (ix1 n)).toNat % 32, Nat.mod_lt _ (by decide)⟩ (start_min x1 h n)).trans ?_
  exact biases_apply b5 _ f

theorem weight2_eq : val_main_v47 (F := Ideal) x1 w6 = val_main_v24 (F := Ideal) x1 w6 := rfl
theorem weight3_eq : val_main_v81 (F := Ideal) x1 w8 = val_main_v24 (F := Ideal) x1 w8 := rfl
theorem bias2_eq : val_main_v57 (F := Ideal) x1 b7 = val_main_v34 (F := Ideal) x1 b7 := rfl
theorem bias3_eq : val_main_v91 (F := Ideal) x1 b9 = val_main_v34 (F := Ideal) x1 b9 := rfl

/-- The unpacked rows at an index. -/
theorem words_apply (i : Fin 178176) (d : Fin 1024) : val_main_v6 (F := Ideal) x0 (ix2 i d) = unpacked (fun k => x0 (ix2 i k)) d := by
  have h2 : ∀ y, val_main_v2 (F := Ideal) x0 y = Ideal.ofBits .f32 (x0 y <<< 16#32) := fun y => rfl
  have h5 : ∀ y, val_main_v5 (F := Ideal) x0 y = Ideal.ofBits .f32 (x0 y &&& 4294901760#32) := fun y => rfl
  unfold val_main_v6 unpacked wordAt
  generalize val_main_v2 (F := Ideal) x0 = a at h2
  generalize val_main_v5 (F := Ideal) x0 = b at h5
  rw [concatenate_pair_apply]
  split
  · rename_i h
    rw [h2, dif_pos (show d.val < 512 from h)]
    refine congrArg (fun y => Ideal.ofBits .f32 (x0 y <<< 16#32)) (funext fun a => ?_)
    match a with
    | ⟨0, _⟩ => rfl
    | ⟨1, _⟩ => rfl
  · rename_i h
    rw [h5, dif_neg (show ¬ d.val < 512 from h)]
    refine congrArg (fun y => Ideal.ofBits .f32 (x0 y &&& 4294901760#32)) (funext fun a => ?_)
    match a with
    | ⟨0, _⟩ => rfl
    | ⟨1, _⟩ => rfl

/-- The rows of a block, those past its count zeroed. -/
theorem rows_apply (n : Fin 348) (r : Fin 512) (d : Fin 1024) :
    val_main_v15 (F := Ideal) x0 x2 (ix3 n r d) = masked (x2 (ix1 n)) r.val (unpacked (fun k => x0 (ix2 ⟨n.val * 512 + r.val, by omega⟩ k)) d) := by
  have hi : idx_main_v7 (ix3 n r d) = ix2 (⟨n.val * 512 + r.val, by omega⟩ : Fin 178176) d := funext fun a => Fin.ext (by
    match a with
    | ⟨0, _⟩ => show ((n.val * 512 + r.val) * 1024 + d.val) / 1024 = n.val * 512 + r.val; omega
    | ⟨1, _⟩ => show ((n.val * 512 + r.val) * 1024 + d.val) % 1024 = d.val; omega)
  have hx : val_main_v7 (F := Ideal) x0 (ix3 n r d) = unpacked (fun k => x0 (ix2 ⟨n.val * 512 + r.val, by omega⟩ k)) d := by
    rw [val_main_v7_apply, hi, words_apply]
  have hz : val_main_call0_v2 (F := Ideal) (ix3 n r d) = (0 : EReal) := by
    rw [val_main_call0_v2_apply, val_main_call0_v0_apply, val_main_cst_apply]
    exact Ideal.ofBits_zero_f32
  have hc : val_main_call0_v1 (F := Ideal) x2 (ix3 n r d) = IntOp.cmpi .slt (BitVec.ofNat 32 r.val) (x2 (ix1 n)) := by
    rw [val_main_call0_v1_apply, val_main_v14_apply, val_main_v13_apply, val_main_v11_apply, val_main_v12_apply, val_main_v9_apply,
      val_main_v10_apply, val_main_v8_apply]
    refine congrArg (fun t => IntOp.cmpi .slt (BitVec.ofNat 32 r.val) (x2 t)) (funext fun a => ?_)
    match a with
    | ⟨0, _⟩ => rfl
  rw [val_main_v15_apply, hx, hz, hc]
  rfl

/-- A projection of a block's rows: the sum of products plus the bias. -/
theorem proj_apply (h : ∀ y, (x1 y).toNat < 32) (n : Fin 348) (r : Fin 512) (f : Fin 1024) :
    val_main_v36 (F := Ideal) x0 x1 x2 w4 b5 (ix3 n r f)
      = HAdd.hAdd (α := EReal) (β := EReal) (∑ d : Fin 1024, HMul.hMul (α := EReal) (β := EReal) (γ := EReal) (masked (x2 (ix1 n)) r.val (unpacked (fun k => x0 (ix2 ⟨n.val * 512 + r.val, by omega⟩ k)) d))
          (w4 (ix4 0 ⟨(x1 (ix1 n)).toNat % 32, Nat.mod_lt _ (by decide)⟩ d f)))
        (b5 (ix4 0 ⟨(x1 (ix1 n)).toNat % 32, Nat.mod_lt _ (by decide)⟩ 0 f)) := by
  have hl : ∀ k, lidx_main_v25 (ix3 n r f) k = ix3 n r k := fun k => funext fun a => by
    match a with
    | ⟨0, _⟩ => rfl
    | ⟨1, _⟩ => rfl
    | ⟨2, _⟩ => rfl
  have hr : ∀ k, ridx_main_v25 (ix3 n r f) k = ix3 n k f := fun k => funext fun a => by
    match a with
    | ⟨0, _⟩ => rfl
    | ⟨1, _⟩ => rfl
    | ⟨2, _⟩ => rfl
  have hb : idx_main_v35 (ix3 n r f) = ix3 n (0 : Fin 1) f := funext fun a => by
    match a with
    | ⟨0, _⟩ => rfl
    | ⟨1, _⟩ => rfl
    | ⟨2, _⟩ => rfl
  rw [val_main_v36_apply, val_main_v35_apply, hb, bias_apply x1 b5 h n f, val_main_v25_apply]
  refine congrArg (fun s : EReal => s + _) (Finset.sum_congr rfl fun k _ => ?_)
  rw [hl, hr, rows_apply, weight_apply x1 w4 h]

theorem proj2_eq : val_main_v59 (F := Ideal) x0 x1 x2 w6 b7 = val_main_v36 (F := Ideal) x0 x1 x2 w6 b7 := rfl

/-- The hidden entries of a block's rows. -/
theorem hidden_apply (i : S348x512x1024.Idx) :
    val_main_v72 (F := Ideal) x0 x1 x2 w4 b5 w6 b7 i
      = hid (gateOf (val_main_v36 (F := Ideal) x0 x1 x2 w4 b5 i)) (upOf (val_main_v36 (F := Ideal) x0 x1 x2 w6 b7 i)) := by
  have hg : val_main_v38 (F := Ideal) x0 x1 x2 w4 b5 i = gateOf (val_main_v36 (F := Ideal) x0 x1 x2 w4 b5 i) := by
    rw [val_main_v38_apply, val_main_v37_apply, val_main_cst_5_apply]
    rfl
  have hu : val_main_v60 (F := Ideal) x0 x1 x2 w6 b7 i = upOf (val_main_v36 (F := Ideal) x0 x1 x2 w6 b7 i) := by
    rw [val_main_v60_apply, val_main_call1_v4_apply, val_main_call1_v3_apply, val_main_cst_11_apply, val_main_call1_v2_apply,
      val_main_call1_v1_apply, val_main_call1_v0_apply, val_main_cst_10_apply, proj2_eq]
    rfl
  have ho : FloatOps.ofBits (F := Ideal) .f32 0x3F800000#32 = (1 : EReal) := Ideal.ofBits_one_f32
  rw [val_main_v72_apply, val_main_v63_apply, val_main_v62_apply, val_main_v61_apply, val_main_v71_apply, val_main_v70_apply,
    val_main_v69_apply, val_main_v68_apply, val_main_v67_apply, val_main_v66_apply, val_main_v65_apply, val_main_v64_apply, hg, hu,
    val_main_cst_12_apply, val_main_cst_13_apply, val_main_cst_14_apply, val_main_cst_15_apply, ho]
  rfl

/-- The layer of a block's rows. -/
theorem layer_apply (h : ∀ y, (x1 y).toNat < 32) (n : Fin 348) (r : Fin 512) (j : Fin 1024) :
    val_main_v93 (F := Ideal) x0 x1 x2 w4 b5 w6 b7 w8 b9 (ix3 n r j)
      = layer (fun d => masked (x2 (ix1 n)) r.val (unpacked (fun k => x0 (ix2 ⟨n.val * 512 + r.val, by omega⟩ k)) d))
          (fun d f => w4 (ix4 0 ⟨(x1 (ix1 n)).toNat % 32, Nat.mod_lt _ (by decide)⟩ d f))
          (fun d f => w6 (ix4 0 ⟨(x1 (ix1 n)).toNat % 32, Nat.mod_lt _ (by decide)⟩ d f))
          (fun d f => w8 (ix4 0 ⟨(x1 (ix1 n)).toNat % 32, Nat.mod_lt _ (by decide)⟩ d f))
          (fun f => b5 (ix4 0 ⟨(x1 (ix1 n)).toNat % 32, Nat.mod_lt _ (by decide)⟩ 0 f))
          (fun f => b7 (ix4 0 ⟨(x1 (ix1 n)).toNat % 32, Nat.mod_lt _ (by decide)⟩ 0 f))
          (fun f => b9 (ix4 0 ⟨(x1 (ix1 n)).toNat % 32, Nat.mod_lt _ (by decide)⟩ 0 f)) j := by
  have hl : ∀ k, lidx_main_v82 (ix3 n r j) k = ix3 n r k := fun k => funext fun a => by
    match a with
    | ⟨0, _⟩ => rfl
    | ⟨1, _⟩ => rfl
    | ⟨2, _⟩ => rfl
  have hr : ∀ k, ridx_main_v82 (ix3 n r j) k = ix3 n k j := fun k => funext fun a => by
    match a with
    | ⟨0, _⟩ => rfl
    | ⟨1, _⟩ => rfl
    | ⟨2, _⟩ => rfl
  have hb : idx_main_v92 (ix3 n r j) = ix3 n (0 : Fin 1) j := funext fun a => by
    match a with
    | ⟨0, _⟩ => rfl
    | ⟨1, _⟩ => rfl
    | ⟨2, _⟩ => rfl
  rw [val_main_v93_apply, val_main_v92_apply, hb, bias3_eq, bias_apply x1 b9 h n j, val_main_v82_apply]
  refine congrArg (fun s : EReal => s + _) (Finset.sum_congr rfl fun k _ => ?_)
  rw [hl, hr, hidden_apply, weight3_eq, weight_apply x1 w8 h, proj_apply x0 x1 x2 w4 b5 h, proj_apply x0 x1 x2 w6 b7 h]

/-- A block is valid exactly when its number is below the count of valid blocks. -/
theorem valid_apply (h3 : ∀ y, 1 ≤ (x3 y).toInt) (n : Fin 348) (r : Fin 512) (j : Fin 1024) :
    val_main_call2_v1 (F := Ideal) x3 (ix3 n r j) = BitVec.ofBool (decide (n.val < (x3 (ix1 0)).toNat)) := by
  have hp := h3 (ix1 0)
  have h31 := (toInt_nonneg_iff_lt_half (x3 (ix1 0))).mp (by omega)
  have hi : (BitVec.ofNat 32 n.val).toNat = n.val := toNat_ofNat_of_lt (by have := n.isLt; norm_num; omega)
  have hc : val_main_call2_v1 (F := Ideal) x3 (ix3 n r j) = IntOp.cmpi .slt (BitVec.ofNat 32 n.val) (x3 (ix1 0)) := by
    rw [val_main_call2_v1_apply, val_main_v97_apply, val_main_v96_apply, val_main_v94_apply, val_main_v95_apply]
    refine congrArg (fun t => IntOp.cmpi .slt (BitVec.ofNat 32 n.val) (x3 t)) (funext fun a => ?_)
    match a with
    | ⟨0, _⟩ => rfl
  rw [hc, cmpi_slt_of_lt (by rw [hi]; have := n.isLt; norm_num; omega) h31, hi]

/-- The reference's result at an index. -/
theorem value_apply (h : ∀ y, (x1 y).toNat < 32) (h3 : ∀ y, 1 ≤ (x3 y).toInt) (i0 : Fin 178176) (j : Fin 1024) :
    val_main_v100 (F := Ideal) x0 x1 x2 x3 w4 b5 w6 b7 w8 b9 (ix2 i0 j)
      = outAt x0 x1 x2 x3 w4 b5 w6 b7 w8 b9 ⟨i0.val / 512, by omega⟩ ⟨i0.val % 512, Nat.mod_lt _ (by decide)⟩ j := by
  have hi : idx_main_v99 (ix2 i0 j) = ix3 (⟨i0.val / 512, by omega⟩ : Fin 348) (⟨i0.val % 512, Nat.mod_lt _ (by decide)⟩ : Fin 512) j := funext fun a => Fin.ext (by
    match a with
    | ⟨0, _⟩ => show (i0.val * 1024 + j.val) / 524288 = i0.val / 512; omega
    | ⟨1, _⟩ => show (i0.val * 1024 + j.val) / 1024 % 512 = i0.val % 512; omega
    | ⟨2, _⟩ => show (i0.val * 1024 + j.val) % 1024 = j.val; omega)
  have hz : ∀ y, val_main_call2_v2 (F := Ideal) y = (0 : EReal) := fun y => by
    rw [val_main_call2_v2_apply, val_main_call2_v0_apply, val_main_cst_20_apply]
    exact Ideal.ofBits_zero_f32
  rw [val_main_v100_apply, val_main_v99_apply, hi, val_main_v98_apply, hz, valid_apply x3 h3, layer_apply x0 x1 x2 w4 w6 w8 b5 b7 b9 h]
  unfold outAt
  split
  · rename_i hv
    rw [(ofBool_decide_eq_one_iff _).mpr hv, ValueIdx.select_one]
    rfl
  · rename_i hv
    rw [(ofBool_decide_eq_zero_iff _).mpr hv, ValueIdx.select_zero]
    rfl

end Cert.Reference2Ideal.Experts

end

end
-- ==== Proof.ExpertsPre.lean ====
module

public import proofs.«01_k».proof.Proof.Gen.Pre_tables_in_range
public import Idealize.ShloMosaic.Lib.WordCmp

@[expose] public section

noncomputable section

namespace Cert.Experts

open Idealize.ShloMosaic Idealize.ShloMosaic.WordCmp Cert.Pre_tables_in_range Cert.Pre_tables_in_range.Gen

theorem ofBool_one (p : Bool) : BitVec.ofBool p = 1#1 ↔ p = true := by cases p <;> decide

/-- The precondition read: every block's expert is one of the 32, and the number of valid blocks is at least one. -/
theorem ranges {F : FTy → Type} [FloatOps F] (a0 : IVec S178176x512 32) (a1 a2 : IVec S348 32) (a3 : IVec S1 32) (a4 : FVec F S2x32x1024x1024 .f32)
    (a5 : FVec F S2x32x1x1024 .f32) (a6 : FVec F S2x32x1024x1024 .f32) (a7 : FVec F S2x32x1x1024 .f32) (a8 : FVec F S2x32x1024x1024 .f32) (a9 : FVec F S2x32x1x1024 .f32)
    (h : (fn a0 a1 a2 a3 a4 a5 a6 a7 a8 a9).1 = (fun _ => 1#1) ∧ (fn a0 a1 a2 a3 a4 a5 a6 a7 a8 a9).2 = (fun _ => 1#1)) :
    (∀ y, (a1 y).toNat < 32) ∧ ∀ y, 1 ≤ (a3 y).toInt := by
  refine ⟨fun y => ?_, fun y => ?_⟩
  · have e := congrFun h.1 y
    have e' : IntOp.andi (IntOp.cmpi .sge (a1 y) 0#32) (IntOp.cmpi .slt (a1 y) (BitVec.ofNat 32 32)) = 1#1 := e
    rw [andi_sge_zero_slt_ofNat (by decide), ofBool_one, decide_eq_true_eq] at e'
    exact e'
  · have e := congrFun h.2 y
    have e' : IntOp.cmpi .sge (a3 y) 1#32 = 1#1 := e
    rw [cmpi_sge_eq, ofBool_one, decide_eq_true_eq] at e'
    exact e'

end Cert.Experts

end

end
-- ==== Proof.Kernel2Paths.lean ====
module

public import proofs.«01_k».proof.Proof.Gen.Kernel2.Flash.Runs
public import Idealize.ShloMosaic.Lib.Tactic.Stretches
public import Idealize.ShloMosaic.Lib.VecWindow
public import Idealize.ShloMosaic.Lib.Pipeline.Value

@[expose] public section

set_option maxRecDepth 16384

noncomputable section

namespace Cert.Kernel2.Experts

open Idealize.ShloMosaic Idealize.ShloMosaic.TcCoe Idealize.ShloMosaic.Tactic Cert.Kernel2.Gen

/-- The result's block of 512 rows: from the block's number of rows, its rows' words, its expert's three weights as the scratches hold
    them and the three biases. -/
def ffn (nr : BitVec 32) (x : Vec Bits S512x512 .i32) (wg wu wd : Vec Bits S1024x1024 .bf16) (bg bu bd : Vec Bits S1x1x1x1024 .f32) : Vec Bits S512x1024 .bf16 :=
  k0_pay1 (k0_pay7 nr x wg bg) (k0_pay8 nr x wu) bu wd bd

/-- The number of rows of the point's block, as the body loads it. -/
def rowsOf (i : grid0.Coords) (T1 : S348.Idx → Elt Bits .i32) : BitVec 32 :=
  View.readAt (Elt Bits) (tbM0_1).view (Rect.unit (s := S348) (k0_off4 i) S1.size (k0_off4_inb i)).toLoadRect T1 (Shape.Idx.first (numel1_S1.symm ▸ Nat.one_pos))

/-- A load of a whole staging block of an expert's weight reads the block. -/
theorem ld_w (a : Memref sig .tc .vmem S1x1x1024x1024 .f32) (x : Vec Bits S1x1x1024x1024 .f32) :
    View.readAt (Elt Bits) a.view (Rect.unit (s := S1x1x1024x1024) ![0, 0, 0, 0] S1x1x1024x1024.size inb_S1x1x1024x1024_S1x1x1024x1024_0_0_0_0).toLoadRect (a.view.rep x) = x :=
  View.readAt_rep_full _ _ _

/-- A load of a whole staging block of a bias reads the block. -/
theorem ld_b (a : Memref sig .tc .vmem S1x1x1x1024 .f32) (x : Vec Bits S1x1x1x1024 .f32) :
    View.readAt (Elt Bits) a.view (Rect.unit (s := S1x1x1x1024) ![0, 0, 0, 0] S1x1x1x1024.size inb_S1x1x1x1024_S1x1x1x1024_0_0_0_0).toLoadRect (a.view.rep x) = x :=
  View.readAt_rep_full _ _ _

/-- A load of the whole staging block of the rows reads the block. -/
theorem ld_x (a : Memref sig .tc .vmem S512x512 .i32) (x : Vec Bits S512x512 .i32) :
    View.readAt (Elt Bits) a.view (Rect.unit (s := S512x512) ![0, 0] S512x512.size inb_S512x512_S512x512_0_0).toLoadRect (a.view.rep x) = x :=
  View.readAt_rep_full _ _ _

/-- A load of a whole scratch just stored whole reads what was stored. -/
theorem ld_c (v : View sig .tc .vmem S1024x1024 .bf16) (x : Vec Bits S1024x1024 .bf16) :
    v.readCov (Val := Elt Bits) [⟨Rect.unit (s := S1024x1024) ![0, 0] S1024x1024.size inb_S1024x1024_S1024x1024_0_0, x⟩]
      (Rect.unit (s := S1024x1024) ![0, 0] S1024x1024.size inb_S1024x1024_S1024x1024_0_0).toLoadRect = x :=
  View.readCov_full _ _ _ _ _

/-- A store of a whole buffer leaves what was stored. -/
theorem st_whole (b : Ref sig .tc) (f w : b.ty.Contents (Elt Bits)) {off : Fin b.ty.shape.rank → ℕ} (inb : ∀ a, off a + b.ty.shape.size a ≤ b.ty.shape.size a) :
    (View.whole b).writes (Elt Bits) f [⟨Rect.unit off b.ty.shape.size inb, w⟩] = w :=
  View.read_writes_full (View.whole b) f inb w []

section
variable (c : Dev nD) (i : grid0.Coords) (arg4 : Memref sig .tc .vmem S512x512 .i32) (harg4 : arg4.IsWhole) (arg5 : Memref sig .tc .vmem S1x1x1024x1024 .f32) (harg5 : arg5.IsWhole)
  (arg6 : Memref sig .tc .vmem S1x1x1x1024 .f32) (harg6 : arg6.IsWhole) (arg7 : Memref sig .tc .vmem S1x1x1024x1024 .f32) (harg7 : arg7.IsWhole)
  (arg8 : Memref sig .tc .vmem S1x1x1x1024 .f32) (harg8 : arg8.IsWhole) (arg9 : Memref sig .tc .vmem S1x1x1024x1024 .f32) (harg9 : arg9.IsWhole)
  (arg10 : Memref sig .tc .vmem S1x1x1x1024 .f32) (harg10 : arg10.IsWhole) (arg11 : Memref sig .tc .vmem S512x1024 .bf16) (harg11 : arg11.IsWhole)
  (T0 : S348.Idx → Elt Bits .i32) (T1 : S348.Idx → Elt Bits .i32) (T2 : S1.Idx → Elt Bits .i32)
  (x0 : S512x512.Idx → Elt Bits .i32) (x1 : S1x1x1024x1024.Idx → Elt Bits .f32) (x2 : S1x1x1x1024.Idx → Elt Bits .f32) (x3 : S1x1x1024x1024.Idx → Elt Bits .f32)
  (x4 : S1x1x1x1024.Idx → Elt Bits .f32) (x5 : S1x1x1024x1024.Idx → Elt Bits .f32) (x6 : S1x1x1x1024.Idx → Elt Bits .f32)
  (xa0 : Buf (Elt Bits) ((c : Thread nD τ).loc cc0_scratch0)) (xa1 : Buf (Elt Bits) ((c : Thread nD τ).loc cc0_scratch1)) (xa2 : Buf (Elt Bits) ((c : Thread nD τ).loc cc0_scratch2))

/-- A block's first point stores the layer of its rows at its expert's weights. -/
theorem pieces_A (k0_h1) (hc1) (k0_h3) : (kernelRun0_A c i arg4 harg4 arg5 harg5 arg6 harg6 arg7 harg7 arg8 harg8 arg9 harg9 arg10 harg10 arg11 harg11 T0 T1 T2 x0 x1 x2 x3 x4 x5 x6 k0_h1 hc1 k0_h3).1
    = [⟨Rect.unit ![0, 0] S512x1024.size inb_S512x1024_S512x1024_0_0, ffn (rowsOf i T1) x0 (k0_pay3 x1) (k0_pay4 x3) (k0_pay5 x5) x2 x4 x6⟩] := by
  dsimp only [kernelRun0_A]
  sl_open_run
  unfold ffn rowsOf
  rw [ld_w, ld_w, ld_w, ld_b, ld_b, ld_b, ld_x, ld_c, ld_c, ld_c]

/-- The first scratch then holds the gate's weight. -/
theorem gate_A (k0_h1) (hc1) (k0_h3) : (kernelRun0_A c i arg4 harg4 arg5 harg5 arg6 harg6 arg7 harg7 arg8 harg8 arg9 harg9 arg10 harg10 arg11 harg11 T0 T1 T2 x0 x1 x2 x3 x4 x5 x6 k0_h1 hc1 k0_h3).2.1 = (k0_pay3 x1 : FVec Bits S1024x1024 .bf16) := by
  dsimp only [kernelRun0_A]
  sl_open_run
  rw [ld_w]
  exact st_whole cc0_scratch0 _ _ _

/-- The second scratch then holds the second weight. -/
theorem up_A (k0_h1) (hc1) (k0_h3) : (kernelRun0_A c i arg4 harg4 arg5 harg5 arg6 harg6 arg7 harg7 arg8 harg8 arg9 harg9 arg10 harg10 arg11 harg11 T0 T1 T2 x0 x1 x2 x3 x4 x5 x6 k0_h1 hc1 k0_h3).2.2.1 = (k0_pay4 x3 : FVec Bits S1024x1024 .bf16) := by
  dsimp only [kernelRun0_A]
  sl_open_run
  rw [ld_w]
  exact st_whole cc0_scratch1 _ _ _

/-- The third scratch then holds the last weight. -/
theorem down_A (k0_h1) (hc1) (k0_h3) : (kernelRun0_A c i arg4 harg4 arg5 harg5 arg6 harg6 arg7 harg7 arg8 harg8 arg9 harg9 arg10 harg10 arg11 harg11 T0 T1 T2 x0 x1 x2 x3 x4 x5 x6 k0_h1 hc1 k0_h3).2.2.2.1 = (k0_pay5 x5 : FVec Bits S1024x1024 .bf16) := by
  dsimp only [kernelRun0_A]
  sl_open_run
  rw [ld_w]
  exact st_whole cc0_scratch2 _ _ _

/-- A later point of the same expert stores the layer of its rows at the weights the scratches hold. -/
theorem pieces_B (k0_h1) (hc1) (k0_h3) : (kernelRun0_B c i arg4 harg4 arg5 harg5 arg6 harg6 arg7 harg7 arg8 harg8 arg9 harg9 arg10 harg10 arg11 harg11 T0 T1 T2 x0 x1 x2 x3 x4 x5 x6 xa0 xa1 xa2 k0_h1 hc1 k0_h3).1
    = [⟨Rect.unit ![0, 0] S512x1024.size inb_S512x1024_S512x1024_0_0, ffn (rowsOf i T1) x0 xa0 xa1 xa2 x2 x4 x6⟩] := by
  dsimp only [kernelRun0_B]
  sl_open_run
  unfold ffn rowsOf
  rw [ld_b, ld_b, ld_b, ld_x, View.readAt_full, View.readAt_full, View.readAt_full]
  rfl

/-- The scratches keep what they held. -/
theorem kept_B (k0_h1) (hc1) (k0_h3) : (kernelRun0_B c i arg4 harg4 arg5 harg5 arg6 harg6 arg7 harg7 arg8 harg8 arg9 harg9 arg10 harg10 arg11 harg11 T0 T1 T2 x0 x1 x2 x3 x4 x5 x6 xa0 xa1 xa2 k0_h1 hc1 k0_h3).2.1 = xa0
    ∧ (kernelRun0_B c i arg4 harg4 arg5 harg5 arg6 harg6 arg7 harg7 arg8 harg8 arg9 harg9 arg10 harg10 arg11 harg11 T0 T1 T2 x0 x1 x2 x3 x4 x5 x6 xa0 xa1 xa2 k0_h1 hc1 k0_h3).2.2.1 = xa1 ∧ (kernelRun0_B c i arg4 harg4 arg5 harg5 arg6 harg6 arg7 harg7 arg8 harg8 arg9 harg9 arg10 harg10 arg11 harg11 T0 T1 T2 x0 x1 x2 x3 x4 x5 x6 xa0 xa1 xa2 k0_h1 hc1 k0_h3).2.2.2.1 = xa2 :=
  ⟨rfl, rfl, rfl⟩

/-- A point past the valid blocks stores zeros. -/
theorem pieces_C (k0_h1) (k0_h3) : (kernelRun0_C c i arg4 harg4 arg5 harg5 arg6 harg6 arg7 harg7 arg8 harg8 arg9 harg9 arg10 harg10 arg11 harg11 T0 T1 T2 x0 x1 x2 x3 x4 x5 x6 xa0 xa1 xa2 k0_h1 k0_h3).1
    = [⟨Rect.unit ![0, 0] S512x1024.size inb_S512x1024_S512x1024_0_0, (k0_pay2 : FVec Bits S512x1024 .bf16)⟩] := by
  dsimp only [kernelRun0_C]
  sl_open_run
  rfl

/-- Past the valid blocks the scratches keep what they held. -/
theorem kept_C (k0_h1) (k0_h3) : (kernelRun0_C c i arg4 harg4 arg5 harg5 arg6 harg6 arg7 harg7 arg8 harg8 arg9 harg9 arg10 harg10 arg11 harg11 T0 T1 T2 x0 x1 x2 x3 x4 x5 x6 xa0 xa1 xa2 k0_h1 k0_h3).2.1 = xa0
    ∧ (kernelRun0_C c i arg4 harg4 arg5 harg5 arg6 harg6 arg7 harg7 arg8 harg8 arg9 harg9 arg10 harg10 arg11 harg11 T0 T1 T2 x0 x1 x2 x3 x4 x5 x6 xa0 xa1 xa2 k0_h1 k0_h3).2.2.1 = xa1 ∧ (kernelRun0_C c i arg4 harg4 arg5 harg5 arg6 harg6 arg7 harg7 arg8 harg8 arg9 harg9 arg10 harg10 arg11 harg11 T0 T1 T2 x0 x1 x2 x3 x4 x5 x6 xa0 xa1 xa2 k0_h1 k0_h3).2.2.2.1 = xa2 :=
  ⟨rfl, rfl, rfl⟩

end

end Cert.Kernel2.Experts

end

end
-- ==== Proof.Kernel2Body.lean ====
module

public import proofs.«01_k».proof.Proof.Kernel2Tables
public import Idealize.ShloMosaic.Lib.Pipeline.Kit
public import Idealize.ShloMosaic.Lib.Pipeline.TableIdle
public import Idealize.ShloMosaic.Lib.Pipeline.FrameBody
public import Idealize.ShloMosaic.Adequacy
public import Idealize.ShloMosaic.Init

@[expose] public section

set_option maxRecDepth 16384

noncomputable section

namespace Cert.Kernel2.Experts

open Idealize.ShloMosaic Idealize.ShloMosaic.TcCoe Idealize.ShloMosaic.Tactic Cert.Kernel2.Gen Cert.Kernel2
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-- Expert `e`'s block of a weight array, in layer 0. -/
def wblk (A : S2x32x1024x1024.Idx → Elt Bits .f32) (e : ℕ) : Vec Bits S1x1x1024x1024 .f32 := fun y => A fun a => match a with
  | ⟨0, _⟩ => (⟨0, by decide⟩ : Fin 2)
  | ⟨1, _⟩ => (⟨e % 32, Nat.mod_lt _ (by decide)⟩ : Fin 32)
  | ⟨2, _⟩ => (y 2 : Fin 1024)
  | ⟨3, _⟩ => (y 3 : Fin 1024)

/-- Expert `e`'s block of a bias array, in layer 0. -/
def bblk (A : S2x32x1x1024.Idx → Elt Bits .f32) (e : ℕ) : Vec Bits S1x1x1x1024 .f32 := fun y => A fun a => match a with
  | ⟨0, _⟩ => (⟨0, by decide⟩ : Fin 2)
  | ⟨1, _⟩ => (⟨e % 32, Nat.mod_lt _ (by decide)⟩ : Fin 32)
  | ⟨2, _⟩ => (y 2 : Fin 1)
  | ⟨3, _⟩ => (y 3 : Fin 1024)

/-- Block `n` of the rows. -/
def xblk (A : S178176x512.Idx → Elt Bits .i32) (n : ℕ) : Vec Bits S512x512 .i32 := fun y => A fun a => match a with
  | ⟨0, _⟩ => (⟨(n % 348) * 512 + (y 0 : Fin 512).val, by have h0 : (y 0 : Fin 512).val < 512 := (y 0 : Fin 512).isLt; have := Nat.mod_lt n (show 348 > 0 by decide); show _ < 178176; omega⟩ : Fin 178176)
  | ⟨1, _⟩ => (y 1 : Fin 512)

/-- The number of rows of block `n`. -/
def rows (T1 : S348.Idx → BitVec 32) (n : ℕ) : BitVec 32 := if h : n < 348 then T1 (at348 n h) else 0

variable {T0 : S348.Idx → BitVec 32} (T1 : S348.Idx → BitVec 32) {T2 : S1.Idx → BitVec 32} (g : Good T0 T2)

/-- The tables as the launch takes them, and the pipeline at them. -/
def adm : (pcfg0 (F := Bits)).Adm := ⟨tabs T0 T1 T2, ok T1 g⟩
abbrev cfgA : Pipeline.Cfg sig Λ₀ := cfg0 (F := Bits) (adm T1 g)
abbrev pcs : Fin 1 → Pipeline.Cfg sig Λ₀ := Pipeline.pin (pcfgs (F := Bits)) fun _ => adm T1 g

/-- A point's coordinates. -/
abbrev crd (t : Fin (cfgA T1 g).N) : (cfgA T1 g).grid.Coords := (cfgA T1 g).grid.coords t

theorem crd_val (t : Fin (cfgA T1 g).N) : ((crd T1 g t) 0).val = t.val := by
  have ht : t.val < 348 := lt_of_lt_of_eq t.isLt N_0
  have h := Pipeline.Grid.coords_val (G := grid0) t (0 : Fin 1) (S := 1) (B := 348) (by decide) rfl
  refine h.trans ?_
  omega

theorem at348_eq {a b : ℕ} (h : a = b) (ha : a < 348) (hb : b < 348) : at348 a ha = at348 b hb := by
  subst h
  rfl

/-- The rows' word the body loads at a point is the point's block's. -/
theorem rows_at (t : Fin (cfgA T1 g).N) : rowsOf (crd T1 g t) T1 = rows T1 t.val := by
  have ht : t.val < 348 := lt_of_lt_of_eq t.isLt N_0
  rw [rowsOf_eq, rows, dif_pos ht]
  exact congrArg T1 (at348_eq (crd_val T1 g t) _ _)

/-- The windows' current staging buffers at a point, and that each is whole. -/
abbrev st0 (t : Fin (cfgA T1 g).N) : Memref sig .tc .vmem S512x512 .i32 := spec0_0.stage ((cfgA T1 g).slots t (0 : Fin 8))
abbrev st1 (t : Fin (cfgA T1 g).N) : Memref sig .tc .vmem S1x1x1024x1024 .f32 := spec0_1.stage ((cfgA T1 g).slots t (1 : Fin 8))
abbrev st2 (t : Fin (cfgA T1 g).N) : Memref sig .tc .vmem S1x1x1x1024 .f32 := spec0_2.stage ((cfgA T1 g).slots t (2 : Fin 8))
abbrev st3 (t : Fin (cfgA T1 g).N) : Memref sig .tc .vmem S1x1x1024x1024 .f32 := spec0_3.stage ((cfgA T1 g).slots t (3 : Fin 8))
abbrev st4 (t : Fin (cfgA T1 g).N) : Memref sig .tc .vmem S1x1x1x1024 .f32 := spec0_4.stage ((cfgA T1 g).slots t (4 : Fin 8))
abbrev st5 (t : Fin (cfgA T1 g).N) : Memref sig .tc .vmem S1x1x1024x1024 .f32 := spec0_5.stage ((cfgA T1 g).slots t (5 : Fin 8))
abbrev st6 (t : Fin (cfgA T1 g).N) : Memref sig .tc .vmem S1x1x1x1024 .f32 := spec0_6.stage ((cfgA T1 g).slots t (6 : Fin 8))
abbrev st7 (t : Fin (cfgA T1 g).N) : Memref sig .tc .vmem S512x1024 .bf16 := spec0_7.stage ((cfgA T1 g).slots t (7 : Fin 8))
abbrev hw0 (t : Fin (cfgA T1 g).N) : (st0 T1 g t).IsWhole := hstage0_0 (((cfgA T1 g).slots t (0 : Fin 8)).cast nbuf0_0)
abbrev hw1 (t : Fin (cfgA T1 g).N) : (st1 T1 g t).IsWhole := hstage0_1 (((cfgA T1 g).slots t (1 : Fin 8)).cast nbuf0_1)
abbrev hw2 (t : Fin (cfgA T1 g).N) : (st2 T1 g t).IsWhole := hstage0_2 (((cfgA T1 g).slots t (2 : Fin 8)).cast nbuf0_2)
abbrev hw3 (t : Fin (cfgA T1 g).N) : (st3 T1 g t).IsWhole := hstage0_3 (((cfgA T1 g).slots t (3 : Fin 8)).cast nbuf0_3)
abbrev hw4 (t : Fin (cfgA T1 g).N) : (st4 T1 g t).IsWhole := hstage0_4 (((cfgA T1 g).slots t (4 : Fin 8)).cast nbuf0_4)
abbrev hw5 (t : Fin (cfgA T1 g).N) : (st5 T1 g t).IsWhole := hstage0_5 (((cfgA T1 g).slots t (5 : Fin 8)).cast nbuf0_5)
abbrev hw6 (t : Fin (cfgA T1 g).N) : (st6 T1 g t).IsWhole := hstage0_6 (((cfgA T1 g).slots t (6 : Fin 8)).cast nbuf0_6)
abbrev hw7 (t : Fin (cfgA T1 g).N) : (st7 T1 g t).IsWhole := hstage0_7 (((cfgA T1 g).slots t (7 : Fin 8)).cast nbuf0_7)

/-- The rows are handed to every block's point, so no point leaves the result's block as it was. -/
theorem busy (t : Fin (cfgA T1 g).N) : (cfgA T1 g).idle (7 : Fin 8) (crd T1 g t) = false := by
  have e : (tabs T0 T1 T2 : pre0.Contents (Elt Bits)).atD 2 ![0] = T2 at1 := by
    unfold Pipeline.Prefetch.Contents.atD
    rw [dif_pos (fun a => by match a with | ⟨0, _⟩ => exact Nat.le_refl 1)]
    exact congrArg T2 (at1_only _)
  show (!(k0_cond1 (crd T1 g t) ((tabs T0 T1 T2 : pre0.Contents (Elt Bits)).atD 2 ![0]) == 1#1) && !(k0_cond3 (crd T1 g t) ((tabs T0 T1 T2 : pre0.Contents (Elt Bits)).atD 2 ![0]) == 1#1)) = false
  rw [e]
  by_cases h : ((crd T1 g t) 0).val < valids T2
  · rw [(cond_valid g _).mpr h]; rfl
  · rw [(cond_rest g _).mpr h]; exact Bool.and_false _

variable (m : (ℓ : Loc nD τ sig) → Buf (Elt Bits) ℓ) (ρ : Dev nD → PrngReg)

/-- Each window's block at a point, of the array as the launch finds it. -/
def iblk (c : Dev nD) (w : Fin (cfgA T1 g).W) (t : Fin (cfgA T1 g).N) : (((cfgA T1 g).win w).xblock (crd T1 g t)).Idx → Elt Bits ((cfgA T1 g).win w).elt :=
  (((cfgA T1 g).win w).blk t).view.read (Elt Bits) (m (((cfgA T1 g).win w).arr.view.loc (c : Thread nD τ)))

/-- The arguments at the layer's literal shapes. -/
abbrev X (c : Dev nD) : S178176x512.Idx → Elt Bits .i32 := m ((c : Thread nD τ).loc main_arg0)
abbrev Wg (c : Dev nD) : S2x32x1024x1024.Idx → Elt Bits .f32 := m ((c : Thread nD τ).loc main_arg4)
abbrev Bg (c : Dev nD) : S2x32x1x1024.Idx → Elt Bits .f32 := m ((c : Thread nD τ).loc main_arg5)
abbrev Wu (c : Dev nD) : S2x32x1024x1024.Idx → Elt Bits .f32 := m ((c : Thread nD τ).loc main_arg6)
abbrev Bu (c : Dev nD) : S2x32x1x1024.Idx → Elt Bits .f32 := m ((c : Thread nD τ).loc main_arg7)
abbrev Wd (c : Dev nD) : S2x32x1024x1024.Idx → Elt Bits .f32 := m ((c : Thread nD τ).loc main_arg8)
abbrev Bd (c : Dev nD) : S2x32x1x1024.Idx → Elt Bits .f32 := m ((c : Thread nD τ).loc main_arg9)

theorem iblk0 (c : Dev nD) (t : Fin (cfgA T1 g).N) : iblk T1 g m c (0 : Fin 8) t = xblk (X m c) (min t.val (valids T2 - 1)) := by
  have ht : t.val < 348 := lt_of_lt_of_eq t.isLt N_0
  funext y
  refine congrArg (X m c) (funext fun a => Fin.ext ?_)
  have e : ((cfgA T1 g).win (0 : Fin 8)).index t = ![min t.val (valids T2 - 1), 0] := (idx_x T1 g (crd T1 g t)).trans (by rw [crd_val])
  match a with
  | ⟨0, _⟩ =>
    show ((cfgA T1 g).win (0 : Fin 8)).index t 0 * 512 + 1 * (y 0).val = (min t.val (valids T2 - 1) % 348) * 512 + (y 0).val
    rw [e]
    show min t.val (valids T2 - 1) * 512 + _ = _
    rw [Nat.mod_eq_of_lt (by omega)]
    omega
  | ⟨1, _⟩ =>
    show ((cfgA T1 g).win (0 : Fin 8)).index t 1 * 512 + 1 * (y 1).val = (y 1).val
    rw [e]
    show 0 * 512 + 1 * (y 1).val = (y 1).val
    omega

theorem iblk1 (c : Dev nD) (t : Fin (cfgA T1 g).N) : iblk T1 g m c (1 : Fin 8) t = wblk (Wg m c) (expert T0 t.val) := by
  have he := g.lt t.val
  funext y
  refine congrArg (Wg m c) (funext fun a => Fin.ext ?_)
  have e : ((cfgA T1 g).win (1 : Fin 8)).index t = ![0, expert T0 t.val, 0, 0] := (idx_w T0 T1 T2 (crd T1 g t)).trans (by rw [crd_val])
  match a with
  | ⟨0, _⟩ =>
    show ((cfgA T1 g).win (1 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (1 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (1 : Fin 8)).index t 2 * 1024 + 1 * (y 2 : Fin 1024).val = (y 2 : Fin 1024).val
    rw [e]
    show 0 * 1024 + 1 * (y 2 : Fin 1024).val = (y 2 : Fin 1024).val
    omega
  | ⟨3, _⟩ =>
    show ((cfgA T1 g).win (1 : Fin 8)).index t 3 * 1024 + 1 * (y 3 : Fin 1024).val = (y 3 : Fin 1024).val
    rw [e]
    show 0 * 1024 + 1 * (y 3 : Fin 1024).val = (y 3 : Fin 1024).val
    omega

theorem iblk3 (c : Dev nD) (t : Fin (cfgA T1 g).N) : iblk T1 g m c (3 : Fin 8) t = wblk (Wu m c) (expert T0 t.val) := by
  have he := g.lt t.val
  funext y
  refine congrArg (Wu m c) (funext fun a => Fin.ext ?_)
  have e : ((cfgA T1 g).win (3 : Fin 8)).index t = ![0, expert T0 t.val, 0, 0] := (idx_w T0 T1 T2 (crd T1 g t)).trans (by rw [crd_val])
  match a with
  | ⟨0, _⟩ =>
    show ((cfgA T1 g).win (3 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (3 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (3 : Fin 8)).index t 2 * 1024 + 1 * (y 2 : Fin 1024).val = (y 2 : Fin 1024).val
    rw [e]
    show 0 * 1024 + 1 * (y 2 : Fin 1024).val = (y 2 : Fin 1024).val
    omega
  | ⟨3, _⟩ =>
    show ((cfgA T1 g).win (3 : Fin 8)).index t 3 * 1024 + 1 * (y 3 : Fin 1024).val = (y 3 : Fin 1024).val
    rw [e]
    show 0 * 1024 + 1 * (y 3 : Fin 1024).val = (y 3 : Fin 1024).val
    omega

theorem iblk5 (c : Dev nD) (t : Fin (cfgA T1 g).N) : iblk T1 g m c (5 : Fin 8) t = wblk (Wd m c) (expert T0 t.val) := by
  have he := g.lt t.val
  funext y
  refine congrArg (Wd m c) (funext fun a => Fin.ext ?_)
  have e : ((cfgA T1 g).win (5 : Fin 8)).index t = ![0, expert T0 t.val, 0, 0] := (idx_w T0 T1 T2 (crd T1 g t)).trans (by rw [crd_val])
  match a with
  | ⟨0, _⟩ =>
    show ((cfgA T1 g).win (5 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (5 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (5 : Fin 8)).index t 2 * 1024 + 1 * (y 2 : Fin 1024).val = (y 2 : Fin 1024).val
    rw [e]
    show 0 * 1024 + 1 * (y 2 : Fin 1024).val = (y 2 : Fin 1024).val
    omega
  | ⟨3, _⟩ =>
    show ((cfgA T1 g).win (5 : Fin 8)).index t 3 * 1024 + 1 * (y 3 : Fin 1024).val = (y 3 : Fin 1024).val
    rw [e]
    show 0 * 1024 + 1 * (y 3 : Fin 1024).val = (y 3 : Fin 1024).val
    omega

theorem iblk2 (c : Dev nD) (t : Fin (cfgA T1 g).N) : iblk T1 g m c (2 : Fin 8) t = bblk (Bg m c) (expert T0 t.val) := by
  have he := g.lt t.val
  funext y
  refine congrArg (Bg m c) (funext fun a => Fin.ext ?_)
  have e : ((cfgA T1 g).win (2 : Fin 8)).index t = ![0, expert T0 t.val, 0, 0] := (idx_w T0 T1 T2 (crd T1 g t)).trans (by rw [crd_val])
  match a with
  | ⟨0, _⟩ =>
    show ((cfgA T1 g).win (2 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (2 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (2 : Fin 8)).index t 2 * 1 + 1 * (y 2 : Fin 1).val = (y 2 : Fin 1).val
    rw [e]
    show 0 * 1 + 1 * (y 2 : Fin 1).val = (y 2 : Fin 1).val
    omega
  | ⟨3, _⟩ =>
    show ((cfgA T1 g).win (2 : Fin 8)).index t 3 * 1024 + 1 * (y 3 : Fin 1024).val = (y 3 : Fin 1024).val
    rw [e]
    show 0 * 1024 + 1 * (y 3 : Fin 1024).val = (y 3 : Fin 1024).val
    omega

theorem iblk4 (c : Dev nD) (t : Fin (cfgA T1 g).N) : iblk T1 g m c (4 : Fin 8) t = bblk (Bu m c) (expert T0 t.val) := by
  have he := g.lt t.val
  funext y
  refine congrArg (Bu m c) (funext fun a => Fin.ext ?_)
  have e : ((cfgA T1 g).win (4 : Fin 8)).index t = ![0, expert T0 t.val, 0, 0] := (idx_w T0 T1 T2 (crd T1 g t)).trans (by rw [crd_val])
  match a with
  | ⟨0, _⟩ =>
    show ((cfgA T1 g).win (4 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (4 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (4 : Fin 8)).index t 2 * 1 + 1 * (y 2 : Fin 1).val = (y 2 : Fin 1).val
    rw [e]
    show 0 * 1 + 1 * (y 2 : Fin 1).val = (y 2 : Fin 1).val
    omega
  | ⟨3, _⟩ =>
    show ((cfgA T1 g).win (4 : Fin 8)).index t 3 * 1024 + 1 * (y 3 : Fin 1024).val = (y 3 : Fin 1024).val
    rw [e]
    show 0 * 1024 + 1 * (y 3 : Fin 1024).val = (y 3 : Fin 1024).val
    omega

theorem iblk6 (c : Dev nD) (t : Fin (cfgA T1 g).N) : iblk T1 g m c (6 : Fin 8) t = bblk (Bd m c) (expert T0 t.val) := by
  have he := g.lt t.val
  funext y
  refine congrArg (Bd m c) (funext fun a => Fin.ext ?_)
  have e : ((cfgA T1 g).win (6 : Fin 8)).index t = ![0, expert T0 t.val, 0, 0] := (idx_w T0 T1 T2 (crd T1 g t)).trans (by rw [crd_val])
  match a with
  | ⟨0, _⟩ =>
    show ((cfgA T1 g).win (6 : Fin 8)).index t 0 * 1 + 1 * (y 0 : Fin 1).val = 0
    rw [e]
    have h0 : (y 0 : Fin 1).val < 1 := (y 0 : Fin 1).isLt
    show 0 * 1 + 1 * (y 0 : Fin 1).val = 0
    omega
  | ⟨1, _⟩ =>
    show ((cfgA T1 g).win (6 : Fin 8)).index t 1 * 1 + 1 * (y 1 : Fin 1).val = expert T0 t.val % 32
    rw [e]
    have h0 : (y 1 : Fin 1).val < 1 := (y 1 : Fin 1).isLt
    show expert T0 t.val * 1 + 1 * (y 1 : Fin 1).val = expert T0 t.val % 32
    omega
  | ⟨2, _⟩ =>
    show ((cfgA T1 g).win (6 : Fin 8)).index t 2 * 1 + 1 * (y 2 : Fin 1).val = (y 2 : Fin 1).val
    rw [e]
    show 0 * 1 + 1 * (y 2 : Fin 1).val = (y 2 : Fin 1).val
    omega
  | ⟨3, _⟩ =>
    show ((cfgA T1 g).win (6 : Fin 8)).index t 3 * 1024 + 1 * (y 3 : Fin 1024).val = (y 3 : Fin 1024).val
    rw [e]
    show 0 * 1024 + 1 * (y 3 : Fin 1024).val = (y 3 : Fin 1024).val
    omega

/-- What the call leaves in block `n` of its result: the layer of the block's rows on a valid block, zeros on another. -/
def outBlk (T0 T1 : S348.Idx → BitVec 32) (T2 : S1.Idx → BitVec 32) (c : Dev nD) (n : ℕ) : Vec Bits S512x1024 .bf16 :=
  if n < valids T2 then
    ffn (rows T1 n) (xblk (X m c) n) (k0_pay3 (wblk (Wg m c) (expert T0 n))) (k0_pay4 (wblk (Wu m c) (expert T0 n))) (k0_pay5 (wblk (Wd m c) (expert T0 n)))
      (bblk (Bg m c) (expert T0 n)) (bblk (Bu m c) (expert T0 n)) (bblk (Bd m c) (expert T0 n))
  else (k0_pay2 : FVec Bits S512x1024 .bf16)

/-- The expert whose weights the scratches hold before position `n`: that of the last valid block before it. -/
def lastE (T0 : S348.Idx → BitVec 32) (T2 : S1.Idx → BitVec 32) (n : ℕ) : ℕ := expert T0 (min n (valids T2) - 1)

/-- Between points: from the first point on the scratches hold the last valid block's expert's weights; the tables are kept. -/
def Phi (c : Dev nD) (n : Fin ((cfgA T1 g).N + 1)) : sProp 𝕄 :=
  iprop((∃ a : Buf (Elt Bits) ((c : Thread nD τ).loc cc0_scratch0), ⌜n.val ≠ 0 → a = (k0_pay3 (wblk (Wg m c) (lastE T0 T2 n.val)) : FVec Bits S1024x1024 .bf16)⌝ ∗ (scM0_0.view.loc (c : Thread nD τ) ↦{fullShare} a))
    ∗ (∃ a : Buf (Elt Bits) ((c : Thread nD τ).loc cc0_scratch1), ⌜n.val ≠ 0 → a = (k0_pay4 (wblk (Wu m c) (lastE T0 T2 n.val)) : FVec Bits S1024x1024 .bf16)⌝ ∗ (scM0_1.view.loc (c : Thread nD τ) ↦{fullShare} a))
    ∗ (∃ a : Buf (Elt Bits) ((c : Thread nD τ).loc cc0_scratch2), ⌜n.val ≠ 0 → a = (k0_pay5 (wblk (Wd m c) (lastE T0 T2 n.val)) : FVec Bits S1024x1024 .bf16)⌝ ∗ (scM0_2.view.loc (c : Thread nD τ) ↦{fullShare} a))
    ∗ (tbM0_0.view.loc (c : Thread nD τ) ↦{fullShare.right} T0)
    ∗ (tbM0_1.view.loc (c : Thread nD τ) ↦{fullShare.right} T1)
    ∗ (tbM0_2.view.loc (c : Thread nD τ) ↦{fullShare.right} T2))

/-- The certificate's data: each array as launched, each window's buffer after a point, and what holds between points. -/
def dats (_ : Fin 1) (c : Dev nD) : Dat τ (Elt Bits) Unit ℕ (UR sig nD τ) ℕ (cfgA T1 g) c where
  A w := m (((cfgA T1 g).win w).arr.view.loc (c : Thread nD τ))
  after w t := match w with
    | ⟨0, _⟩ => iblk T1 g m c (0 : Fin 8) t
    | ⟨1, _⟩ => iblk T1 g m c (1 : Fin 8) t
    | ⟨2, _⟩ => iblk T1 g m c (2 : Fin 8) t
    | ⟨3, _⟩ => iblk T1 g m c (3 : Fin 8) t
    | ⟨4, _⟩ => iblk T1 g m c (4 : Fin 8) t
    | ⟨5, _⟩ => iblk T1 g m c (5 : Fin 8) t
    | ⟨6, _⟩ => iblk T1 g m c (6 : Fin 8) t
    | ⟨7, _⟩ => outBlk m T0 T1 T2 c t.val
    | ⟨_ + 8, h⟩ => absurd h (Nat.not_lt.2 (Nat.le_add_left _ _))
  Φ n := Phi T1 g m c n
  q _ := fullShare
  owed _ := 0

theorem after0 (c : Dev nD) (t : Fin (cfgA T1 g).N) : (dats T1 g m 0 c).after (0 : Fin 8) t = iblk T1 g m c (0 : Fin 8) t := rfl
theorem before0 (c : Dev nD) (t : Fin (cfgA T1 g).N) (d) : (dats T1 g m 0 c).before (0 : Fin 8) t d = iblk T1 g m c (0 : Fin 8) t :=
  ((dats T1 g m 0 c).before_in_eq_fetched (0 : Fin 8) rfl (fun _ => rfl) (fun _ _ _ => rfl) (fun t => by rw [after0]; unfold Dat.blockOf iblk; rfl) t d).trans
    (by unfold Dat.fetched Dat.blockOf iblk; rfl)
theorem after1 (c : Dev nD) (t : Fin (cfgA T1 g).N) : (dats T1 g m 0 c).after (1 : Fin 8) t = iblk T1 g m c (1 : Fin 8) t := rfl
theorem before1 (c : Dev nD) (t : Fin (cfgA T1 g).N) (d) : (dats T1 g m 0 c).before (1 : Fin 8) t d = iblk T1 g m c (1 : Fin 8) t :=
  ((dats T1 g m 0 c).before_in_eq_fetched (1 : Fin 8) rfl (fun _ => rfl) (fun _ _ _ => rfl) (fun t => by rw [after1]; unfold Dat.blockOf iblk; rfl) t d).trans
    (by unfold Dat.fetched Dat.blockOf iblk; rfl)
theorem after2 (c : Dev nD) (t : Fin (cfgA T1 g).N) : (dats T1 g m 0 c).after (2 : Fin 8) t = iblk T1 g m c (2 : Fin 8) t := rfl
theorem before2 (c : Dev nD) (t : Fin (cfgA T1 g).N) (d) : (dats T1 g m 0 c).before (2 : Fin 8) t d = iblk T1 g m c (2 : Fin 8) t :=
  ((dats T1 g m 0 c).before_in_eq_fetched (2 : Fin 8) rfl (fun _ => rfl) (fun _ _ _ => rfl) (fun t => by rw [after2]; unfold Dat.blockOf iblk; rfl) t d).trans
    (by unfold Dat.fetched Dat.blockOf iblk; rfl)
theorem after3 (c : Dev nD) (t : Fin (cfgA T1 g).N) : (dats T1 g m 0 c).after (3 : Fin 8) t = iblk T1 g m c (3 : Fin 8) t := rfl
theorem before3 (c : Dev nD) (t : Fin (cfgA T1 g).N) (d) : (dats T1 g m 0 c).before (3 : Fin 8) t d = iblk T1 g m c (3 : Fin 8) t :=
  ((dats T1 g m 0 c).before_in_eq_fetched (3 : Fin 8) rfl (fun _ => rfl) (fun _ _ _ => rfl) (fun t => by rw [after3]; unfold Dat.blockOf iblk; rfl) t d).trans
    (by unfold Dat.fetched Dat.blockOf iblk; rfl)
theorem after4 (c : Dev nD) (t : Fin (cfgA T1 g).N) : (dats T1 g m 0 c).after (4 : Fin 8) t = iblk T1 g m c (4 : Fin 8) t := rfl
theorem before4 (c : Dev nD) (t : Fin (cfgA T1 g).N) (d) : (dats T1 g m 0 c).before (4 : Fin 8) t d = iblk T1 g m c (4 : Fin 8) t :=
  ((dats T1 g m 0 c).before_in_eq_fetched (4 : Fin 8) rfl (fun _ => rfl) (fun _ _ _ => rfl) (fun t => by rw [after4]; unfold Dat.blockOf iblk; rfl) t d).trans
    (by unfold Dat.fetched Dat.blockOf iblk; rfl)
theorem after5 (c : Dev nD) (t : Fin (cfgA T1 g).N) : (dats T1 g m 0 c).after (5 : Fin 8) t = iblk T1 g m c (5 : Fin 8) t := rfl
theorem before5 (c : Dev nD) (t : Fin (cfgA T1 g).N) (d) : (dats T1 g m 0 c).before (5 : Fin 8) t d = iblk T1 g m c (5 : Fin 8) t :=
  ((dats T1 g m 0 c).before_in_eq_fetched (5 : Fin 8) rfl (fun _ => rfl) (fun _ _ _ => rfl) (fun t => by rw [after5]; unfold Dat.blockOf iblk; rfl) t d).trans
    (by unfold Dat.fetched Dat.blockOf iblk; rfl)
theorem after6 (c : Dev nD) (t : Fin (cfgA T1 g).N) : (dats T1 g m 0 c).after (6 : Fin 8) t = iblk T1 g m c (6 : Fin 8) t := rfl
theorem before6 (c : Dev nD) (t : Fin (cfgA T1 g).N) (d) : (dats T1 g m 0 c).before (6 : Fin 8) t d = iblk T1 g m c (6 : Fin 8) t :=
  ((dats T1 g m 0 c).before_in_eq_fetched (6 : Fin 8) rfl (fun _ => rfl) (fun _ _ _ => rfl) (fun t => by rw [after6]; unfold Dat.blockOf iblk; rfl) t d).trans
    (by unfold Dat.fetched Dat.blockOf iblk; rfl)

theorem after7 (c : Dev nD) (t : Fin (cfgA T1 g).N) : (dats T1 g m 0 c).after (7 : Fin 8) t = outBlk m T0 T1 T2 c t.val := rfl

/-- A store of a whole staging buffer leaves what was stored. -/
theorem st_block (a : Memref sig .tc .vmem S512x1024 .bf16) (f) (x : Vec Bits S512x1024 .bf16) (L : List (View.Piece (Elt Bits) S512x1024 .bf16))
    (h : L = [⟨Rect.unit ![0, 0] S512x1024.size inb_S512x1024_S512x1024_0_0, x⟩]) : a.view.read (Elt Bits) (a.view.writes (Elt Bits) f L) = x := by
  rw [h]
  exact View.read_writes_full a.view f inb_S512x1024_S512x1024_0_0 x []

set_option maxHeartbeats 4000000 in
/-- The body at a point of a valid block that is its expert's first. -/
theorem body_A (c : Dev nD) (t : Fin (cfgA T1 g).N) (hv : t.val < valids T2) (hf : t.val = 0 ∨ expert T0 t.val ≠ expert T0 (t.val - 1)) :
    iprop((dats T1 g m 0 c).Φ t.castSucc ∗ (dats T1 g m 0 c).owesAt () t.castSucc ∗ (∃ d, owns (c : Thread nD τ) (st0 T1 g t) fullShare ((dats T1 g m 0 c).before (0 : Fin 8) t d)) ∗ (∃ d, owns (c : Thread nD τ) (st1 T1 g t) fullShare ((dats T1 g m 0 c).before (1 : Fin 8) t d)) ∗ (∃ d, owns (c : Thread nD τ) (st2 T1 g t) fullShare ((dats T1 g m 0 c).before (2 : Fin 8) t d)) ∗ (∃ d, owns (c : Thread nD τ) (st3 T1 g t) fullShare ((dats T1 g m 0 c).before (3 : Fin 8) t d)) ∗ (∃ d, owns (c : Thread nD τ) (st4 T1 g t) fullShare ((dats T1 g m 0 c).before (4 : Fin 8) t d)) ∗ (∃ d, owns (c : Thread nD τ) (st5 T1 g t) fullShare ((dats T1 g m 0 c).before (5 : Fin 8) t d)) ∗ (∃ d, owns (c : Thread nD τ) (st6 T1 g t) fullShare ((dats T1 g m 0 c).before (6 : Fin 8) t d)) ∗ (∃ d, owns (c : Thread nD τ) (st7 T1 g t) fullShare ((dats T1 g m 0 c).before (7 : Fin 8) t d)))
      ⊢ wp frame (wpE (defs₀ (F := Bits)) Variants.none c none) Set.univ (cc0_moe_experts (crd T1 g t) (Memref.whole main_arg1) (Memref.isWhole_whole _) (Memref.whole main_arg2) (Memref.isWhole_whole _) (Memref.whole main_arg3) (Memref.isWhole_whole _) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) (Memref.whole cc0_scratch0) (Memref.isWhole_whole _) (Memref.whole cc0_scratch1) (Memref.isWhole_whole _) (Memref.whole cc0_scratch2) (Memref.isWhole_whole _)) fun _ =>
          iprop((dats T1 g m 0 c).Φ t.succ ∗ (dats T1 g m 0 c).owesAt () t.succ
            ∗ bigSep Finset.univ fun w : Fin (cfgA T1 g).W =>
                match (cfgA T1 g).idle w ((cfgA T1 g).grid.coords t) with
                | true =>
                  match ((cfgA T1 g).win w).flush t with
                  | false => iprop(∃ d, owns (c : Thread nD τ) (((cfgA T1 g).win w).stage ((cfgA T1 g).slots t w)) fullShare ((dats T1 g m 0 c).before w t d))
                  | true => owns (c : Thread nD τ) (((cfgA T1 g).win w).stage ((cfgA T1 g).slots t w)) fullShare ((dats T1 g m 0 c).after w t)
                | false => owns (c : Thread nD τ) (((cfgA T1 g).win w).stage ((cfgA T1 g).slots t w)) fullShare ((dats T1 g m 0 c).after w t)) := by
  have ht : t.val < 348 := lt_of_lt_of_eq t.isLt N_0
  have ⟨hv1, _⟩ := g.pos
  have hi7 := busy T1 g t
  rw [bigSep_W0]
  rewrite [hi7]
  simp only [before0, before1, before2, before3, before4, before5, before6, after0, after1, after2, after3, after4, after5, after6, after7]
  rewrite [show (dats T1 g m 0 c).Φ t.succ = Phi T1 g m c t.succ from rfl, show (dats T1 g m 0 c).Φ t.castSucc = Phi T1 g m c t.castSucc from rfl,
    show (dats T1 g m 0 c).owesAt () t.succ = (dats T1 g m 0 c).owesAt () t.castSucc from rfl]
  unfold Phi
  simp only [Fin.val_castSucc, Fin.val_succ]
  have k0_h1 : k0_cond1 (crd T1 g t) (View.readAt (Elt Bits) (tbM0_2).view (Rect.unit (s := S1) ![0] S1.size inb_S1_S1_0).toLoadRect T2 (Shape.Idx.first (numel1_S1.symm ▸ Nat.one_pos))) = 1#1 := by
    rw [ld_valid]; exact (cond_valid g _).mpr (by rw [crd_val]; exact hv)
  have k0_h3 : ¬ (k0_cond3 (crd T1 g t) (View.readAt (Elt Bits) (tbM0_2).view (Rect.unit (s := S1) ![0] S1.size inb_S1_S1_0).toLoadRect T2 (Shape.Idx.first (numel1_S1.symm ▸ Nat.one_pos))) = 1#1) := by
    rw [ld_valid]; exact fun h => (cond_rest g _).mp h (by rw [crd_val]; exact hv)
  have hm : min t.val (valids T2 - 1) = t.val := by omega
  have hc1 := (cond_first T0 (crd T1 g t)).mpr (by rw [crd_val]; exact hf)
  have hl : lastE T0 T2 (t.val + 1) = expert T0 t.val := congrArg (expert T0) (by omega)
  iintro ⟨⟨⟨%a0, %ha0, HS0⟩, ⟨%a1, %ha1, HS1⟩, ⟨%a2, %ha2, HS2⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) k0_h1 hc1 k0_h3).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexists _; iexact H7
  isplitl [HS0]; · iexact HS0
  isplitl [HS1]; · iexact HS1
  isplitl [HS2]; · iexact HS2
  iintro ⟨H0, H1, H2, H3, H4, H5, H6, HT0, HT1, HT2, ⟨%e7, H7⟩, HS0, HS1, HS2⟩
  isplitl [HS0 HS1 HS2 HT0 HT1 HT2]
  · isplitl [HS0]
    · iexists _; isplitr; swap
      · iexact HS0
      · ipureintro; exact fun _ => (gate_A c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) k0_h1 hc1 k0_h3).trans (by rw [iblk1, hl])
    isplitl [HS1]
    · iexists _; isplitr; swap
      · iexact HS1
      · ipureintro; exact fun _ => (up_A c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) k0_h1 hc1 k0_h3).trans (by rw [iblk3, hl])
    isplitl [HS2]
    · iexists _; isplitr; swap
      · iexact HS2
      · ipureintro; exact fun _ => (down_A c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) k0_h1 hc1 k0_h3).trans (by rw [iblk5, hl])
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact st_block _ _ (outBlk m T0 T1 T2 c t.val) _ ((pieces_A c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) k0_h1 hc1 k0_h3).trans (by
        rw [outBlk, if_pos hv, rows_at, iblk0, iblk1, iblk2, iblk3, iblk4, iblk5, iblk6, hm]))

set_option maxHeartbeats 4000000 in
/-- The body at a point of a valid block of the same expert as the block before. -/
theorem body_B (c : Dev nD) (t : Fin (cfgA T1 g).N) (hv : t.val < valids T2) (hf : ¬ (t.val = 0 ∨ expert T0 t.val ≠ expert T0 (t.val - 1))) :
    iprop((dats T1 g m 0 c).Φ t.castSucc ∗ (dats T1 g m 0 c).owesAt () t.castSucc ∗ (∃ d, owns (c : Thread nD τ) (st0 T1 g t) fullShare ((dats T1 g m 0 c).before (0 : Fin 8) t d)) ∗ (∃ d, owns (c : Thread nD τ) (st1 T1 g t) fullShare ((dats T1 g m 0 c).before (1 : Fin 8) t d)) ∗ (∃ d, owns (c : Thread nD τ) (st2 T1 g t) fullShare ((dats T1 g m 0 c).before (2 : Fin 8) t d)) ∗ (∃ d, owns (c : Thread nD τ) (st3 T1 g t) fullShare ((dats T1 g m 0 c).before (3 : Fin 8) t d)) ∗ (∃ d, owns (c : Thread nD τ) (st4 T1 g t) fullShare ((dats T1 g m 0 c).before (4 : Fin 8) t d)) ∗ (∃ d, owns (c : Thread nD τ) (st5 T1 g t) fullShare ((dats T1 g m 0 c).before (5 : Fin 8) t d)) ∗ (∃ d, owns (c : Thread nD τ) (st6 T1 g t) fullShare ((dats T1 g m 0 c).before (6 : Fin 8) t d)) ∗ (∃ d, owns (c : Thread nD τ) (st7 T1 g t) fullShare ((dats T1 g m 0 c).before (7 : Fin 8) t d)))
      ⊢ wp frame (wpE (defs₀ (F := Bits)) Variants.none c none) Set.univ (cc0_moe_experts (crd T1 g t) (Memref.whole main_arg1) (Memref.isWhole_whole _) (Memref.whole main_arg2) (Memref.isWhole_whole _) (Memref.whole main_arg3) (Memref.isWhole_whole _) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) (Memref.whole cc0_scratch0) (Memref.isWhole_whole _) (Memref.whole cc0_scratch1) (Memref.isWhole_whole _) (Memref.whole cc0_scratch2) (Memref.isWhole_whole _)) fun _ =>
          iprop((dats T1 g m 0 c).Φ t.succ ∗ (dats T1 g m 0 c).owesAt () t.succ
            ∗ bigSep Finset.univ fun w : Fin (cfgA T1 g).W =>
                match (cfgA T1 g).idle w ((cfgA T1 g).grid.coords t) with
                | true =>
                  match ((cfgA T1 g).win w).flush t with
                  | false => iprop(∃ d, owns (c : Thread nD τ) (((cfgA T1 g).win w).stage ((cfgA T1 g).slots t w)) fullShare ((dats T1 g m 0 c).before w t d))
                  | true => owns (c : Thread nD τ) (((cfgA T1 g).win w).stage ((cfgA T1 g).slots t w)) fullShare ((dats T1 g m 0 c).after w t)
                | false => owns (c : Thread nD τ) (((cfgA T1 g).win w).stage ((cfgA T1 g).slots t w)) fullShare ((dats T1 g m 0 c).after w t)) := by
  have ht : t.val < 348 := lt_of_lt_of_eq t.isLt N_0
  have ⟨hv1, _⟩ := g.pos
  have hi7 := busy T1 g t
  rw [bigSep_W0]
  rewrite [hi7]
  simp only [before0, before1, before2, before3, before4, before5, before6, after0, after1, after2, after3, after4, after5, after6, after7]
  rewrite [show (dats T1 g m 0 c).Φ t.succ = Phi T1 g m c t.succ from rfl, show (dats T1 g m 0 c).Φ t.castSucc = Phi T1 g m c t.castSucc from rfl,
    show (dats T1 g m 0 c).owesAt () t.succ = (dats T1 g m 0 c).owesAt () t.castSucc from rfl]
  unfold Phi
  simp only [Fin.val_castSucc, Fin.val_succ]
  have k0_h1 : k0_cond1 (crd T1 g t) (View.readAt (Elt Bits) (tbM0_2).view (Rect.unit (s := S1) ![0] S1.size inb_S1_S1_0).toLoadRect T2 (Shape.Idx.first (numel1_S1.symm ▸ Nat.one_pos))) = 1#1 := by
    rw [ld_valid]; exact (cond_valid g _).mpr (by rw [crd_val]; exact hv)
  have k0_h3 : ¬ (k0_cond3 (crd T1 g t) (View.readAt (Elt Bits) (tbM0_2).view (Rect.unit (s := S1) ![0] S1.size inb_S1_S1_0).toLoadRect T2 (Shape.Idx.first (numel1_S1.symm ▸ Nat.one_pos))) = 1#1) := by
    rw [ld_valid]; exact fun h => (cond_rest g _).mp h (by rw [crd_val]; exact hv)
  have hm : min t.val (valids T2 - 1) = t.val := by omega
  have hc1 := fun h => hf (by have e := (cond_first T0 (crd T1 g t)).mp h; rw [crd_val] at e; exact e)
  have hn : t.val ≠ 0 := fun h => hf (.inl h)
  have hb : lastE T0 T2 t.val = expert T0 t.val := (congrArg (expert T0) (by omega)).trans (Decidable.of_not_not fun h => hf (.inr (Ne.symm h)))
  have hl : lastE T0 T2 t.val = lastE T0 T2 (t.val + 1) := hb.trans (congrArg (expert T0) (by omega))
  iintro ⟨⟨⟨%a0, %ha0, HS0⟩, ⟨%a1, %ha1, HS1⟩, ⟨%a2, %ha2, HS2⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 hc1 k0_h3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexists _; iexact H7
  isplitl [HS0]; · iexact HS0
  isplitl [HS1]; · iexact HS1
  isplitl [HS2]; · iexact HS2
  iintro ⟨H0, H1, H2, H3, H4, H5, H6, HT0, HT1, HT2, ⟨%e7, H7⟩, HS0, HS1, HS2⟩
  isplitl [HS0 HS1 HS2 HT0 HT1 HT2]
  · isplitl [HS0]
    · iexists _; isplitr; swap
      · iexact HS0
      · ipureintro; exact fun _ => ((kept_B c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 hc1 k0_h3).1).trans ((ha0 hn).trans (by rw [hl]))
    isplitl [HS1]
    · iexists _; isplitr; swap
      · iexact HS1
      · ipureintro; exact fun _ => ((kept_B c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 hc1 k0_h3).2.1).trans ((ha1 hn).trans (by rw [hl]))
    isplitl [HS2]
    · iexists _; isplitr; swap
      · iexact HS2
      · ipureintro; exact fun _ => ((kept_B c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 hc1 k0_h3).2.2).trans ((ha2 hn).trans (by rw [hl]))
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact st_block _ _ (outBlk m T0 T1 T2 c t.val) _ ((pieces_B c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 hc1 k0_h3).trans (by
        rw [outBlk, if_pos hv, rows_at, iblk0, iblk2, iblk4, iblk6, hm, ha0 hn, ha1 hn, ha2 hn, hb]))

set_option maxHeartbeats 4000000 in
/-- The body at a point of a block past the valid ones. -/
theorem body_C (c : Dev nD) (t : Fin (cfgA T1 g).N) (hv : ¬ t.val < valids T2) :
    iprop((dats T1 g m 0 c).Φ t.castSucc ∗ (dats T1 g m 0 c).owesAt () t.castSucc ∗ (∃ d, owns (c : Thread nD τ) (st0 T1 g t) fullShare ((dats T1 g m 0 c).before (0 : Fin 8) t d)) ∗ (∃ d, owns (c : Thread nD τ) (st1 T1 g t) fullShare ((dats T1 g m 0 c).before (1 : Fin 8) t d)) ∗ (∃ d, owns (c : Thread nD τ) (st2 T1 g t) fullShare ((dats T1 g m 0 c).before (2 : Fin 8) t d)) ∗ (∃ d, owns (c : Thread nD τ) (st3 T1 g t) fullShare ((dats T1 g m 0 c).before (3 : Fin 8) t d)) ∗ (∃ d, owns (c : Thread nD τ) (st4 T1 g t) fullShare ((dats T1 g m 0 c).before (4 : Fin 8) t d)) ∗ (∃ d, owns (c : Thread nD τ) (st5 T1 g t) fullShare ((dats T1 g m 0 c).before (5 : Fin 8) t d)) ∗ (∃ d, owns (c : Thread nD τ) (st6 T1 g t) fullShare ((dats T1 g m 0 c).before (6 : Fin 8) t d)) ∗ (∃ d, owns (c : Thread nD τ) (st7 T1 g t) fullShare ((dats T1 g m 0 c).before (7 : Fin 8) t d)))
      ⊢ wp frame (wpE (defs₀ (F := Bits)) Variants.none c none) Set.univ (cc0_moe_experts (crd T1 g t) (Memref.whole main_arg1) (Memref.isWhole_whole _) (Memref.whole main_arg2) (Memref.isWhole_whole _) (Memref.whole main_arg3) (Memref.isWhole_whole _) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) (Memref.whole cc0_scratch0) (Memref.isWhole_whole _) (Memref.whole cc0_scratch1) (Memref.isWhole_whole _) (Memref.whole cc0_scratch2) (Memref.isWhole_whole _)) fun _ =>
          iprop((dats T1 g m 0 c).Φ t.succ ∗ (dats T1 g m 0 c).owesAt () t.succ
            ∗ bigSep Finset.univ fun w : Fin (cfgA T1 g).W =>
                match (cfgA T1 g).idle w ((cfgA T1 g).grid.coords t) with
                | true =>
                  match ((cfgA T1 g).win w).flush t with
                  | false => iprop(∃ d, owns (c : Thread nD τ) (((cfgA T1 g).win w).stage ((cfgA T1 g).slots t w)) fullShare ((dats T1 g m 0 c).before w t d))
                  | true => owns (c : Thread nD τ) (((cfgA T1 g).win w).stage ((cfgA T1 g).slots t w)) fullShare ((dats T1 g m 0 c).after w t)
                | false => owns (c : Thread nD τ) (((cfgA T1 g).win w).stage ((cfgA T1 g).slots t w)) fullShare ((dats T1 g m 0 c).after w t)) := by
  have ht : t.val < 348 := lt_of_lt_of_eq t.isLt N_0
  have ⟨hv1, _⟩ := g.pos
  have hi7 := busy T1 g t
  rw [bigSep_W0]
  rewrite [hi7]
  simp only [before0, before1, before2, before3, before4, before5, before6, after0, after1, after2, after3, after4, after5, after6, after7]
  rewrite [show (dats T1 g m 0 c).Φ t.succ = Phi T1 g m c t.succ from rfl, show (dats T1 g m 0 c).Φ t.castSucc = Phi T1 g m c t.castSucc from rfl,
    show (dats T1 g m 0 c).owesAt () t.succ = (dats T1 g m 0 c).owesAt () t.castSucc from rfl]
  unfold Phi
  simp only [Fin.val_castSucc, Fin.val_succ]
  have k0_h1 : ¬ (k0_cond1 (crd T1 g t) (View.readAt (Elt Bits) (tbM0_2).view (Rect.unit (s := S1) ![0] S1.size inb_S1_S1_0).toLoadRect T2 (Shape.Idx.first (numel1_S1.symm ▸ Nat.one_pos))) = 1#1) := by
    rw [ld_valid]; exact fun h => hv (by rw [← crd_val T1 g t]; exact (cond_valid g _).mp h)
  have k0_h3 : k0_cond3 (crd T1 g t) (View.readAt (Elt Bits) (tbM0_2).view (Rect.unit (s := S1) ![0] S1.size inb_S1_S1_0).toLoadRect T2 (Shape.Idx.first (numel1_S1.symm ▸ Nat.one_pos))) = 1#1 := by
    rw [ld_valid]; exact (cond_rest g _).mpr (by rw [crd_val]; exact hv)
  have hn : t.val ≠ 0 := by omega
  have hl : lastE T0 T2 t.val = lastE T0 T2 (t.val + 1) := congrArg (expert T0) (by omega)
  iintro ⟨⟨⟨%a0, %ha0, HS0⟩, ⟨%a1, %ha1, HS1⟩, ⟨%a2, %ha2, HS2⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 k0_h3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [HT2]; · iexact HT2
  isplitl [H7]; · iexists _; iexact H7
  isplitl [HS0]; · iexact HS0
  isplitl [HS1]; · iexact HS1
  isplitl [HS2]; · iexact HS2
  iintro ⟨H0, H1, H2, H3, H4, H5, H6, HT0, HT1, HT2, ⟨%e7, H7⟩, HS0, HS1, HS2⟩
  isplitl [HS0 HS1 HS2 HT0 HT1 HT2]
  · isplitl [HS0]
    · iexists _; isplitr; swap
      · iexact HS0
      · ipureintro; exact fun _ => ((kept_C c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 k0_h3).1).trans ((ha0 hn).trans (by rw [hl]))
    isplitl [HS1]
    · iexists _; isplitr; swap
      · iexact HS1
      · ipureintro; exact fun _ => ((kept_C c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 k0_h3).2.1).trans ((ha1 hn).trans (by rw [hl]))
    isplitl [HS2]
    · iexists _; isplitr; swap
      · iexact HS2
      · ipureintro; exact fun _ => ((kept_C c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 k0_h3).2.2).trans ((ha2 hn).trans (by rw [hl]))
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact st_block _ _ (outBlk m T0 T1 T2 c t.val) _ ((pieces_C c (crd T1 g t) (st0 T1 g t) (hw0 T1 g t) (st1 T1 g t) (hw1 T1 g t) (st2 T1 g t) (hw2 T1 g t) (st3 T1 g t) (hw3 T1 g t) (st4 T1 g t) (hw4 T1 g t) (st5 T1 g t) (hw5 T1 g t) (st6 T1 g t) (hw6 T1 g t) (st7 T1 g t) (hw7 T1 g t) T0 T1 T2 (iblk T1 g m c (0 : Fin 8) t) (iblk T1 g m c (1 : Fin 8) t) (iblk T1 g m c (2 : Fin 8) t) (iblk T1 g m c (3 : Fin 8) t) (iblk T1 g m c (4 : Fin 8) t) (iblk T1 g m c (5 : Fin 8) t) (iblk T1 g m c (6 : Fin 8) t) a0 a1 a2 k0_h1 k0_h3).trans (by
        rw [outBlk, if_neg hv]))

end Cert.Kernel2.Experts

end
-- ==== Proof.Kernel2Run.lean ====
module

public import proofs.«01_k».proof.Proof.Kernel2Body
public import Idealize.ShloMosaic.Lib.Pipeline.Cells

@[expose] public section

set_option maxRecDepth 16384

noncomputable section

namespace Cert.Kernel2.Experts

open Idealize.ShloMosaic Idealize.ShloMosaic.TcCoe Idealize.ShloMosaic.Tactic Cert.Kernel2.Gen Cert.Kernel2
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

variable {T0 : S348.Idx → BitVec 32} (T1 : S348.Idx → BitVec 32) {T2 : S1.Idx → BitVec 32} (g : Good T0 T2)
variable (m : (ℓ : Loc nD τ sig) → Buf (Elt Bits) ℓ) (ρ : Dev nD → PrngReg)

/-- The body at every point: one of its three ways through. -/
theorem body_obligation (c : Dev nD) : BodyObligation (dats T1 g m 0 c) (defs₀ (F := Bits)) Variants.none () Set.univ := fun t => by
  rw [bigSep_W0]
  by_cases hv : t.val < valids T2
  · by_cases hf : t.val = 0 ∨ expert T0 t.val ≠ expert T0 (t.val - 1)
    · exact body_A T1 g m c t hv hf
    · exact body_B T1 g m c t hv hf
  · exact body_C T1 g m c t hv

/-- The launch's element of the rounds library's algebra. -/
def el₀ : UR sig nD τ :=
  initOf (Pipeline.cells (pcs T1 g) ((launch0 (F := Bits)).cellOf_inj fun _ => adm T1 g))
    (Pipeline.launchToks (pcs T1 g) ((launch0 (F := Bits)).cellOf_inj fun _ => adm T1 g))

theorem share_full (c : Dev nD) (w : Fin (cfgA T1 g).W) : (dats T1 g m 0 c).share w = fullShare := by
  unfold Dat.share
  split <;> rfl

/-- The three tables as the region is handed them. -/
theorem tables_eq (c : Dev nD) (q : Fin 3 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Before the first point nothing is asked of the scratches. -/
theorem enter (c : Dev nD) :
    iprop(BI.emp ∗ Pipeline.prefHeld pre0 c (fun _ => fullShare.right) (adm T1 g).1 ∗ Pipeline.scopedRest spec0 c) ⊢ (dats T1 g m 0 c).Φ 0 := by
  rw [tables_eq, scopedRest0_eq, show (dats T1 g m 0 c).Φ 0 = Phi T1 g m c 0 from rfl]
  unfold Phi
  iintro ⟨-, ⟨HT0, HT1, HT2⟩, ⟨%a0, HS0⟩, ⟨%a1, HS1⟩, ⟨%a2, HS2⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HS2]
  · iexists a2; isplitr; swap
    · iexact HS2
    · ipureintro; exact fun h => absurd rfl h
  isplitl [HT0]; · iexact HT0
  isplitl [HT1]; · iexact HT1
  iexact HT2

/-- After the last point the scratches are given back. -/
theorem leave (c : Dev nD) : (dats T1 g m 0 c).Φ (Fin.last (cfgA T1 g).N) ⊢ iprop(BI.emp ∗ Pipeline.scopedRest spec0 c) := by
  rw [scopedRest0_eq, show (dats T1 g m 0 c).Φ (Fin.last (cfgA T1 g).N) = Phi T1 g m c (Fin.last _) from rfl]
  unfold Phi
  iintro ⟨⟨%a0, -, HS0⟩, ⟨%a1, -, HS1⟩, ⟨%a2, -, HS2⟩, -, -, -⟩
  isplitr; · iempintro
  isplitl [HS0]; · iexists a0; iexact HS0
  isplitl [HS1]; · iexists a1; iexact HS1
  iexists a2; iexact HS2

/-- The memory holds these tables on every device. -/
def Held (T0 T1 : S348.Idx → BitVec 32) (T2 : S1.Idx → BitVec 32) : Prop :=
  ∀ c : Dev nD, m ((c : Thread nD τ).loc main_arg1) = (T0 : S348.Idx → Elt Bits .i32) ∧ m ((c : Thread nD τ).loc main_arg2) = (T1 : S348.Idx → Elt Bits .i32)
    ∧ m ((c : Thread nD τ).loc main_arg3) = (T2 : S1.Idx → Elt Bits .i32)

theorem held_at (h : Held m T0 T1 T2) (c : Dev nD) (j : Fin 3) : m ((c : Thread nD τ).loc (pre0.ref j)) = (adm T1 g).1 j := by
  fin_cases j
  · exact (h c).1
  · exact (h c).2.1
  · exact (h c).2.2

set_option backward.isDefEq.respectTransparency.types false in
set_option maxHeartbeats 4000000 in
/-- Every run ends, with each array at what the points wrote back, the tables kept and no counter raised. -/
theorem run_arrays (h : Held m T0 T1 T2) : θ_run (defs (F := Bits)) (onTc (τ := τ) (main (F := Bits))) ⟨m, fun _ => 0, ρ⟩ (fun r =>
    (∀ c : Dev nD, (∀ w : Fin (cfgA T1 g).W, r.2.mem (((cfgA T1 g).win w).arr.view.loc (c : Thread nD τ)) = (dats T1 g m 0 c).arrAt w (cfgA T1 g).N)
      ∧ ∀ j, r.2.mem ((c : Thread nD τ).loc (pre0.ref j)) = (adm T1 g).1 j) ∧ r.2.sem = fun _ => 0) :=
  Pipeline.θ_run_region_noSem_pf_quiescent pcfgs (fun _ => adm T1 g) (dats T1 g m) () ((launch0 (F := Bits)).cellOf_inj fun _ => adm T1 g) (0 : Fin 1)
    (launch0 (F := Bits)).win.to₀ (launch0 (F := Bits)).pre (emb₁ : Emb (UR sig nD τ) 𝕄) defs₀ Variants.none m ρ main
    (hbody := fun c => (body_obligation T1 g m c).loose) (hne := (launch0 (F := Bits)).block_pos)
    (harr := (launch0 (F := Bits)).arr_whole) (hstage := (launch0 (F := Bits)).stage_whole) (howed := fun _ _ => rfl)
    (u₀ := el₀ T1 g) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T1 g) (dats T1 g m) 0 (launch0 (F := Bits)).win.arr_inj c (launch0 (F := Bits)).arr_whole
      (share_full T1 g m c) _ _ fun _ => rfl)
    (hpf := held_at T1 g m h)
    (X := fun _ => iprop(emp)) (Y := fun _ => iprop(emp)) (Z := fun _ => iprop(emp))
    (hX := fun c => by rw [unscopedRestP0_eq]; iintro -; isplitr <;> iempintro)
    (hin := enter T1 g m)
    (hout := leave T1 g m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Position `(r, j)` of a block of 512 rows. -/
def inBlk (r : Fin 512) (j : Fin 1024) : S512x1024.Idx := fun a => match a with
  | ⟨0, _⟩ => r
  | ⟨1, _⟩ => j

/-- The call's whole result: each block of 512 rows at what its point stored. -/
def result (T0 T1 : S348.Idx → BitVec 32) (T2 : S1.Idx → BitVec 32) (c : Dev nD) : S178176x1024.Idx → Elt Bits .bf16 := fun i =>
  outBlk m T0 T1 T2 c ((i 0 : Fin 178176).val / 512) (inBlk ⟨(i 0 : Fin 178176).val % 512, Nat.mod_lt _ (by decide)⟩ (i 1 : Fin 1024))

theorem idx_out (t : Fin (cfgA T1 g).N) : ((cfgA T1 g).win (7 : Fin 8)).index t = ![t.val, 0] := by
  have ht : t.val < 348 := lt_of_lt_of_eq t.isLt N_0
  have e : ((cfgA T1 g).win (7 : Fin 8)).index t = ![(BitVec.ofNat 32 ((crd T1 g t) 0).val).toNat, 0] := rfl
  rw [e, crd_val, word_pos _ ht]

/-- Every point writes its block back. -/
theorem flush_out (t : Fin (cfgA T1 g).N) : ((cfgA T1 g).win (7 : Fin 8)).flush t = true := by
  refine (Pipeline.Window.flush_out ((cfgA T1 g).win (7 : Fin 8)) rfl t).mpr ?_
  by_cases h : t.val + 1 < (cfgA T1 g).N
  · refine .inr ⟨h, fun e => ?_⟩
    rw [idx_out, idx_out] at e
    have e0 : t.val + 1 = t.val := congrFun e 0
    omega
  · exact .inl (by have := t.isLt; show t.val + 1 = (cfgA T1 g).N; omega)

/-- A block's position in the array: 512 rows per block. -/
theorem emb_out (t : Fin (cfgA T1 g).N) (y : S512x1024.Idx) (a : Fin 2) :
    ((((cfgA T1 g).win (7 : Fin 8)).blk t).view.emb y a).val = (![t.val * 512 + (y 0 : Fin 512).val, (y 1 : Fin 1024).val] : Fin 2 → ℕ) a := by
  match a with
  | ⟨0, _⟩ =>
    show ((cfgA T1 g).win (7 : Fin 8)).index t 0 * 512 + 1 * (y 0 : Fin 512).val = t.val * 512 + (y 0 : Fin 512).val
    rw [idx_out]
    show t.val * 512 + 1 * (y 0 : Fin 512).val = t.val * 512 + (y 0 : Fin 512).val
    omega
  | ⟨1, _⟩ =>
    show ((cfgA T1 g).win (7 : Fin 8)).index t 1 * 1024 + 1 * (y 1 : Fin 1024).val = (y 1 : Fin 1024).val
    rw [idx_out]
    show 0 * 1024 + 1 * (y 1 : Fin 1024).val = (y 1 : Fin 1024).val
    omega

/-- The result array after the run. -/
theorem arr_out (c : Dev nD) : (dats T1 g m 0 c).arrAt (7 : Fin 8) (cfgA T1 g).N = result m T0 T1 T2 c := by
  refine (dats T1 g m 0 c).arrAt_eq_of_cover (7 : Fin 8) (result m T0 T1 T2 c) (fun t _ => ?_) (fun i => ?_)
  · funext y
    show outBlk m T0 T1 T2 c t.val y = result m T0 T1 T2 c ((((cfgA T1 g).win (7 : Fin 8)).blk t).view.emb y)
    unfold result
    have h0 : (y 0 : Fin 512).val < 512 := (y 0 : Fin 512).isLt
    have e0 : ((((cfgA T1 g).win (7 : Fin 8)).blk t).view.emb y (0 : Fin 2)).val = t.val * 512 + (y 0 : Fin 512).val := emb_out T1 g t y 0
    have e1 : ((((cfgA T1 g).win (7 : Fin 8)).blk t).view.emb y (1 : Fin 2)).val = (y 1 : Fin 1024).val := emb_out T1 g t y 1
    have hb : ((((cfgA T1 g).win (7 : Fin 8)).blk t).view.emb y (0 : Fin 2)).val / 512 = t.val := by rw [e0]; omega
    refine congr (congrArg (outBlk m T0 T1 T2 c) hb.symm) (funext fun a => Fin.ext ?_)
    match a with
    | ⟨0, _⟩ =>
      show (y 0 : Fin 512).val = ((((cfgA T1 g).win (7 : Fin 8)).blk t).view.emb y (0 : Fin 2)).val % 512
      rw [e0]; omega
    | ⟨1, _⟩ => exact e1.symm
  · have hi : (i (0 : Fin 2) : Fin 178176).val < 178176 := (i (0 : Fin 2) : Fin 178176).isLt
    let t : Fin (cfgA T1 g).N := ⟨(i (0 : Fin 2) : Fin 178176).val / 512, lt_of_lt_of_eq (by omega) N_0.symm⟩
    let y : S512x1024.Idx := inBlk ⟨(i (0 : Fin 2) : Fin 178176).val % 512, Nat.mod_lt _ (by decide)⟩ (i (1 : Fin 2) : Fin 1024)
    refine ⟨t, flush_out T1 g t, ?_⟩
    have e : i = (((cfgA T1 g).win (7 : Fin 8)).blk t).view.emb y := funext fun a => Fin.ext (by
      refine Eq.trans ?_ (emb_out T1 g t y a).symm
      match a with
      | ⟨0, _⟩ =>
        show (i (0 : Fin 2) : Fin 178176).val = (i (0 : Fin 2) : Fin 178176).val / 512 * 512 + (i (0 : Fin 2) : Fin 178176).val % 512
        omega
      | ⟨1, _⟩ => rfl)
    rw [e]
    exact View.emb_mem_set _ _

include g in
/-- Every run ends with the result as above, every argument unchanged and no counter raised. -/
theorem run (h : Held m T0 T1 T2) : θ_run (defs (F := Bits)) (onTc (τ := τ) (main (F := Bits))) ⟨m, fun _ => 0, ρ⟩ (fun r =>
    (∀ c : Dev nD, r.2.mem ((c.tc : Thread nD τ).loc main_v0) = result m T0 T1 T2 c ∧
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)))
      ∧ r.2.sem = fun _ => 0) :=
  (θ_run defs _ _).mono (fun r hr => ⟨fun c =>
    ⟨((hr.1 c).1 (7 : Fin 8)).trans (arr_out T1 g m c),
      ((hr.1 c).1 (0 : Fin 8)).trans ((dats T1 g m 0 c).arrAt_in (0 : Fin 8) rfl _),
      ((hr.1 c).2 0).trans (held_at T1 g m h c 0).symm, ((hr.1 c).2 1).trans (held_at T1 g m h c 1).symm, ((hr.1 c).2 2).trans (held_at T1 g m h c 2).symm,
      ((hr.1 c).1 (1 : Fin 8)).trans ((dats T1 g m 0 c).arrAt_in (1 : Fin 8) rfl _),
      ((hr.1 c).1 (2 : Fin 8)).trans ((dats T1 g m 0 c).arrAt_in (2 : Fin 8) rfl _),
      ((hr.1 c).1 (3 : Fin 8)).trans ((dats T1 g m 0 c).arrAt_in (3 : Fin 8) rfl _),
      ((hr.1 c).1 (4 : Fin 8)).trans ((dats T1 g m 0 c).arrAt_in (4 : Fin 8) rfl _),
      ((hr.1 c).1 (5 : Fin 8)).trans ((dats T1 g m 0 c).arrAt_in (5 : Fin 8) rfl _),
      ((hr.1 c).1 (6 : Fin 8)).trans ((dats T1 g m 0 c).arrAt_in (6 : Fin 8) rfl _)⟩, hr.2⟩) (run_arrays T1 g m ρ h)

end Cert.Kernel2.Experts

end
-- ==== Proof.ExpertsFinal.lean ====
module

public import proofs.«01_k».proof.Defs
public import proofs.«01_k».proof.Proof.ExpertsKValue
public import proofs.«01_k».proof.Proof.ExpertsRValue
public import proofs.«01_k».proof.Proof.ExpertsPre
public import proofs.«01_k».proof.Proof.Kernel2Run
public import proofs.«01_k».proof.Proof.Kernel2IdealRun
public import proofs.«01_k».proof.Proof.Gen.Reference2Ideal.Run
public import Idealize.ShloMosaic.Lib.Quiescent

@[expose] public section

noncomputable section

namespace Cert.Experts

open Idealize.ShloMosaic Idealize.ShloMosaic.TcCoe Idealize.SL.Sem

section Kernel

open Cert.Kernel2 Cert.Kernel2.Experts

variable (m : (ℓ : Loc nD τ sig) → Buf (Elt Bits) ℓ) (ρ : Dev nD → PrngReg)

/-- Under the precondition the kernel runs, its arguments end unchanged and every semaphore ends at zero. -/
theorem frameK (hp : Pre_Kernel2 (hPre_tables_in_range := Cert.Pre_tables_in_range.Gen.facts) m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  have hr := ranges _ _ _ _ _ _ _ _ _ _ (hp 0)
  have g : Good (m (((0 : Dev nD).tc : Thread nD τ).loc main_arg1)) (m (((0 : Dev nD).tc : Thread nD τ).loc main_arg3)) := ⟨hr.1, hr.2 _⟩
  have hh : Held m (m (((0 : Dev nD).tc : Thread nD τ).loc main_arg1)) (m (((0 : Dev nD).tc : Thread nD τ).loc main_arg2)) (m (((0 : Dev nD).tc : Thread nD τ).loc main_arg3)) := fun c => by
    obtain rfl : c = 0 := Subsingleton.elim _ _
    exact ⟨rfl, rfl, rfl⟩
  exact (θ_run _ _ _).mono (fun _ h => ⟨fun c => (h.1 c).2, h.2⟩) (Cert.Kernel2.Experts.run _ g m ρ hh)

end Kernel

section KernelIdeal

open Cert.Kernel2Ideal Cert.Kernel2Ideal.Experts

variable (m : (ℓ : Loc nD τ sig) → Buf (Elt Ideal) ℓ) (ρ : Dev nD → PrngReg)

/-- The kernel's result, its tables being those of the only device. -/
abbrev resultK (c : Dev nD) : Buf (Elt Ideal) ((c.tc : Thread nD τ).loc main_v0) :=
  result m (m (((0 : Dev nD).tc : Thread nD τ).loc main_arg1)) (m (((0 : Dev nD).tc : Thread nD τ).loc main_arg2)) (m (((0 : Dev nD).tc : Thread nD τ).loc main_arg3)) c

/-- Under the precondition the idealized kernel runs, its result is `resultK`, its arguments end unchanged and every semaphore ends at zero. -/
theorem runK (hp : Pre_Kernel2Ideal (hPre_tables_in_range := Cert.Pre_tables_in_range.Gen.facts) m) :
    θ_run (defs (F := Ideal)) (onTc (τ := τ) (main (F := Ideal))) ⟨m, fun _ => 0, ρ⟩ (fun r => (∀ c : Dev nD,
      r.2.mem ((c.tc : Thread nD τ).loc main_v0) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  have hr := ranges _ _ _ _ _ _ _ _ _ _ (hp 0)
  have g : Good (m (((0 : Dev nD).tc : Thread nD τ).loc main_arg1)) (m (((0 : Dev nD).tc : Thread nD τ).loc main_arg3)) := ⟨hr.1, hr.2 _⟩
  have hh : Held m (m (((0 : Dev nD).tc : Thread nD τ).loc main_arg1)) (m (((0 : Dev nD).tc : Thread nD τ).loc main_arg2)) (m (((0 : Dev nD).tc : Thread nD τ).loc main_arg3)) := fun c => by
    obtain rfl : c = 0 := Subsingleton.elim _ _
    exact ⟨rfl, rfl, rfl⟩
  exact Cert.Kernel2Ideal.Experts.run _ g m ρ hh

end KernelIdeal

section ReferenceIdeal

open Cert.Reference2Ideal

variable (m : (ℓ : Loc nD τ sig) → Buf (Elt Ideal) ℓ) (ρ : Dev nD → PrngReg)

/-- The reference runs, its arguments end unchanged, and it has no semaphore. -/
theorem frameR :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run _ _ _).mono (fun r h => ⟨fun c => (h c).2, sem_eq_zero_of_no_sems rfl r.2⟩) (Cert.Reference2Ideal.Value.run m ρ)

end ReferenceIdeal

/-- From memories agreeing on the arguments and under the precondition, the two programs' results are equal: at every index both are
    the block's expert's layer, or zero past the valid blocks. -/
theorem experts_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (hp : Pre_Kernel2Ideal (hPre_tables_in_range := Cert.Pre_tables_in_range.Gen.facts) m)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (h9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) :
    (Cert.Reference2Ideal.Value.res_main_v100 m' c : FVec Ideal Cert.Kernel2Ideal.S178176x1024 .bf16) = resultK m c := by
  obtain rfl : c = 0 := Subsingleton.elim _ _
  have hr := ranges _ _ _ _ _ _ _ _ _ _ (hp 0)
  refine (Cert.Reference2Ideal.Read.val_main_v100_eq m' 0).trans ?_
  rw [h0, h1, h2, h3, h4, h5, h6, h7, h8, h9]
  funext y
  change Cert.Kernel2Ideal.S178176x1024.Idx at y
  idx_vars y
  exact (Cert.Reference2Ideal.Experts.value_apply _ _ _ _ _ _ _ _ _ _ hr.1 hr.2 y0 y1).trans
    (Cert.Kernel2Ideal.Experts.result_apply m 0 _ _ _ y0 y1).symm

end Cert.Experts

end

end
-- ==== Proof.MergeMath.lean ====
module

public import Idealize.ShloMosaic.Lib.Pointwise

@[expose] public section

noncomputable section

namespace Cert.Merge

open Idealize.ShloMosaic

/-- The greatest of three scores. -/
def top (l : Fin 3 → EReal) : EReal := max (max (l 0) (l 1)) (l 2)
/-- A score's exponential, the greatest score taken off. -/
def wexp (l : Fin 3 → EReal) (g : Fin 3) : EReal := Ideal.exp (l g - top l)
/-- Three values blended, one division at the end. -/
def blend (o l : Fin 3 → EReal) : EReal :=
  (wexp l 0 * o 0 + wexp l 1 * o 1 + wexp l 2 * o 2) * Ideal.div 1 (wexp l 0 + wexp l 1 + wexp l 2)
/-- Three values blended by the softmax of their scores. -/
def soft (o l : Fin 3 → EReal) : EReal :=
  ∑ g, Ideal.div (wexp l g) (∑ k, wexp l k) * o g

/-- With the greatest score finite, every exponential is a nonnegative number. -/
theorem wexp_real (l : Fin 3 → EReal) (h : ⊥ < top l) (h' : top l < ⊤) (g : Fin 3) : ∃ r : ℝ, 0 ≤ r ∧ wexp l g = (r : EReal) := by
  have hle : l g ≤ top l := by
    unfold top
    match g with
    | 0 => exact le_trans (le_max_left _ _) (le_max_left _ _)
    | 1 => exact le_trans (le_max_right _ _) (le_max_left _ _)
    | 2 => exact le_max_right _ _
  unfold wexp
  generalize l g = a at hle
  generalize top l = M at h h' hle
  induction M with
  | bot => exact absurd h (lt_irrefl _)
  | top => exact absurd h' (lt_irrefl _)
  | coe M =>
    induction a with
    | bot => exact ⟨0, le_refl _, by rw [EReal.bot_sub]; rfl⟩
    | top => exact absurd (lt_of_le_of_lt hle h') (lt_irrefl _)
    | coe a => exact ⟨Real.exp (a - M), (Real.exp_pos _).le, by rw [← EReal.coe_sub]; rfl⟩

/-- The exponential of the greatest score is one. -/
theorem wexp_top (l : Fin 3 → EReal) (h : ⊥ < top l) (h' : top l < ⊤) : ∃ g, wexp l g = 1 := by
  have hg : ∃ g, l g = top l := by
    unfold top
    rcases max_choice (max (l 0) (l 1)) (l 2) with e | e
    · rcases max_choice (l 0) (l 1) with e' | e'
      · exact ⟨0, by rw [e, e']⟩
      · exact ⟨1, by rw [e, e']⟩
    · exact ⟨2, by rw [e]⟩
  obtain ⟨g, hg⟩ := hg
  refine ⟨g, ?_⟩
  unfold wexp
  rw [hg]
  generalize top l = M at h h'
  induction M with
  | bot => exact absurd h (lt_irrefl _)
  | top => exact absurd h' (lt_irrefl _)
  | coe M =>
    rw [← EReal.coe_sub, sub_self]
    show ((Real.exp 0 : ℝ) : EReal) = 1
    rw [Real.exp_zero]; rfl

/-- A nonnegative number times a sum is the sum of the products. -/
theorem mul_add_real (r : ℝ) (hr : 0 ≤ r) (a b : EReal) : (r : EReal) * (a + b) = r * a + r * b :=
  EReal.left_distrib_of_nonneg_of_ne_top (by exact_mod_cast hr) (EReal.coe_ne_top r) a b

/-- Dividing at the end is dividing each weight, where the greatest score is finite. -/
theorem blend_eq_soft (o l : Fin 3 → EReal) (h : ⊥ < top l) (h' : top l < ⊤) : blend o l = soft o l := by
  obtain ⟨r0, p0, e0⟩ := wexp_real l h h' 0
  obtain ⟨r1, p1, e1⟩ := wexp_real l h h' 1
  obtain ⟨r2, p2, e2⟩ := wexp_real l h h' 2
  have hpos : 0 < r0 + r1 + r2 := by
    obtain ⟨g, hg⟩ := wexp_top l h h'
    have h1 : ∀ r : ℝ, (r : EReal) = 1 → r = 1 := fun r e => by exact_mod_cast e
    match g, hg with
    | 0, hg => have := h1 r0 (e0.symm.trans hg); linarith
    | 1, hg => have := h1 r1 (e1.symm.trans hg); linarith
    | 2, hg => have := h1 r2 (e2.symm.trans hg); linarith
  have hS : wexp l 0 + wexp l 1 + wexp l 2 = ((r0 + r1 + r2 : ℝ) : EReal) := by
    rw [e0, e1, e2, EReal.coe_add, EReal.coe_add]
  have hd : ∀ x : EReal, Ideal.div x ((r0 + r1 + r2 : ℝ) : EReal) = x * (((r0 + r1 + r2)⁻¹ : ℝ) : EReal) := fun x => by
    unfold Ideal.div
    rw [if_neg (by exact_mod_cast hpos.ne'), EReal.coe_inv]
  unfold blend soft
  rw [Fin.sum_univ_three, Fin.sum_univ_three, hS, hd, hd, hd, hd, one_mul, mul_comm, mul_add_real _ (inv_nonneg.mpr hpos.le),
    mul_add_real _ (inv_nonneg.mpr hpos.le)]
  rw [← mul_assoc, ← mul_assoc, ← mul_assoc, mul_comm _ (wexp l 0), mul_comm _ (wexp l 1), mul_comm _ (wexp l 2)]

/-- The sigmoid. -/
def squash (s : EReal) : EReal := Ideal.div 1 (1 + Ideal.exp (-s))
/-- The three branches of a row, each gated and projected, added. -/
def mixed (x : Fin 1024 → EReal) (wg : Fin 3 → Fin 1024 → Fin 1024 → EReal) (y : Fin 3 → Fin 512 → EReal) (wb : Fin 3 → Fin 512 → Fin 1024 → EReal)
    (j : Fin 1024) : EReal :=
  squash (∑ d, x d * wg 0 d j) * (∑ k, y 0 k * wb 0 k j) + squash (∑ d, x d * wg 1 d j) * (∑ k, y 1 k * wb 1 k j)
    + squash (∑ d, x d * wg 2 d j) * (∑ k, y 2 k * wb 2 k j)
/-- The scaled row plus the projected branches. -/
def resid (x mg : Fin 1024 → EReal) (wo : Fin 1024 → Fin 1024 → EReal) (j : Fin 1024) : EReal :=
  Ideal.ofBits .f32 0x3FB504F3#32 * x j + ∑ k, mg k * wo k j
/-- The mean of a row. -/
def mean (z : Fin 1024 → EReal) : EReal := Ideal.div (∑ j, z j) (Ideal.ofBits .f32 0x44800000#32)
/-- A row, its mean taken off. -/
def cent (z : Fin 1024 → EReal) (j : Fin 1024) : EReal := z j - mean z
/-- A row normalized, scaled and shifted. -/
def normed (z g b : Fin 1024 → EReal) (j : Fin 1024) : EReal :=
  cent z j * Ideal.rsqrt (mean (fun i => cent z i * cent z i) + Ideal.ofBits .f32 0x3727C5AC#32) * g j + b j

/-- What a row's blend reads. -/
structure Data where
  x : Fin 32768 → Fin 1024 → EReal
  y0 : Fin 32768 → Fin 512 → EReal
  y1 : Fin 32768 → Fin 512 → EReal
  o : Fin 3 → Fin 32768 → Fin 512 → EReal
  l : Fin 3 → Fin 32768 → Fin 4 → EReal
  wg : Fin 3 → Fin 1024 → Fin 1024 → EReal
  wb : Fin 3 → Fin 512 → Fin 1024 → EReal
  wo : Fin 1024 → Fin 1024 → EReal
  g : Fin 1024 → EReal
  b : Fin 1024 → EReal

/-- The head a channel belongs to. -/
def head (k : Fin 512) : Fin 4 := ⟨k.val / 128, by omega⟩

variable (D : Data)

/-- The three branches' values at a row, the third one blended by `f`. -/
def Data.y (f : (Fin 3 → EReal) → (Fin 3 → EReal) → EReal) (i : Fin 32768) (n : Fin 3) (k : Fin 512) : EReal :=
  match n with
  | 0 => D.y0 i k
  | 1 => D.y1 i k
  | 2 => f (fun g => D.o g i k) (fun g => D.l g i (head k))

/-- The merged and normalized row `i` at channel `j`. -/
def Data.out (f : (Fin 3 → EReal) → (Fin 3 → EReal) → EReal) (i : Fin 32768) (j : Fin 1024) : EReal :=
  normed (resid (D.x i) (mixed (D.x i) D.wg (D.y f i) D.wb) D.wo) D.g D.b j

/-- Either way of blending gives the same rows, where the greatest scores are finite. -/
theorem Data.out_eq (h : ∀ i n, ⊥ < top (fun g => D.l g i n) ∧ top (fun g => D.l g i n) < ⊤) (i : Fin 32768) (j : Fin 1024) :
    D.out blend i j = D.out soft i j := by
  have hy : D.y blend i = D.y soft i := by
    funext n k
    match n with
    | 0 => rfl
    | 1 => rfl
    | 2 => exact blend_eq_soft (fun g => D.o g i k) (fun g => D.l g i (head k)) (h i (head k)).1 (h i (head k)).2
  unfold Data.out
  rw [hy]

end Cert.Merge

end

end
-- ==== Proof.MergeBody.lean ====
module

public import proofs.«01_k».proof.Proof.MergeMath
public import proofs.«01_k».proof.Proof.Gen.Kernel3Ideal.Skeleton

@[expose] public section

set_option maxRecDepth 16384

noncomputable section

namespace Cert.Kernel3Ideal.Merge

open Idealize.ShloMosaic Idealize.ShloMosaic.TcCoe Cert.Kernel3Ideal Cert.Kernel3Ideal.Gen Cert.Merge

/-- What a block's computation loads: its rows, the two finished branches, the three streams' values by head and their scores,
    and the weights. -/
structure Loads (F : FTy → Type) where
  x : Vec F S512x1024 .f32
  xb : Vec F S512x1024 .bf16
  y0 : Vec F S512x512 .bf16
  y1 : Vec F S512x512 .bf16
  o : Fin 3 → Fin 4 → Vec F S1x1x512x128 .f32
  l : Fin 3 → Vec F S1x512x128 .f32
  wg : Fin 3 → Vec F S1024x1024 .bf16
  wb : Fin 3 → Vec F S1x512x1024 .bf16
  wo : Vec F S1024x1024 .bf16
  g : Vec F S1x1024 .f32
  b : Vec F S1x1024 .f32

section
variable {F : FTy → Type} [FloatOps F] (L : Loads F)

/-- The exponentials of a stream's scores. -/
def e0 : FVec F S512x128 .f32 := k0_pay121 (L.l 0) (L.l 1) (L.l 2)
def e1 : FVec F S512x128 .f32 := k0_pay122 (L.l 0) (L.l 1) (L.l 2)
def e2 : FVec F S512x128 .f32 := k0_pay123 (L.l 0) (L.l 1) (L.l 2)
/-- The inverse of the exponentials' sum. -/
def inv : FVec F S512x128 .f32 := k0_pay124 (L.l 0) (L.l 1) (L.l 2)

/-- The blended third branch. -/
def att : FVec F S512x512 .bf16 :=
  k0_pay130 (e0 L) (e1 L) (e2 L) (inv L)
    (k0_pay127 (e2 L) (inv L) (k0_pay125 (L.l 0) (L.l 1) (L.l 2) (L.o 0 0)) (k0_pay126 (L.l 0) (L.l 1) (L.l 2)) (L.o 1 0) (L.o 2 0))
    (k0_pay128 (e0 L) (e1 L) (e2 L) (inv L) (L.o 0 1) (L.o 1 1) (L.o 2 1))
    (k0_pay129 (e0 L) (L.o 0 2)) (L.o 1 2) (L.o 2 2) (L.o 0 3) (L.o 1 3) (L.o 2 3)

/-- The first two branches, gated and projected. -/
def two : FVec F S512x1024 .f32 := k0_pay132 L.xb (L.wg 0) L.y0 (L.wb 0) (L.wg 1) L.y1 (L.wb 1)
/-- The merged rows, their means taken off. -/
def centered : FVec F S512x1024 .f32 :=
  k0_pay136 (att L) (k0_pay131 L.xb) (two L) (k0_pay133 (L.wg 2)) (L.wb 2) L.x L.wo
/-- The merged rows' variances. -/
def variance : FVec F S512x1 .f32 :=
  k0_pay137 (att L) (k0_pay131 L.xb) (two L) (k0_pay133 (L.wg 2)) (L.wb 2) L.x L.wo
/-- The block's normalized rows. -/
def rows : FVec F S512x1024 .f32 := k0_pay139 (k0_pay134 L.g) (k0_pay135 L.b) (centered L) (variance L) k0_pay138
/-- The block's normalized rows, rounded. -/
def rowsb : FVec F S512x1024 .bf16 := k0_pay140 (k0_pay134 L.g) (k0_pay135 L.b) (centered L) (variance L) k0_pay138
end

variable (L : Loads Ideal)

/-- A row's scores of a head. -/
def lse (r : Fin 512) (n : Fin 4) (g : Fin 3) : EReal := L.l g (ix3 0 r ⟨n.val, by omega⟩)
/-- A row's values at a channel. -/
def val (r : Fin 512) (k : Fin 512) (g : Fin 3) : EReal := L.o g (head k) (ix4 0 0 r ⟨k.val % 128, by omega⟩)

theorem e0_apply (r : Fin 512) (n : Fin 128) (h : n.val < 4) : e0 L (ix2 r n) = wexp (lse L r ⟨n.val, h⟩) 0 := by
  unfold e0 wexp top lse
  pointwise [k0_pay121, k0_pay120, k0_pay117, k0_pay118, k0_pay119]

theorem e1_apply (r : Fin 512) (n : Fin 128) (h : n.val < 4) : e1 L (ix2 r n) = wexp (lse L r ⟨n.val, h⟩) 1 := by
  unfold e1 wexp top lse
  pointwise [k0_pay122, k0_pay120, k0_pay117, k0_pay118, k0_pay119]

theorem e2_apply (r : Fin 512) (n : Fin 128) (h : n.val < 4) : e2 L (ix2 r n) = wexp (lse L r ⟨n.val, h⟩) 2 := by
  unfold e2 wexp top lse
  pointwise [k0_pay123, k0_pay120, k0_pay117, k0_pay118, k0_pay119]

theorem inv_apply (r : Fin 512) (n : Fin 128) (h : n.val < 4) :
    inv L (ix2 r n) = Ideal.div 1 (wexp (lse L r ⟨n.val, h⟩) 0 + wexp (lse L r ⟨n.val, h⟩) 1 + wexp (lse L r ⟨n.val, h⟩) 2) := by
  rw [← e0_apply L r n h, ← e1_apply L r n h, ← e2_apply L r n h]
  unfold inv e0 e1 e2
  pointwise [k0_pay124]

/-- A column taken and multiplied onto a head's values. -/
theorem head0 (r : Fin 512) (e : Fin 128) :
    (k0_pay127 (e2 L) (inv L) (k0_pay125 (L.l 0) (L.l 1) (L.l 2) (L.o 0 0)) (k0_pay126 (L.l 0) (L.l 1) (L.l 2)) (L.o 1 0) (L.o 2 0) : FVec Ideal S512x128 .f32) (ix2 r e)
      = blend (fun g => L.o g 0 (ix4 0 0 r e)) (lse L r 0) := by
  have h0 : ∀ r n, k0_pay121 (L.l 0) (L.l 1) (L.l 2) (ix2 r n) = e0 L (ix2 r n) := fun _ _ => rfl
  have h1 : ∀ r n, k0_pay122 (L.l 0) (L.l 1) (L.l 2) (ix2 r n) = e1 L (ix2 r n) := fun _ _ => rfl
  unfold blend
  pointwise [k0_pay127, k0_pay125, k0_pay126]
  rw [h0, h1]
  erw [e0_apply L r 0 (by decide), e1_apply L r 0 (by decide), e2_apply L r 0 (by decide), inv_apply L r 0 (by decide)]
  rfl

theorem head1 (r : Fin 512) (e : Fin 128) :
    (k0_pay128 (e0 L) (e1 L) (e2 L) (inv L) (L.o 0 1) (L.o 1 1) (L.o 2 1) : FVec Ideal S512x128 .f32) (ix2 r e)
      = blend (fun g => L.o g 1 (ix4 0 0 r e)) (lse L r 1) := by
  unfold blend
  pointwise [k0_pay128]
  erw [e0_apply L r 1 (by decide), e1_apply L r 1 (by decide), e2_apply L r 1 (by decide), inv_apply L r 1 (by decide)]
  rfl

theorem head2a (r : Fin 512) (e : Fin 128) :
    (k0_pay129 (e0 L) (L.o 0 2) : FVec Ideal S512x128 .f32) (ix2 r e) = wexp (lse L r 2) 0 * L.o 0 2 (ix4 0 0 r e) := by
  pointwise [k0_pay129]
  erw [e0_apply L r 2 (by decide)]
  rfl

/-- The blended third branch at a row and channel. -/
theorem att_apply (r k : Fin 512) : att L (ix2 r k) = blend (val L r k) (lse L r (head k)) := by
  have H0 := fun e => head0 L r e
  have H1 := fun e => head1 L r e
  have H2 := fun e => head2a L r e
  unfold att
  generalize (k0_pay127 (e2 L) (inv L) (k0_pay125 (L.l 0) (L.l 1) (L.l 2) (L.o 0 0)) (k0_pay126 (L.l 0) (L.l 1) (L.l 2)) (L.o 1 0) (L.o 2 0) : FVec Ideal S512x128 .f32) = A0 at H0 ⊢
  generalize (k0_pay128 (e0 L) (e1 L) (e2 L) (inv L) (L.o 0 1) (L.o 1 1) (L.o 2 1) : FVec Ideal S512x128 .f32) = A1 at H1 ⊢
  generalize (k0_pay129 (e0 L) (L.o 0 2) : FVec Ideal S512x128 .f32) = A2 at H2 ⊢
  pointwise [k0_pay130]
  have hv : ∀ (n : Fin 4) (e : Fin 128), k.val = 128 * n.val + e.val →
      blend (fun g => L.o g n (ix4 0 0 r e)) (lse L r n) = blend (val L r k) (lse L r (head k)) := by
    intro n e hk
    have h1 : head k = n := Fin.ext (by show k.val / 128 = n.val; omega)
    have h2 : (⟨k.val % 128, by omega⟩ : Fin 128) = e := Fin.ext (by show k.val % 128 = e.val; omega)
    unfold val
    rw [h1, h2]
  by_cases h0 : k.val < 128
  · rw [dif_pos h0, H0]
    exact hv 0 ⟨k.val, h0⟩ (by show k.val = 128 * 0 + k.val; omega)
  rw [dif_neg h0]
  by_cases h1 : k.val - 128 < 128
  · rw [dif_pos h1, H1]
    exact hv 1 ⟨k.val - 128, h1⟩ (by show k.val = 128 * 1 + (k.val - 128); omega)
  rw [dif_neg h1]
  by_cases h2 : k.val - 128 - 128 < 128
  · rw [dif_pos h2, H2, ← hv 2 ⟨k.val - 128 - 128, h2⟩ (by show k.val = 128 * 2 + (k.val - 128 - 128); omega)]
    unfold blend
    erw [e1_apply L r 2 (by decide), e2_apply L r 2 (by decide), inv_apply L r 2 (by decide)]
    rfl
  · rw [dif_neg h2, ← hv 3 ⟨k.val - 128 - 128 - 128, by omega⟩ (by show k.val = 128 * 3 + (k.val - 128 - 128 - 128); omega)]
    unfold blend
    erw [e0_apply L r 3 (by decide), e1_apply L r 3 (by decide), e2_apply L r 3 (by decide), inv_apply L r 3 (by decide)]
    rfl

/-- The first two branches' gated projections at a row and channel. -/
theorem two_apply (r : Fin 512) (j : Fin 1024) :
    two L (ix2 r j) = squash (∑ d, HMul.hMul (α := EReal) (β := EReal) (γ := EReal) (L.xb (ix2 r d)) (L.wg 0 (ix2 d j))) * (∑ k, HMul.hMul (α := EReal) (β := EReal) (γ := EReal) (L.y0 (ix2 r k)) (L.wb 0 (ix3 0 k j)))
      + squash (∑ d, HMul.hMul (α := EReal) (β := EReal) (γ := EReal) (L.xb (ix2 r d)) (L.wg 1 (ix2 d j))) * (∑ k, HMul.hMul (α := EReal) (β := EReal) (γ := EReal) (L.y1 (ix2 r k)) (L.wb 1 (ix3 0 k j))) := by
  unfold two squash
  pointwise [k0_pay132, k0_pay131]
  simp only [zero_sub]

/-- The residual rows at a row and channel. -/
def res (r : Fin 512) (j : Fin 1024) : EReal :=
  resid (fun d => L.x (ix2 r d)) (mixed (fun d => L.xb (ix2 r d)) (fun n d j => L.wg n (ix2 d j))
    (fun n k => match n with | 0 => L.y0 (ix2 r k) | 1 => L.y1 (ix2 r k) | 2 => blend (val L r k) (lse L r (head k)))
    (fun n k j => L.wb n (ix3 0 k j))) (fun d j => L.wo (ix2 d j)) j

theorem centered_apply (r : Fin 512) (j : Fin 1024) : centered L (ix2 r j) = cent (res L r) j := by
  have H := fun k => att_apply L r k
  have H' := fun j => two_apply L r j
  unfold centered
  generalize att L = A at H ⊢
  generalize two L = B at H' ⊢
  pointwise [k0_pay136, k0_pay133, k0_pay131]
  simp only [zero_sub, H, H']
  rfl

theorem variance_apply (r : Fin 512) : variance L (ix2 r 0) = mean (fun i => cent (res L r) i * cent (res L r) i) := by
  have H := fun j => centered_apply L r j
  unfold variance
  unfold centered at H
  pointwise [k0_pay137]
  simp only [H]
  rfl

theorem rows_apply (r : Fin 512) (j : Fin 1024) :
    rows L (ix2 r j) = normed (res L r) (fun j => L.g (ix2 0 j)) (fun j => L.b (ix2 0 j)) j := by
  have H := fun j => centered_apply L r j
  have H' := variance_apply L r
  unfold rows
  generalize centered L = A at H ⊢
  generalize variance L = B at H' ⊢
  pointwise [k0_pay139, k0_pay138, k0_pay134, k0_pay135]
  rw [H]
  erw [H']
  rfl

theorem rowsb_apply (r : Fin 512) (j : Fin 1024) :
    rowsb L (ix2 r j) = normed (res L r) (fun j => L.g (ix2 0 j)) (fun j => L.b (ix2 0 j)) j := by
  rw [← rows_apply]
  rfl

end Cert.Kernel3Ideal.Merge

end

end
-- ==== Proof.MergeChain.lean ====
module

public import proofs.«01_k».proof.Proof.MergeBody
public import proofs.«01_k».proof.Proof.Gen.Kernel3Ideal.Frame.RunA

@[expose] public section

set_option maxRecDepth 16384

noncomputable section

namespace Cert.Kernel3Ideal.Merge

open Idealize.ShloMosaic Idealize.ShloMosaic.TcCoe Cert.Kernel3Ideal Cert.Kernel3Ideal.Gen Cert.Merge

section
variable {F : FTy → Type} [FloatOps F]

theorem inb_o0 (h : Fin 4) : ∀ a, (![0, h.val, 0, 0] : Fin 4 → ℕ) a + S1x1x512x128.size a ≤ S3x4x512x128.size a := by
  revert h; decide
theorem inb_og (g : Fin 3) (h : Fin 4) : ∀ a, (![g.val, h.val, 0, 0] : Fin 4 → ℕ) a + S1x1x512x128.size a ≤ S3x4x512x128.size a := by
  revert g h; decide
theorem inb_o1 (r h : Fin 4) : ∀ a, S1x1x128x128.size a = 0 ∨ (![1, h.val, r.val, 0] : Fin 4 → ℕ) a + (![1, 1, 4, 1] : Fin 4 → ℕ) a * (S1x1x128x128.size a - 1) < S3x4x512x128.size a := by
  revert r h; decide
theorem inb_o2 (r : Fin 16) (h : Fin 4) : ∀ a, S1x1x32x128.size a = 0 ∨ (![2, h.val, r.val, 0] : Fin 4 → ℕ) a + (![1, 1, 16, 1] : Fin 4 → ℕ) a * (S1x1x32x128.size a - 1) < S3x4x512x128.size a := by
  revert r h; decide
theorem inb_x3 (h : Fin 4) : ∀ a, (![0, 128 * h.val] : Fin 2 → ℕ) a + S512x128.size a ≤ S512x512.size a := by
  revert h; decide
theorem inb_x4 (r h : Fin 4) : ∀ a, (![0, 512 * r.val + 128 * h.val] : Fin 2 → ℕ) a + S128x128.size a ≤ S128x2048.size a := by
  revert r h; decide
theorem inb_x5 (r : Fin 16) (h : Fin 4) : ∀ a, (![0, 512 * r.val + 128 * h.val] : Fin 2 → ℕ) a + S32x128.size a ≤ S32x8192.size a := by
  revert r h; decide
theorem inb_lg (g : Fin 3) : ∀ a, (![g.val, 0, 0] : Fin 3 → ℕ) a + S1x512x128.size a ≤ S3x512x128.size a := by
  revert g; decide
theorem inb_l1 (r : Fin 4) : ∀ a, S1x128x128.size a = 0 ∨ (![1, r.val, 0] : Fin 3 → ℕ) a + (![1, 4, 1] : Fin 3 → ℕ) a * (S1x128x128.size a - 1) < S3x512x128.size a := by
  revert r; decide
theorem inb_l2 (r : Fin 16) : ∀ a, S1x32x128.size a = 0 ∨ (![2, r.val, 0] : Fin 3 → ℕ) a + (![1, 16, 1] : Fin 3 → ℕ) a * (S1x32x128.size a - 1) < S3x512x128.size a := by
  revert r; decide
theorem inb_x7 (r : Fin 4) : ∀ a, (![0, 128 * r.val] : Fin 2 → ℕ) a + S128x128.size a ≤ S128x512.size a := by
  revert r; decide
theorem inb_x8 (r : Fin 16) : ∀ a, (![0, 128 * r.val] : Fin 2 → ℕ) a + S32x128.size a ≤ S32x2048.size a := by
  revert r; decide
theorem inb_wgn (n : Fin 3) : ∀ a, (![0, 1024 * n.val] : Fin 2 → ℕ) a + S1024x1024.size a ≤ S1024x3072.size a := by
  revert n; decide
theorem inb_wbn (n : Fin 3) : ∀ a, (![n.val, 0, 0] : Fin 3 → ℕ) a + S1x512x1024.size a ≤ S3x512x1024.size a := by
  revert n; decide

/-- The head and the residue of the `n`-th strided store from the last. -/
def hAt {m : ℕ} (n : Fin m) : Fin 4 := ⟨3 - n.val % 4, by omega⟩
def rAt4 (n : Fin 16) : Fin 4 := ⟨3 - n.val / 4, by omega⟩
def rAt16 (n : Fin 64) : Fin 16 := ⟨15 - n.val / 4, by omega⟩

variable (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x2048 .bf16) (harg5 : arg5.IsWhole) (arg6 : Memref sig .tc .vmem S32x8192 .bf16) (harg6 : arg6.IsWhole) (arg7 : Memref sig .tc .vmem S512x128 .f32) (harg7 : arg7.IsWhole) (arg8 : Memref sig .tc .vmem S128x512 .f32) (harg8 : arg8.IsWhole) (arg9 : Memref sig .tc .vmem S32x2048 .f32) (harg9 : arg9.IsWhole) (arg10 : Memref sig .tc .vmem S512x1024 .bf16) (harg10 : arg10.IsWhole) (arg11 : Memref sig .tc .vmem S1024x3072 .bf16) (harg11 : arg11.IsWhole) (arg12 : Memref sig .tc .vmem S3x512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1x128 .f32) (harg18 : arg18.IsWhole) (arg19 : Memref sig .tc .vmem S512x1024 .f32) (harg19 : arg19.IsWhole) (arg20 : Memref sig .tc .vmem S512x1024 .bf16) (harg20 : arg20.IsWhole) (arg21 : Memref sig .tc .vmem S512x128 .i32) (harg21 : arg21.IsWhole) (arg22 : Memref sig .tc .vmem S8x512 .f32) (harg22 : arg22.IsWhole) (arg23 : Memref sig .tc .vmem S512x128 .f32) (harg23 : arg23.IsWhole) (arg24 : Memref sig .tc .vmem S2x8x128 .i32) (harg24 : arg24.IsWhole) (arg25 : Memref sig .tc .vmem S3x4x512x128 .f32) (harg25 : arg25.IsWhole) (arg26 : Memref sig .tc .vmem S3x512x128 .f32) (harg26 : arg26.IsWhole) (x0 : Vec F S512x1024 .f32) (x1 : Vec F S512x512 .bf16) (x2 : Vec F S512x512 .bf16) (x3 : Vec F S512x512 .bf16) (x4 : Vec F S128x2048 .bf16) (x5 : Vec F S32x8192 .bf16) (x6 : Vec F S512x128 .f32) (x7 : Vec F S128x512 .f32) (x8 : Vec F S32x2048 .f32) (x9 : Vec F S512x1024 .bf16) (x10 : Vec F S1024x3072 .bf16) (x11 : Vec F S3x512x1024 .bf16) (x12 : Vec F S1024x1024 .bf16) (x13 : Vec F S1x1024 .f32) (x14 : Vec F S1x1024 .f32) (x15 : Vec F S1024x128 .bf16) (x16 : Vec F S1024x128 .bf16) (x17 : Vec F S1x128 .f32)

/-- The stores that lay the third stream's values into the scratch, last first. -/
def oPieces2 : List (View.Piece (Elt F) S3x4x512x128 .f32) :=
  List.ofFn fun n : Fin 64 => ⟨{ off := ![2, (hAt n).val, (rAt16 n).val, 0], size := S1x1x32x128.size, stride := ![1, 1, 16, 1], inb := inb_o2 (rAt16 n) (hAt n), stride_pos := spos_1_1_16_1 },
    k0_pay36 (View.readAt (Elt F) arg6.view (Rect.unit (s := S32x8192) ![0, 512 * (rAt16 n).val + 128 * (hAt n).val] S32x128.size (inb_x5 (rAt16 n) (hAt n))).toLoadRect (harg6.unread x5))⟩
/-- The second stream's, last first. -/
def oPieces1 : List (View.Piece (Elt F) S3x4x512x128 .f32) :=
  List.ofFn fun n : Fin 16 => ⟨{ off := ![1, (hAt n).val, (rAt4 n).val, 0], size := S1x1x128x128.size, stride := ![1, 1, 4, 1], inb := inb_o1 (rAt4 n) (hAt n), stride_pos := spos_1_1_4_1 },
    k0_pay8 (View.readAt (Elt F) arg5.view (Rect.unit (s := S128x2048) ![0, 512 * (rAt4 n).val + 128 * (hAt n).val] S128x128.size (inb_x4 (rAt4 n) (hAt n))).toLoadRect (harg5.unread x4))⟩
/-- The first stream's, last first. -/
def oPieces0 : List (View.Piece (Elt F) S3x4x512x128 .f32) :=
  List.ofFn fun n : Fin 4 => ⟨Rect.unit (s := S3x4x512x128) ![0, (hAt n).val, 0, 0] S1x1x512x128.size (inb_o0 (hAt n)),
    k0_pay3 (View.readAt (Elt F) arg4.view (Rect.unit (s := S512x512) ![0, 128 * (hAt n).val] S512x128.size (inb_x3 (hAt n))).toLoadRect (harg4.unread x3))⟩
/-- All the stores of values, last first. -/
def oPieces : List (View.Piece (Elt F) S3x4x512x128 .f32) :=
  oPieces2 (F := F) arg6 harg6 x5 ++ (oPieces1 (F := F) arg5 harg5 x4 ++ oPieces0 (F := F) arg4 harg4 x3)

/-- The stores that lay the third stream's scores into the scratch, last first. -/
def lPieces2 : List (View.Piece (Elt F) S3x512x128 .f32) :=
  List.ofFn fun n : Fin 16 => ⟨{ off := ![2, n.rev.val, 0], size := S1x32x128.size, stride := ![1, 16, 1], inb := inb_l2 n.rev, stride_pos := spos_1_16_1 },
    k0_pay40 (View.readAt (Elt F) arg9.view (Rect.unit (s := S32x2048) ![0, 128 * n.rev.val] S32x128.size (inb_x8 n.rev)).toLoadRect (harg9.unread x8))⟩
/-- The second stream's scores, last first. -/
def lPieces1 : List (View.Piece (Elt F) S3x512x128 .f32) :=
  List.ofFn fun n : Fin 4 => ⟨{ off := ![1, n.rev.val, 0], size := S1x128x128.size, stride := ![1, 4, 1], inb := inb_l1 n.rev, stride_pos := spos_1_4_1 },
    k0_pay12 (View.readAt (Elt F) arg8.view (Rect.unit (s := S128x512) ![0, 128 * n.rev.val] S128x128.size (inb_x7 n.rev)).toLoadRect (harg8.unread x7))⟩
/-- The first stream's scores. -/
def lPieces0 : List (View.Piece (Elt F) S3x512x128 .f32) :=
  [⟨Rect.unit (s := S3x512x128) ![0, 0, 0] S1x512x128.size inb_S3x512x128_S1x512x128_0_0_0,
    k0_pay7 (View.readAt (Elt F) arg7.view (Rect.unit (s := S512x128) ![0, 0] S512x128.size inb_S512x128_S512x128_0_0).toLoadRect (harg7.unread x6))⟩]
/-- All the stores of scores, last first. -/
def lPieces : List (View.Piece (Elt F) S3x512x128 .f32) :=
  lPieces2 (F := F) arg9 harg9 x8 ++ (lPieces1 (F := F) arg8 harg8 x7 ++ lPieces0 (F := F) arg7 harg7 x6)

/-- What a grid point's computation loads. -/
def loads : Loads F where
  x := View.readAt (Elt F) arg1.view (Rect.unit (s := S512x1024) ![0, 0] S512x1024.size inb_S512x1024_S512x1024_0_0).toLoadRect (harg1.unread x0)
  xb := View.readAt (Elt F) arg10.view (Rect.unit (s := S512x1024) ![0, 0] S512x1024.size inb_S512x1024_S512x1024_0_0).toLoadRect (harg10.unread x9)
  y0 := View.readAt (Elt F) arg2.view (Rect.unit (s := S512x512) ![0, 0] S512x512.size inb_S512x512_S512x512_0_0).toLoadRect (harg2.unread x1)
  y1 := View.readAt (Elt F) arg3.view (Rect.unit (s := S512x512) ![0, 0] S512x512.size inb_S512x512_S512x512_0_0).toLoadRect (harg3.unread x2)
  o g h := arg25.view.readCov (oPieces (F := F) arg4 harg4 arg5 harg5 arg6 harg6 x3 x4 x5) (Rect.unit (s := S3x4x512x128) ![g.val, h.val, 0, 0] S1x1x512x128.size (inb_og g h)).toLoadRect
  l g := arg26.view.readCov (lPieces (F := F) arg7 harg7 arg8 harg8 arg9 harg9 x6 x7 x8) (Rect.unit (s := S3x512x128) ![g.val, 0, 0] S1x512x128.size (inb_lg g)).toLoadRect
  wg n := View.readAt (Elt F) arg11.view (Rect.unit (s := S1024x3072) ![0, 1024 * n.val] S1024x1024.size (inb_wgn n)).toLoadRect (harg11.unread x10)
  wb n := View.readAt (Elt F) arg12.view (Rect.unit (s := S3x512x1024) ![n.val, 0, 0] S1x512x1024.size (inb_wbn n)).toLoadRect (harg12.unread x11)
  wo := View.readAt (Elt F) arg13.view (Rect.unit (s := S1024x1024) ![0, 0] S1024x1024.size inb_S1024x1024_S1024x1024_0_0).toLoadRect (harg13.unread x12)
  g := View.readAt (Elt F) arg14.view (Rect.unit (s := S1x1024) ![0, 0] S1x1024.size inb_S1x1024_S1x1024_0_0).toLoadRect (harg14.unread x13)
  b := View.readAt (Elt F) arg15.view (Rect.unit (s := S1x1024) ![0, 0] S1x1024.size inb_S1x1024_S1x1024_0_0).toLoadRect (harg15.unread x14)

/-- The body's stores of values are the listed ones. -/
theorem o_eq (c : Dev nD) : kernelRun0_A.sl.HS0_84 (F := F) c arg4 harg4 arg5 harg5 arg6 harg6 x3 x4 x5 = oPieces arg4 harg4 arg5 harg5 arg6 harg6 x3 x4 x5 := by
  sl_kernel_rfl

/-- The body's stores of scores are the listed ones. -/
theorem l_eq (c : Dev nD) : kernelRun0_A.sl.HS1_21 (F := F) c arg7 harg7 arg8 harg8 arg9 harg9 x6 x7 x8 = lPieces arg7 harg7 arg8 harg8 arg9 harg9 x6 x7 x8 := by
  sl_kernel_rfl

/-- The one store to the first output block is the normalized rows of the loads. -/
theorem pieces18 (c : Dev nD) (i : grid0.Coords) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17).1
    = [⟨Rect.unit (s := S512x1024) ![0, 0] S512x1024.size inb_S512x1024_S512x1024_0_0, rows (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg25 arg26 x0 x1 x2 x3 x4 x5 x6 x7 x8 x9 x10 x11 x12 x13 x14)⟩] := by
  sl_kernel_rfl

/-- The one store to the second output block is those rows, rounded. -/
theorem pieces19 (c : Dev nD) (i : grid0.Coords) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17).2.1
    = [⟨Rect.unit (s := S512x1024) ![0, 0] S512x1024.size inb_S512x1024_S512x1024_0_0, rowsb (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg25 arg26 x0 x1 x2 x3 x4 x5 x6 x7 x8 x9 x10 x11 x12 x13 x14)⟩] := by
  sl_kernel_rfl
end

end Cert.Kernel3Ideal.Merge

end

end
-- ==== Proof.MergeScratch.lean ====
module

public import proofs.«01_k».proof.Proof.MergeChain
public import Idealize.ShloMosaic.Lib.Pipeline.ValueKit.Tiles

@[expose] public section

set_option maxRecDepth 16384

noncomputable section

namespace Cert.Kernel3Ideal.Merge

open Idealize.ShloMosaic Idealize.ShloMosaic.TcCoe Cert.Kernel3Ideal Cert.Kernel3Ideal.Gen Cert.Merge

/-- A stream's value at a row of the block, head and channel: the rows of the second stream lie 4 to a row, those of the third 16. -/
def oAt (x3 : Vec Ideal S512x512 .bf16) (x4 : Vec Ideal S128x2048 .bf16) (x5 : Vec Ideal S32x8192 .bf16) (g : Fin 3) (h : Fin 4) (r : Fin 512) (e : Fin 128) : EReal :=
  match g with
  | 0 => x3 (ix2 r ⟨128 * h.val + e.val, by omega⟩)
  | 1 => x4 (ix2 ⟨r.val / 4, by omega⟩ ⟨r.val % 4 * 512 + (128 * h.val + e.val), by omega⟩)
  | 2 => x5 (ix2 ⟨r.val / 16, by omega⟩ ⟨r.val % 16 * 512 + (128 * h.val + e.val), by omega⟩)

/-- A stream's score at a row of the block and column. -/
def lAt (x6 : Vec Ideal S512x128 .f32) (x7 : Vec Ideal S128x512 .f32) (x8 : Vec Ideal S32x2048 .f32) (g : Fin 3) (r : Fin 512) (n : Fin 128) : EReal :=
  match g with
  | 0 => x6 (ix2 r n)
  | 1 => x7 (ix2 ⟨r.val / 4, by omega⟩ ⟨r.val % 4 * 128 + n.val, by omega⟩)
  | 2 => x8 (ix2 ⟨r.val / 16, by omega⟩ ⟨r.val % 16 * 128 + n.val, by omega⟩)

/-- The value scratch at an index. -/
def oScr (x3 : Vec Ideal S512x512 .bf16) (x4 : Vec Ideal S128x2048 .bf16) (x5 : Vec Ideal S32x8192 .bf16) (y : S3x4x512x128.Idx) : EReal :=
  oAt x3 x4 x5 (y 0) (y 1) (y 2) (y 3)
/-- The score scratch at an index. -/
def lScr (x6 : Vec Ideal S512x128 .f32) (x7 : Vec Ideal S128x512 .f32) (x8 : Vec Ideal S32x2048 .f32) (y : S3x512x128.Idx) : EReal :=
  lAt x6 x7 x8 (y 0) (y 1) (y 2)

theorem oScr_at (x3 : Vec Ideal S512x512 .bf16) (x4 : Vec Ideal S128x2048 .bf16) (x5 : Vec Ideal S32x8192 .bf16) (y : S3x4x512x128.Idx)
    (g : Fin 3) (h : Fin 4) (r : Fin 512) (e : Fin 128) (h0 : (y 0).val = g.val) (h1 : (y 1).val = h.val) (h2 : (y 2).val = r.val) (h3 : (y 3).val = e.val) :
    oScr x3 x4 x5 y = oAt x3 x4 x5 g h r e := by
  obtain rfl : y = ix4 g h r e := by
    funext a
    match a with
    | ⟨0, _⟩ => exact Fin.ext h0
    | ⟨1, _⟩ => exact Fin.ext h1
    | ⟨2, _⟩ => exact Fin.ext h2
    | ⟨3, _⟩ => exact Fin.ext h3
  rfl

theorem lScr_at (x6 : Vec Ideal S512x128 .f32) (x7 : Vec Ideal S128x512 .f32) (x8 : Vec Ideal S32x2048 .f32) (y : S3x512x128.Idx)
    (g : Fin 3) (r : Fin 512) (n : Fin 128) (h0 : (y 0).val = g.val) (h1 : (y 1).val = r.val) (h2 : (y 2).val = n.val) :
    lScr x6 x7 x8 y = lAt x6 x7 x8 g r n := by
  obtain rfl : y = ix3 g r n := by
    funext a
    match a with
    | ⟨0, _⟩ => exact Fin.ext h0
    | ⟨1, _⟩ => exact Fin.ext h1
    | ⟨2, _⟩ => exact Fin.ext h2
  rfl

theorem pay3_apply (v : Vec Ideal S512x128 .bf16) (a b : Fin 1) (r : Fin 512) (e : Fin 128) : k0_pay3 v (ix4 a b r e) = v (ix2 r e) := by
  obtain rfl : a = 0 := Subsingleton.elim _ _
  obtain rfl : b = 0 := Subsingleton.elim _ _
  pointwise [k0_pay3]
theorem pay8_apply (v : Vec Ideal S128x128 .bf16) (a b : Fin 1) (r : Fin 128) (e : Fin 128) : k0_pay8 v (ix4 a b r e) = v (ix2 r e) := by
  obtain rfl : a = 0 := Subsingleton.elim _ _
  obtain rfl : b = 0 := Subsingleton.elim _ _
  pointwise [k0_pay8]
theorem pay36_apply (v : Vec Ideal S32x128 .bf16) (a b : Fin 1) (r : Fin 32) (e : Fin 128) : k0_pay36 v (ix4 a b r e) = v (ix2 r e) := by
  obtain rfl : a = 0 := Subsingleton.elim _ _
  obtain rfl : b = 0 := Subsingleton.elim _ _
  pointwise [k0_pay36]
theorem pay7_apply (v : Vec Ideal S512x128 .f32) (a : Fin 1) (r : Fin 512) (e : Fin 128) : k0_pay7 v (ix3 a r e) = v (ix2 r e) := by
  obtain rfl : a = 0 := Subsingleton.elim _ _
  pointwise [k0_pay7]
theorem pay12_apply (v : Vec Ideal S128x128 .f32) (a : Fin 1) (r : Fin 128) (e : Fin 128) : k0_pay12 v (ix3 a r e) = v (ix2 r e) := by
  obtain rfl : a = 0 := Subsingleton.elim _ _
  pointwise [k0_pay12]
theorem pay40_apply (v : Vec Ideal S32x128 .f32) (a : Fin 1) (r : Fin 32) (e : Fin 128) : k0_pay40 v (ix3 a r e) = v (ix2 r e) := by
  obtain rfl : a = 0 := Subsingleton.elim _ _
  pointwise [k0_pay40]

/-- A unit-stride load of a whole block's columns, at an index. -/
theorem cols_apply {R C K N : ℕ} {e : EltTy} (A : Memref sig .tc .vmem ⟨2, ![R, C]⟩ e) (hA : A.IsWhole) (x : Vec Ideal ⟨2, ![R, C]⟩ e) (o : ℕ)
    (inb : ∀ a, (![0, o] : Fin 2 → ℕ) a + (⟨2, ![K, N]⟩ : Shape).size a ≤ (⟨2, ![R, C]⟩ : Shape).size a) (r : Fin K) (n : Fin N) (r' : Fin R) (n' : Fin C)
    (hr : r'.val = r.val) (hn : n'.val = o + n.val) :
    View.readAt (Elt Ideal) A.view (Rect.unit (s := ⟨2, ![R, C]⟩) ![0, o] (⟨2, ![K, N]⟩ : Shape).size inb).toLoadRect (hA.unread x) (ix2 r n) = x (ix2 r' n') := by
  rw [View.readAt_eq_ld, hA.read_unread]
  refine congrArg x (funext fun a => Fin.ext ?_)
  match a with
  | ⟨0, _⟩ => show 0 + 1 * r.val = r'.val; omega
  | ⟨1, _⟩ => show o + 1 * n.val = n'.val; omega

section
variable (arg4 : Memref sig .tc .vmem S512x512 .bf16) (harg4 : arg4.IsWhole) (arg5 : Memref sig .tc .vmem S128x2048 .bf16) (harg5 : arg5.IsWhole)
  (arg6 : Memref sig .tc .vmem S32x8192 .bf16) (harg6 : arg6.IsWhole)
  (X3 : Vec Ideal S512x512 .bf16) (X4 : Vec Ideal S128x2048 .bf16) (X5 : Vec Ideal S32x8192 .bf16)

/-- The stores of values leave the streams' values. -/
theorem canon_o (y : S3x4x512x128.Idx) : View.canon (oPieces (F := Ideal) arg4 harg4 arg5 harg5 arg6 harg6 X3 X4 X5) y = oScr X3 X4 X5 y := by
  refine View.canon_apply_of_pieces (Val := Elt Ideal) (e := .f32) (oScr X3 X4 X5) _ ?_ y ?_
  · intro p hp x
    unfold oPieces at hp
    rcases List.mem_append.1 hp with hp | hp
    · unfold oPieces2 at hp
      obtain ⟨n, rfl⟩ := (List.mem_ofFn' _ _).1 hp
      change S1x1x32x128.Idx at x
      idx_vars x
      refine (pay36_apply _ _ _ _ _).trans ?_
      refine Eq.trans ?_ (oScr_at X3 X4 X5 _ 2 (hAt n) ⟨(rAt16 n).val + 16 * x2.val, by omega⟩ x3 ?_ ?_ ?_ ?_).symm
      · exact cols_apply _ _ _ _ _ _ _ _ _ (by show ((rAt16 n).val + 16 * x2.val) / 16 = x2.val; omega)
          (by show ((rAt16 n).val + 16 * x2.val) % 16 * 512 + (128 * (hAt n).val + x3.val) = 512 * (rAt16 n).val + 128 * (hAt n).val + x3.val; omega)
      · show 2 + 1 * x0.val = 2; omega
      · show (hAt n).val + 1 * x1.val = (hAt n).val; omega
      · rfl
      · show 0 + 1 * x3.val = x3.val; omega
    rcases List.mem_append.1 hp with hp | hp
    · unfold oPieces1 at hp
      obtain ⟨n, rfl⟩ := (List.mem_ofFn' _ _).1 hp
      change S1x1x128x128.Idx at x
      idx_vars x
      refine (pay8_apply _ _ _ _ _).trans ?_
      refine Eq.trans ?_ (oScr_at X3 X4 X5 _ 1 (hAt n) ⟨(rAt4 n).val + 4 * x2.val, by omega⟩ x3 ?_ ?_ ?_ ?_).symm
      · exact cols_apply _ _ _ _ _ _ _ _ _ (by show ((rAt4 n).val + 4 * x2.val) / 4 = x2.val; omega)
          (by show ((rAt4 n).val + 4 * x2.val) % 4 * 512 + (128 * (hAt n).val + x3.val) = 512 * (rAt4 n).val + 128 * (hAt n).val + x3.val; omega)
      · show 1 + 1 * x0.val = 1; omega
      · show (hAt n).val + 1 * x1.val = (hAt n).val; omega
      · rfl
      · show 0 + 1 * x3.val = x3.val; omega
    · unfold oPieces0 at hp
      obtain ⟨n, rfl⟩ := (List.mem_ofFn' _ _).1 hp
      change S1x1x512x128.Idx at x
      idx_vars x
      refine (pay3_apply _ _ _ _ _).trans ?_
      refine Eq.trans ?_ (oScr_at X3 X4 X5 _ 0 (hAt n) x2 x3 ?_ ?_ ?_ ?_).symm
      · exact cols_apply _ _ _ _ _ _ _ _ _ rfl rfl
      · show 0 + 1 * x0.val = 0; omega
      · show (hAt n).val + 1 * x1.val = (hAt n).val; omega
      · show 0 + 1 * x2.val = x2.val; omega
      · show 0 + 1 * x3.val = x3.val; omega
  · have h0 : (y 0).val < 3 := (y 0).isLt
    have h1 : (y 1).val < 4 := (y 1).isLt
    have h2 : (y 2).val < 512 := (y 2).isLt
    have h3 : (y 3).val < 128 := (y 3).isLt
    unfold oPieces
    by_cases g2 : (y 0).val = 2
    · refine ⟨_, List.mem_append_left _ ((List.mem_ofFn' _ _).2 ⟨⟨4 * (15 - (y 2).val % 16) + (3 - (y 1).val), by omega⟩, rfl⟩), ?_⟩
      refine (LoadRect.mem_set _).2 fun a => ?_
      match a with
      | ⟨0, _⟩ => exact ⟨0, (by decide : (0:ℕ) < 1), (by show (y 0).val = 2 + 1 * 0; omega)⟩
      | ⟨1, _⟩ => exact ⟨0, (by decide : (0:ℕ) < 1), (by show (y 1).val = 3 - (4 * (15 - (y 2).val % 16) + (3 - (y 1).val)) % 4 + 1 * 0; omega)⟩
      | ⟨2, _⟩ => exact ⟨(y 2).val / 16, (by show (y 2).val / 16 < 32; omega), (by show (y 2).val = 15 - (4 * (15 - (y 2).val % 16) + (3 - (y 1).val)) / 4 + 16 * ((y 2).val / 16); omega)⟩
      | ⟨3, _⟩ => exact ⟨(y 3).val, h3, (by show (y 3).val = 0 + 1 * (y 3).val; omega)⟩
    by_cases g1 : (y 0).val = 1
    · refine ⟨_, List.mem_append_right _ (List.mem_append_left _ ((List.mem_ofFn' _ _).2 ⟨⟨4 * (3 - (y 2).val % 4) + (3 - (y 1).val), by omega⟩, rfl⟩)), ?_⟩
      refine (LoadRect.mem_set _).2 fun a => ?_
      match a with
      | ⟨0, _⟩ => exact ⟨0, (by decide : (0:ℕ) < 1), (by show (y 0).val = 1 + 1 * 0; omega)⟩
      | ⟨1, _⟩ => exact ⟨0, (by decide : (0:ℕ) < 1), (by show (y 1).val = 3 - (4 * (3 - (y 2).val % 4) + (3 - (y 1).val)) % 4 + 1 * 0; omega)⟩
      | ⟨2, _⟩ => exact ⟨(y 2).val / 4, (by show (y 2).val / 4 < 128; omega), (by show (y 2).val = 3 - (4 * (3 - (y 2).val % 4) + (3 - (y 1).val)) / 4 + 4 * ((y 2).val / 4); omega)⟩
      | ⟨3, _⟩ => exact ⟨(y 3).val, h3, (by show (y 3).val = 0 + 1 * (y 3).val; omega)⟩
    · refine ⟨_, List.mem_append_right _ (List.mem_append_right _ ((List.mem_ofFn' _ _).2 ⟨⟨3 - (y 1).val, by omega⟩, rfl⟩)), ?_⟩
      refine (LoadRect.mem_set _).2 fun a => ?_
      match a with
      | ⟨0, _⟩ => exact ⟨0, (by decide : (0:ℕ) < 1), (by show (y 0).val = 0 + 1 * 0; omega)⟩
      | ⟨1, _⟩ => exact ⟨0, (by decide : (0:ℕ) < 1), (by show (y 1).val = 3 - (3 - (y 1).val) % 4 + 1 * 0; omega)⟩
      | ⟨2, _⟩ => exact ⟨(y 2).val, h2, (by show (y 2).val = 0 + 1 * (y 2).val; omega)⟩
      | ⟨3, _⟩ => exact ⟨(y 3).val, h3, (by show (y 3).val = 0 + 1 * (y 3).val; omega)⟩

/-- A load of the value scratch at an index. -/
theorem readCov_o (arg25 : Memref sig .tc .vmem S3x4x512x128 .f32) (g : Fin 3) (h : Fin 4) (r : Fin 512) (e : Fin 128) :
    arg25.view.readCov (oPieces (F := Ideal) arg4 harg4 arg5 harg5 arg6 harg6 X3 X4 X5) (Rect.unit (s := S3x4x512x128) ![g.val, h.val, 0, 0] S1x1x512x128.size (inb_og g h)).toLoadRect (ix4 0 0 r e)
      = oAt X3 X4 X5 g h r e := by
  rw [View.readCov_eq_canon']
  refine (canon_o arg4 harg4 arg5 harg5 arg6 harg6 X3 X4 X5 _).trans (oScr_at X3 X4 X5 _ g h r e ?_ ?_ ?_ ?_)
  · exact (Rect.idx_unit_val _ _ _ _ 0).trans (Nat.add_zero _)
  · exact (Rect.idx_unit_val _ _ _ _ 1).trans (Nat.add_zero _)
  · exact (Rect.idx_unit_val _ _ _ _ 2).trans (Nat.zero_add _)
  · exact (Rect.idx_unit_val _ _ _ _ 3).trans (Nat.zero_add _)
end

section
variable (arg7 : Memref sig .tc .vmem S512x128 .f32) (harg7 : arg7.IsWhole) (arg8 : Memref sig .tc .vmem S128x512 .f32) (harg8 : arg8.IsWhole)
  (arg9 : Memref sig .tc .vmem S32x2048 .f32) (harg9 : arg9.IsWhole)
  (x6 : Vec Ideal S512x128 .f32) (x7 : Vec Ideal S128x512 .f32) (x8 : Vec Ideal S32x2048 .f32)

/-- The stores of scores leave the streams' scores. -/
theorem canon_l (y : S3x512x128.Idx) : View.canon (lPieces (F := Ideal) arg7 harg7 arg8 harg8 arg9 harg9 x6 x7 x8) y = lScr x6 x7 x8 y := by
  refine View.canon_apply_of_pieces (Val := Elt Ideal) (e := .f32) (lScr x6 x7 x8) _ ?_ y ?_
  · intro p hp x
    unfold lPieces at hp
    rcases List.mem_append.1 hp with hp | hp
    · unfold lPieces2 at hp
      obtain ⟨n, rfl⟩ := (List.mem_ofFn' _ _).1 hp
      change S1x32x128.Idx at x
      idx_vars x
      refine (pay40_apply _ _ _ _).trans ?_
      refine Eq.trans ?_ (lScr_at x6 x7 x8 _ 2 ⟨n.rev.val + 16 * x1.val, by omega⟩ x2 ?_ ?_ ?_).symm
      · exact cols_apply _ _ _ _ _ _ _ _ _ (by show (n.rev.val + 16 * x1.val) / 16 = x1.val; omega)
          (by show (n.rev.val + 16 * x1.val) % 16 * 128 + x2.val = 128 * n.rev.val + x2.val; omega)
      · show 2 + 1 * x0.val = 2; omega
      · rfl
      · show 0 + 1 * x2.val = x2.val; omega
    rcases List.mem_append.1 hp with hp | hp
    · unfold lPieces1 at hp
      obtain ⟨n, rfl⟩ := (List.mem_ofFn' _ _).1 hp
      change S1x128x128.Idx at x
      idx_vars x
      refine (pay12_apply _ _ _ _).trans ?_
      refine Eq.trans ?_ (lScr_at x6 x7 x8 _ 1 ⟨n.rev.val + 4 * x1.val, by omega⟩ x2 ?_ ?_ ?_).symm
      · exact cols_apply _ _ _ _ _ _ _ _ _ (by show (n.rev.val + 4 * x1.val) / 4 = x1.val; omega)
          (by show (n.rev.val + 4 * x1.val) % 4 * 128 + x2.val = 128 * n.rev.val + x2.val; omega)
      · show 1 + 1 * x0.val = 1; omega
      · rfl
      · show 0 + 1 * x2.val = x2.val; omega
    · obtain rfl := List.mem_singleton.1 hp
      change S1x512x128.Idx at x
      idx_vars x
      refine (pay7_apply _ _ _ _).trans ?_
      refine Eq.trans ?_ (lScr_at x6 x7 x8 _ 0 x1 x2 ?_ ?_ ?_).symm
      · exact cols_apply _ _ _ _ _ _ _ _ _ rfl (Nat.zero_add _).symm
      · show 0 + 1 * x0.val = 0; omega
      · show 0 + 1 * x1.val = x1.val; omega
      · show 0 + 1 * x2.val = x2.val; omega
  · have h0 : (y 0).val < 3 := (y 0).isLt
    have h1 : (y 1).val < 512 := (y 1).isLt
    have h2 : (y 2).val < 128 := (y 2).isLt
    unfold lPieces
    by_cases g2 : (y 0).val = 2
    · refine ⟨_, List.mem_append_left _ ((List.mem_ofFn' _ _).2 ⟨⟨15 - (y 1).val % 16, by omega⟩, rfl⟩), ?_⟩
      refine (LoadRect.mem_set _).2 fun a => ?_
      match a with
      | ⟨0, _⟩ => exact ⟨0, (by decide : (0:ℕ) < 1), (by show (y 0).val = 2 + 1 * 0; omega)⟩
      | ⟨1, _⟩ => exact ⟨(y 1).val / 16, (by show (y 1).val / 16 < 32; omega), (by show (y 1).val = 16 - (15 - (y 1).val % 16 + 1) + 16 * ((y 1).val / 16); omega)⟩
      | ⟨2, _⟩ => exact ⟨(y 2).val, h2, (by show (y 2).val = 0 + 1 * (y 2).val; omega)⟩
    by_cases g1 : (y 0).val = 1
    · refine ⟨_, List.mem_append_right _ (List.mem_append_left _ ((List.mem_ofFn' _ _).2 ⟨⟨3 - (y 1).val % 4, by omega⟩, rfl⟩)), ?_⟩
      refine (LoadRect.mem_set _).2 fun a => ?_
      match a with
      | ⟨0, _⟩ => exact ⟨0, (by decide : (0:ℕ) < 1), (by show (y 0).val = 1 + 1 * 0; omega)⟩
      | ⟨1, _⟩ => exact ⟨(y 1).val / 4, (by show (y 1).val / 4 < 128; omega), (by show (y 1).val = 4 - (3 - (y 1).val % 4 + 1) + 4 * ((y 1).val / 4); omega)⟩
      | ⟨2, _⟩ => exact ⟨(y 2).val, h2, (by show (y 2).val = 0 + 1 * (y 2).val; omega)⟩
    · refine ⟨_, List.mem_append_right _ (List.mem_append_right _ (List.mem_singleton.2 rfl)), ?_⟩
      refine (LoadRect.mem_set _).2 fun a => ?_
      match a with
      | ⟨0, _⟩ => exact ⟨0, (by decide : (0:ℕ) < 1), (by show (y 0).val = 0 + 1 * 0; omega)⟩
      | ⟨1, _⟩ => exact ⟨(y 1).val, h1, (by show (y 1).val = 0 + 1 * (y 1).val; omega)⟩
      | ⟨2, _⟩ => exact ⟨(y 2).val, h2, (by show (y 2).val = 0 + 1 * (y 2).val; omega)⟩

/-- A load of the score scratch at an index. -/
theorem readCov_l (arg26 : Memref sig .tc .vmem S3x512x128 .f32) (g : Fin 3) (r : Fin 512) (n : Fin 128) :
    arg26.view.readCov (lPieces (F := Ideal) arg7 harg7 arg8 harg8 arg9 harg9 x6 x7 x8) (Rect.unit (s := S3x512x128) ![g.val, 0, 0] S1x512x128.size (inb_lg g)).toLoadRect (ix3 0 r n)
      = lAt x6 x7 x8 g r n := by
  rw [View.readCov_eq_canon']
  refine (canon_l arg7 harg7 arg8 harg8 arg9 harg9 x6 x7 x8 _).trans (lScr_at x6 x7 x8 _ g r n ?_ ?_ ?_)
  · exact (Rect.idx_unit_val _ _ _ _ 0).trans (Nat.add_zero _)
  · exact (Rect.idx_unit_val _ _ _ _ 1).trans (Nat.zero_add _)
  · exact (Rect.idx_unit_val _ _ _ _ 2).trans (Nat.zero_add _)
end

end Cert.Kernel3Ideal.Merge

end

end
-- ==== Proof.MergePoint.lean ====
module

public import proofs.«01_k».proof.Proof.MergeScratch
public import proofs.«01_k».proof.Proof.MergeMath
public import proofs.«01_k».proof.Proof.Gen.Kernel3Ideal.Frame

@[expose] public section

set_option maxRecDepth 16384

noncomputable section

namespace Cert.Kernel3Ideal.Merge

open Idealize.ShloMosaic Idealize.ShloMosaic.TcCoe Cert.Kernel3Ideal Cert.Kernel3Ideal.Gen Cert.Merge

/-- A block's loads hold the data's rows `i r`. -/
structure Agrees (L : Loads Ideal) (D : Data) (i : Fin 512 → Fin 32768) : Prop where
  x : ∀ r d, L.x (ix2 r d) = D.x (i r) d
  xb : ∀ r d, L.xb (ix2 r d) = D.x (i r) d
  y0 : ∀ r k, L.y0 (ix2 r k) = D.y0 (i r) k
  y1 : ∀ r k, L.y1 (ix2 r k) = D.y1 (i r) k
  o : ∀ r k g, val L r k g = D.o g (i r) k
  l : ∀ r n g, lse L r n g = D.l g (i r) n
  wg : ∀ n d j, L.wg n (ix2 d j) = D.wg n d j
  wb : ∀ n k j, L.wb n (ix3 0 k j) = D.wb n k j
  wo : ∀ k j, L.wo (ix2 k j) = D.wo k j
  g : ∀ j, L.g (ix2 0 j) = D.g j
  b : ∀ j, L.b (ix2 0 j) = D.b j

/-- The block's rows are the data's merged and normalized rows. -/
theorem rows_eq {L : Loads Ideal} {D : Data} {i : Fin 512 → Fin 32768} (H : Agrees L D i) (r : Fin 512) (j : Fin 1024) :
    rows L (ix2 r j) = D.out blend (i r) j := by
  have hy : (fun (n : Fin 3) (k : Fin 512) => (match n with | 0 => L.y0 (ix2 r k) | 1 => L.y1 (ix2 r k) | 2 => blend (val L r k) (lse L r (head k)) : EReal)) = D.y blend (i r) := by
    funext n k
    match n with
    | 0 => exact H.y0 r k
    | 1 => exact H.y1 r k
    | 2 =>
      show blend (val L r k) (lse L r (head k)) = blend (fun g => D.o g (i r) k) (fun g => D.l g (i r) (head k))
      rw [show val L r k = fun g => D.o g (i r) k from funext (H.o r k), show lse L r (head k) = fun g => D.l g (i r) (head k) from funext (H.l r (head k))]
  have hr : res L r = resid (D.x (i r)) (mixed (D.x (i r)) D.wg (D.y blend (i r)) D.wb) D.wo := by
    have e1 : (fun d => (L.x (ix2 r d) : EReal)) = D.x (i r) := funext (H.x r)
    have e2 : (fun d => (L.xb (ix2 r d) : EReal)) = D.x (i r) := funext (H.xb r)
    have e3 : (fun n d j => (L.wg n (ix2 d j) : EReal)) = D.wg := funext fun n => funext fun d => funext fun j => H.wg n d j
    have e4 : (fun n k j => (L.wb n (ix3 0 k j) : EReal)) = D.wb := funext fun n => funext fun d => funext fun j => H.wb n d j
    have e5 : (fun k j => (L.wo (ix2 k j) : EReal)) = D.wo := funext fun k => funext fun j => H.wo k j
    rw [← hy, ← e5, ← e4, ← e3]
    refine Eq.trans ?_ (congrArg₂ (fun a b => resid a (mixed b (fun n d j => (L.wg n (ix2 d j) : EReal)) (fun (n : Fin 3) (k : Fin 512) => (match n with | 0 => L.y0 (ix2 r k) | 1 => L.y1 (ix2 r k) | 2 => blend (val L r k) (lse L r (head k)) : EReal)) (fun n k j => (L.wb n (ix3 0 k j) : EReal))) (fun k j => (L.wo (ix2 k j) : EReal))) e1 e2)
    rfl
  rw [rows_apply, hr]
  unfold Data.out
  rw [show (fun j => (L.g (ix2 0 j) : EReal)) = D.g from funext H.g, show (fun j => (L.b (ix2 0 j) : EReal)) = D.b from funext H.b]

/-- An output block holds the data's rows. -/
def blk (D : Data) (i : Fin 512 → Fin 32768) (y : S512x1024.Idx) : EReal := D.out blend (i (y 0)) (y 1)

theorem blk_at (D : Data) (i : Fin 512 → Fin 32768) (y : S512x1024.Idx) (r : Fin 512) (j : Fin 1024) (h0 : (y 0).val = r.val) (h1 : (y 1).val = j.val) :
    blk D i y = D.out blend (i r) j := by
  obtain rfl : y = ix2 r j := by
    funext a
    match a with
    | ⟨0, _⟩ => exact Fin.ext h0
    | ⟨1, _⟩ => exact Fin.ext h1
  rfl

section
variable (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x2048 .bf16) (harg5 : arg5.IsWhole) (arg6 : Memref sig .tc .vmem S32x8192 .bf16) (harg6 : arg6.IsWhole) (arg7 : Memref sig .tc .vmem S512x128 .f32) (harg7 : arg7.IsWhole) (arg8 : Memref sig .tc .vmem S128x512 .f32) (harg8 : arg8.IsWhole) (arg9 : Memref sig .tc .vmem S32x2048 .f32) (harg9 : arg9.IsWhole) (arg10 : Memref sig .tc .vmem S512x1024 .bf16) (harg10 : arg10.IsWhole) (arg11 : Memref sig .tc .vmem S1024x3072 .bf16) (harg11 : arg11.IsWhole) (arg12 : Memref sig .tc .vmem S3x512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1x128 .f32) (harg18 : arg18.IsWhole) (arg19 : Memref sig .tc .vmem S512x1024 .f32) (harg19 : arg19.IsWhole) (arg20 : Memref sig .tc .vmem S512x1024 .bf16) (harg20 : arg20.IsWhole) (arg21 : Memref sig .tc .vmem S512x128 .i32) (harg21 : arg21.IsWhole) (arg22 : Memref sig .tc .vmem S8x512 .f32) (harg22 : arg22.IsWhole) (arg23 : Memref sig .tc .vmem S512x128 .f32) (harg23 : arg23.IsWhole) (arg24 : Memref sig .tc .vmem S2x8x128 .i32) (harg24 : arg24.IsWhole) (arg25 : Memref sig .tc .vmem S3x4x512x128 .f32) (harg25 : arg25.IsWhole) (arg26 : Memref sig .tc .vmem S3x512x128 .f32) (harg26 : arg26.IsWhole) (x0 : Vec Ideal S512x1024 .f32) (x1 : Vec Ideal S512x512 .bf16) (x2 : Vec Ideal S512x512 .bf16) (x3 : Vec Ideal S512x512 .bf16) (x4 : Vec Ideal S128x2048 .bf16) (x5 : Vec Ideal S32x8192 .bf16) (x6 : Vec Ideal S512x128 .f32) (x7 : Vec Ideal S128x512 .f32) (x8 : Vec Ideal S32x2048 .f32) (x9 : Vec Ideal S512x1024 .bf16) (x10 : Vec Ideal S1024x3072 .bf16) (x11 : Vec Ideal S3x512x1024 .bf16) (x12 : Vec Ideal S1024x1024 .bf16) (x13 : Vec Ideal S1x1024 .f32) (x14 : Vec Ideal S1x1024 .f32) (x15 : Vec Ideal S1024x128 .bf16) (x16 : Vec Ideal S1024x128 .bf16) (x17 : Vec Ideal S1x128 .f32)

set_option maxHeartbeats 4000000 in
/-- A grid point's loads hold the data's rows, its input blocks doing so. -/
theorem agrees_loads (D : Data) (i : Fin 512 → Fin 32768)
    (h0 : ∀ (r : Fin 512) (d : Fin 1024), x0 (ix2 r d) = D.x (i r) d)
    (h1 : ∀ (r k : Fin 512), x1 (ix2 r k) = D.y0 (i r) k)
    (h2 : ∀ (r k : Fin 512), x2 (ix2 r k) = D.y1 (i r) k)
    (ho : ∀ (g : Fin 3) (h : Fin 4) (r : Fin 512) (e : Fin 128), oAt x3 x4 x5 g h r e = D.o g (i r) ⟨128 * h.val + e.val, by omega⟩)
    (hl : ∀ (g : Fin 3) (r : Fin 512) (n : Fin 4), lAt x6 x7 x8 g r ⟨n.val, by omega⟩ = D.l g (i r) n)
    (h9 : ∀ (r : Fin 512) (d : Fin 1024), x9 (ix2 r d) = D.x (i r) d)
    (h10 : ∀ (n : Fin 3) (d j : Fin 1024), x10 (ix2 d ⟨1024 * n.val + j.val, by omega⟩) = D.wg n d j)
    (h11 : ∀ (n : Fin 3) (k : Fin 512) (j : Fin 1024), x11 (ix3 n k j) = D.wb n k j)
    (h12 : ∀ (k j : Fin 1024), x12 (ix2 k j) = D.wo k j)
    (h13 : ∀ (j : Fin 1024), x13 (ix2 0 j) = D.g j)
    (h14 : ∀ (j : Fin 1024), x14 (ix2 0 j) = D.b j) :
    Agrees (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg25 arg26 x0 x1 x2 x3 x4 x5 x6 x7 x8 x9 x10 x11 x12 x13 x14) D i where
  x r d := (cols_apply (R := 512) (C := 1024) (K := 512) (N := 1024) arg1 harg1 x0 0 _ r d r d rfl (Nat.zero_add _).symm).trans (h0 r d)
  xb r d := (cols_apply (R := 512) (C := 1024) (K := 512) (N := 1024) arg10 harg10 x9 0 _ r d r d rfl (Nat.zero_add _).symm).trans (h9 r d)
  y0 r d := (cols_apply (R := 512) (C := 512) (K := 512) (N := 512) arg2 harg2 x1 0 _ r d r d rfl (Nat.zero_add _).symm).trans (h1 r d)
  y1 r d := (cols_apply (R := 512) (C := 512) (K := 512) (N := 512) arg3 harg3 x2 0 _ r d r d rfl (Nat.zero_add _).symm).trans (h2 r d)
  o r k g := by
    refine (readCov_o arg4 harg4 arg5 harg5 arg6 harg6 x3 x4 x5 arg25 g (head k) r ⟨k.val % 128, by omega⟩).trans ((ho g (head k) r ⟨k.val % 128, by omega⟩).trans ?_)
    refine congrArg (D.o g (i r)) (Fin.ext ?_)
    show 128 * (k.val / 128) + k.val % 128 = k.val
    omega
  l r n g := (readCov_l arg7 harg7 arg8 harg8 arg9 harg9 x6 x7 x8 arg26 g r ⟨n.val, by omega⟩).trans (hl g r n)
  wg n d j := (cols_apply (R := 1024) (C := 3072) (K := 1024) (N := 1024) arg11 harg11 x10 (1024 * n.val) _ d j d ⟨1024 * n.val + j.val, by omega⟩ rfl rfl).trans (h10 n d j)
  wb n k j := by
    refine Eq.trans ?_ (h11 n k j)
    show View.readAt (Elt Ideal) arg12.view (Rect.unit (s := S3x512x1024) ![n.val, 0, 0] S1x512x1024.size (inb_wbn n)).toLoadRect (harg12.unread x11) (ix3 0 k j) = x11 (ix3 n k j)
    rw [View.readAt_eq_ld, harg12.read_unread]
    refine congrArg x11 (funext fun a => Fin.ext ?_)
    match a with
    | ⟨0, _⟩ => show n.val + 1 * 0 = n.val; omega
    | ⟨1, _⟩ => show 0 + 1 * k.val = k.val; omega
    | ⟨2, _⟩ => show 0 + 1 * j.val = j.val; omega
  wo k j := (cols_apply (R := 1024) (C := 1024) (K := 1024) (N := 1024) arg13 harg13 x12 0 _ k j k j rfl (Nat.zero_add _).symm).trans (h12 k j)
  g j := (cols_apply (R := 1) (C := 1024) (K := 1) (N := 1024) arg14 harg14 x13 0 _ 0 j 0 j rfl (Nat.zero_add _).symm).trans (h13 j)
  b j := (cols_apply (R := 1) (C := 1024) (K := 1) (N := 1024) arg15 harg15 x14 0 _ 0 j 0 j rfl (Nat.zero_add _).symm).trans (h14 j)

/-- What a point leaves in the first output block. -/
theorem out_18 (c : Dev nD) (p : grid0.Coords) (D : Data) (i : Fin 512 → Fin 32768)
    (H : Agrees (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg25 arg26 x0 x1 x2 x3 x4 x5 x6 x7 x8 x9 x10 x11 x12 x13 x14) D i) (y) : out0_A_18 c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 y = blk D i y := by
  have hc := cover0_A_18 c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17
  unfold out0_A_18
  rw [View.read_writes_eq_canon _ _ _ hc]
  rw [pieces18] at hc ⊢
  refine View.canon_apply_of_pieces (Val := Elt Ideal) (e := .f32) (blk D i) _ ?_ y (hc y)
  intro q hq x
  obtain rfl := List.mem_singleton.1 hq
  change S512x1024.Idx at x
  idx_vars x
  refine (rows_eq H _ _).trans (blk_at D i _ _ _ ?_ ?_).symm
  · exact (Rect.idx_unit_val _ _ _ _ 0).trans (Nat.zero_add _)
  · exact (Rect.idx_unit_val _ _ _ _ 1).trans (Nat.zero_add _)

/-- What a point leaves in the second output block. -/
theorem out_19 (c : Dev nD) (p : grid0.Coords) (D : Data) (i : Fin 512 → Fin 32768)
    (H : Agrees (loads arg1 harg1 arg2 harg2 arg3 harg3 arg4 harg4 arg5 harg5 arg6 harg6 arg7 harg7 arg8 harg8 arg9 harg9 arg10 harg10 arg11 harg11 arg12 harg12 arg13 harg13 arg14 harg14 arg15 harg15 arg25 arg26 x0 x1 x2 x3 x4 x5 x6 x7 x8 x9 x10 x11 x12 x13 x14) D i) (y) : out0_A_19 c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 y = blk D i y := by
  have hc := cover0_A_19 c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17
  unfold out0_A_19
  rw [View.read_writes_eq_canon _ _ _ hc]
  rw [pieces19] at hc ⊢
  refine View.canon_apply_of_pieces (Val := Elt Ideal) (e := .bf16) (blk D i) _ ?_ y (hc y)
  intro q hq x
  obtain rfl := List.mem_singleton.1 hq
  change S512x1024.Idx at x
  idx_vars x
  refine ((rowsb_apply _ _ _).trans ((rows_apply _ _ _).symm.trans (rows_eq H _ _))).trans (blk_at D i _ _ _ ?_ ?_).symm
  · exact (Rect.idx_unit_val _ _ _ _ 0).trans (Nat.zero_add _)
  · exact (Rect.idx_unit_val _ _ _ _ 1).trans (Nat.zero_add _)
end

end Cert.Kernel3Ideal.Merge

end

end
-- ==== Proof.MergePre.lean ====
module

public import proofs.«01_k».proof.Proof.MergeMath
public import proofs.«01_k».proof.Proof.Gen.Pre_lse_finite
public import Idealize.ShloMosaic.Lib.ValueIdx
public import Idealize.ShloMosaic.Lib.WordCmp
public import Idealize.ShloMosaic.Lib.Pointwise

@[expose] public section

set_option maxRecDepth 16384

noncomputable section

namespace Cert.Merge

open Idealize.ShloMosaic Cert.Pre_lse_finite Cert.Pre_lse_finite.Gen

/-- A conjunction over a list that comes out true has a true start and only true members. -/
theorem all_of_foldl {α : Type} (f : α → BitVec 1) : ∀ (l : List α) (b : BitVec 1),
    l.foldl (fun r n => IntOp.andi r (f n)) b = 1#1 → b = 1#1 ∧ ∀ n ∈ l, f n = 1#1
  | [], b, h => ⟨h, fun n hn => by simp at hn⟩
  | a :: l, b, h => by
    obtain ⟨h1, h2⟩ := all_of_foldl f l _ h
    have h3 : ∀ u v : BitVec 1, IntOp.andi u v = 1#1 → u = 1#1 ∧ v = 1#1 := by decide
    obtain ⟨hb, ha⟩ := h3 _ _ h1
    refine ⟨hb, fun n hn => ?_⟩
    rcases List.mem_cons.1 hn with rfl | hn
    · exact ha
    · exact h2 n hn

/-- A conjunction over a whole array that comes out true has only true entries. -/
theorem all_of_reduce {s t u : Shape} {dims : List (Fin s.rank)} (x : IVec s 1) (i : IVec u 1) (h : s.ReducesTo dims t) (hu : 0 < u.numel) (j : t.Idx)
    (hj : ∀ k, h.drop k = j) (e : Host.reduce IntOp.andi x i h hu j = 1#1) (k : s.Idx) : x k = 1#1 := by
  unfold Host.reduce at e
  have := (all_of_foldl _ _ _ e).2 (s.rowMajor k) (List.mem_filter.2 ⟨List.mem_finRange _, by simp [hj]⟩)
  simpa using this

/-- The scores of a row and head, by stream: the rows of the second stream lie 4 to a row, those of the third 16. -/
def lseOf (l0 : FVec Ideal S32768x128 .f32) (l1 : FVec Ideal S8192x512 .f32) (l2 : FVec Ideal S2048x2048 .f32) (g : Fin 3) (i : Fin 32768) (n : Fin 4) : EReal :=
  match g with
  | 0 => l0 (ix2 i ⟨n.val, by omega⟩)
  | 1 => l1 (ix2 ⟨i.val / 4, by omega⟩ ⟨i.val % 4 * 128 + n.val, by omega⟩)
  | 2 => l2 (ix2 ⟨i.val / 16, by omega⟩ ⟨i.val % 16 * 128 + n.val, by omega⟩)

/-- The values of a row and channel, by stream, laid as the scores. -/
def outOf (o0 : FVec Ideal S32768x512 .bf16) (o1 : FVec Ideal S8192x2048 .bf16) (o2 : FVec Ideal S2048x8192 .bf16) (g : Fin 3) (i : Fin 32768) (k : Fin 512) : EReal :=
  match g with
  | 0 => o0 (ix2 i k)
  | 1 => o1 (ix2 ⟨i.val / 4, by omega⟩ ⟨i.val % 4 * 512 + k.val, by omega⟩)
  | 2 => o2 (ix2 ⟨i.val / 16, by omega⟩ ⟨i.val % 16 * 512 + k.val, by omega⟩)

/-- What the layer's blend reads, from its inputs: the gates' weight is the last 3072 columns of the input weight. -/
def dataOf (x : FVec Ideal S32768x1024 .f32) (y0 y1 o0 : FVec Ideal S32768x512 .bf16) (o1 : FVec Ideal S8192x2048 .bf16) (o2 : FVec Ideal S2048x8192 .bf16)
    (l0 : FVec Ideal S32768x128 .f32) (l1 : FVec Ideal S8192x512 .f32) (l2 : FVec Ideal S2048x2048 .f32) (w : FVec Ideal S1024x8712 .f32)
    (wb : FVec Ideal S3x512x1024 .f32) (wo : FVec Ideal S1024x1024 .f32) (g b : FVec Ideal S1024 .f32) : Data where
  x i d := x (ix2 i d)
  y0 i k := y0 (ix2 i k)
  y1 i k := y1 (ix2 i k)
  o := outOf o0 o1 o2
  l := lseOf l0 l1 l2
  wg n d j := w (ix2 d ⟨5640 + (1024 * n.val + j.val), by omega⟩)
  wb n k j := wb (ix3 n k j)
  wo k j := wo (ix2 k j)
  g j := g (ix1 j)
  b j := b (ix1 j)

/-- The greatest of the three scores of every row and head. -/
def topOf (l0 : FVec Ideal S32768x128 .f32) (l1 : FVec Ideal S8192x512 .f32) (l2 : FVec Ideal S2048x2048 .f32) : FVec Ideal S32768x4 .f32 :=
  maximumf (maximumf (extractStridedSlice S32768x4 ![0, 0] l0 slices_S32768x128_S32768x4_0_0)
      (extractStridedSlice S32768x4 ![0, 0] (shapeCast S32768x128 l1 shapeCasts_S8192x512_S32768x128) slices_S32768x128_S32768x4_0_0))
    (extractStridedSlice S32768x4 ![0, 0] (shapeCast S32768x128 l2 shapeCasts_S2048x2048_S32768x128) slices_S32768x128_S32768x4_0_0)

theorem topOf_apply (l0 : FVec Ideal S32768x128 .f32) (l1 : FVec Ideal S8192x512 .f32) (l2 : FVec Ideal S2048x2048 .f32) (i : Fin 32768) (n : Fin 4) :
    topOf l0 l1 l2 (ix2 i n) = top (fun g => lseOf l0 l1 l2 g i n) := by
  unfold topOf top lseOf
  pointwise

theorem one_iff (p : Bool) : BitVec.ofBool p = 1#1 ↔ p = true := by cases p <;> decide

/-- The precondition read: the greatest of the three scores is finite at every row and head. -/
theorem finite (a0 : FVec Ideal S32768x1024 .f32) (a1 a2 a3 : FVec Ideal S32768x512 .bf16) (a4 : FVec Ideal S8192x2048 .bf16) (a5 : FVec Ideal S2048x8192 .bf16)
    (a6 : FVec Ideal S32768x128 .f32) (a7 : FVec Ideal S8192x512 .f32) (a8 : FVec Ideal S2048x2048 .f32) (a9 : FVec Ideal S1024x8712 .f32)
    (a10 : FVec Ideal S3x512x1024 .f32) (a11 : FVec Ideal S1024x1024 .f32) (a12 a13 : FVec Ideal S1024 .f32) (a14 : FVec Ideal S1024x32 .f32) (a15 : FVec Ideal S32 .f32)
    (h : fn a0 a1 a2 a3 a4 a5 a6 a7 a8 a9 a10 a11 a12 a13 a14 a15 = fun _ => 1#1) (i : Fin 32768) (n : Fin 4) :
    ⊥ < top (fun g => lseOf a6 a7 a8 g i n) ∧ top (fun g => lseOf a6 a7 a8 g i n) < ⊤ := by
  have e := all_of_reduce _ _ _ _ (fun a => a.elim0) (fun k => funext fun a => a.elim0) (congrFun h (fun a => a.elim0)) (ix2 i n)
  have h3 : ∀ u v : BitVec 1, IntOp.andi u v = 1#1 → u = 1#1 ∧ v = 1#1 := by decide
  obtain ⟨e1, e2⟩ := h3 _ _ e
  have hb : Ideal.ofBits .f32 0xFF800000#32 = ⊥ := by simp [Ideal.ofBits, Ideal.ieee]
  have ht : Ideal.ofBits .f32 0x7F800000#32 = ⊤ := by simp [Ideal.ofBits, Ideal.ieee]
  have hv := topOf_apply a6 a7 a8 i n
  constructor
  · rw [← hv, ← hb]
    have e' : BitVec.ofBool (decide (Ideal.ofBits .f32 0xFF800000#32 < topOf a6 a7 a8 (ix2 i n))) = 1#1 := e1
    rwa [one_iff, decide_eq_true_eq] at e'
  · rw [← hv, ← ht]
    have e' : BitVec.ofBool (decide (topOf a6 a7 a8 (ix2 i n) < Ideal.ofBits .f32 0x7F800000#32)) = 1#1 := e2
    rwa [one_iff, decide_eq_true_eq] at e'

end Cert.Merge

end

end
-- ==== Proof.MergeKValue.lean ====
module

public import proofs.«01_k».proof.Proof.MergePoint
public import proofs.«01_k».proof.Proof.MergePre
public import proofs.«01_k».proof.Proof.Gen.Kernel3Ideal.Value
public import Idealize.ShloMosaic.Lib.StableHlo.ReadAt

@[expose] public section

set_option maxRecDepth 16384

noncomputable section

namespace Cert.Kernel3Ideal.Merge

open Idealize.ShloMosaic Idealize.ShloMosaic.TcCoe Cert.Kernel3Ideal Cert.Kernel3Ideal.Gen Cert.Merge

variable (m : (ℓ : Loc nD τ sig) → Buf (Elt Ideal) ℓ) (c : Dev nD)

/-- Input 0, as launched. -/
abbrev in0 : FVec Ideal S32768x1024 .f32 := m ((c : Thread nD τ).loc main_arg0)
/-- Input 1, as launched. -/
abbrev in1 : FVec Ideal S32768x512 .bf16 := m ((c : Thread nD τ).loc main_arg1)
/-- Input 2, as launched. -/
abbrev in2 : FVec Ideal S32768x512 .bf16 := m ((c : Thread nD τ).loc main_arg2)
/-- Input 3, as launched. -/
abbrev in3 : FVec Ideal S32768x512 .bf16 := m ((c : Thread nD τ).loc main_arg3)
/-- Input 4, as launched. -/
abbrev in4 : FVec Ideal S8192x2048 .bf16 := m ((c : Thread nD τ).loc main_arg4)
/-- Input 5, as launched. -/
abbrev in5 : FVec Ideal S2048x8192 .bf16 := m ((c : Thread nD τ).loc main_arg5)
/-- Input 6, as launched. -/
abbrev in6 : FVec Ideal S32768x128 .f32 := m ((c : Thread nD τ).loc main_arg6)
/-- Input 7, as launched. -/
abbrev in7 : FVec Ideal S8192x512 .f32 := m ((c : Thread nD τ).loc main_arg7)
/-- Input 8, as launched. -/
abbrev in8 : FVec Ideal S2048x2048 .f32 := m ((c : Thread nD τ).loc main_arg8)
/-- Input 9, as launched. -/
abbrev in9 : FVec Ideal S1024x8712 .f32 := m ((c : Thread nD τ).loc main_arg9)
/-- Input 10, as launched. -/
abbrev in10 : FVec Ideal S3x512x1024 .f32 := m ((c : Thread nD τ).loc main_arg10)
/-- Input 11, as launched. -/
abbrev in11 : FVec Ideal S1024x1024 .f32 := m ((c : Thread nD τ).loc main_arg11)
/-- Input 12, as launched. -/
abbrev in12 : FVec Ideal S1024 .f32 := m ((c : Thread nD τ).loc main_arg12)
/-- Input 13, as launched. -/
abbrev in13 : FVec Ideal S1024 .f32 := m ((c : Thread nD τ).loc main_arg13)

/-- What the run's blend reads. -/
def D : Data := dataOf (in0 m c) (in1 m c) (in2 m c) (in3 m c) (in4 m c) (in5 m c) (in6 m c) (in7 m c) (in8 m c) (in9 m c) (in10 m c) (in11 m c) (in12 m c) (in13 m c)

/-- The array's row that point `t` holds as its row `r`. -/
def row (t : Fin cfg0.N) (r : Fin 512) : Fin 32768 := ⟨512 * t.val + r.val, by have := lt_of_lt_of_eq t.isLt N_0; omega⟩

/-- The rounded rows. -/
theorem V_main_v2 (i : Fin 32768) (d : Fin 1024) : (V m c main_v2 : FVec Ideal S32768x1024 .bf16) (ix2 i d) = in0 m c (ix2 i d) := by
  unfold V
  simp only [List.flatten_cons, List.flatten_nil, List.append_nil, List.cons_append, List.nil_append, hostOps0]
  after_reads_at

/-- The gates' weight. -/
theorem V_main_v1 (d : Fin 1024) (j : Fin 3072) : (V m c main_v1 : FVec Ideal S1024x3072 .bf16) (ix2 d j) = in9 m c (ix2 d ⟨5640 + j.val, by omega⟩) := by
  unfold V
  simp only [List.flatten_cons, List.flatten_nil, List.append_nil, List.cons_append, List.nil_append, hostOps0]
  after_reads_at

/-- The branches' weights. -/
theorem V_main_v15 (n : Fin 3) (k : Fin 512) (j : Fin 1024) : (V m c main_v15 : FVec Ideal S3x512x1024 .bf16) (ix3 n k j) = in10 m c (ix3 n k j) := by
  unfold V
  simp only [List.flatten_cons, List.flatten_nil, List.append_nil, List.cons_append, List.nil_append, hostOps0]
  after_reads_at

/-- The output weight. -/
theorem V_main_v16 (k j : Fin 1024) : (V m c main_v16 : FVec Ideal S1024x1024 .bf16) (ix2 k j) = in11 m c (ix2 k j) := by
  unfold V
  simp only [List.flatten_cons, List.flatten_nil, List.append_nil, List.cons_append, List.nil_append, hostOps0]
  after_reads_at

/-- The gain. -/
theorem V_main_v17 (j : Fin 1024) : (V m c main_v17 : FVec Ideal S1x1024 .f32) (ix2 0 j) = in12 m c (ix1 j) := by
  unfold V
  simp only [List.flatten_cons, List.flatten_nil, List.append_nil, List.cons_append, List.nil_append, hostOps0]
  after_reads_at

/-- The shift. -/
theorem V_main_v18 (j : Fin 1024) : (V m c main_v18 : FVec Ideal S1x1024 .f32) (ix2 0 j) = in13 m c (ix1 j) := by
  unfold V
  simp only [List.flatten_cons, List.flatten_nil, List.append_nil, List.cons_append, List.nil_append, hostOps0]
  after_reads_at

/-- The windows' block indices over the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0, 0] ∧ win0_12.index t = ![0, 0] ∧ win0_13.index t = ![0, 0] ∧ win0_14.index t = ![0, 0] :=
  (by decide +kernel : ∀ t : Fin grid0.N, _)

theorem iblk0 (t : Fin cfg0.N) (p : Fin 512) (q : Fin 1024) :
    (iblk m c 0 t : Vec Ideal S512x1024 .f32) (ix2 p q) = in0 m c (ix2 ⟨512 * t.val + p.val, by have := lt_of_lt_of_eq t.isLt N_0; omega⟩ q) := by
  obtain ⟨i0, -⟩ := idx t
  refine Eq.trans ?_ (congrFun (V_main_arg0 m c) (ix2 ⟨512 * t.val + p.val, by have := lt_of_lt_of_eq t.isLt N_0; omega⟩ q))
  refine congrArg (V m c main_arg0) (funext fun a => Fin.ext ?_)
  match a with
  | ⟨0, _⟩ => show win0_0.index t 0 * 512 + 1 * p.val = 512 * t.val + p.val; rw [i0]; show t.val * 512 + 1 * p.val = 512 * t.val + p.val; omega
  | ⟨1, _⟩ => show win0_0.index t 1 * 1024 + 1 * q.val = q.val; rw [i0]; show 0 * 1024 + 1 * q.val = q.val; omega

theorem iblk1 (t : Fin cfg0.N) (p : Fin 512) (q : Fin 512) :
    (iblk m c 1 t : Vec Ideal S512x512 .bf16) (ix2 p q) = in1 m c (ix2 ⟨512 * t.val + p.val, by have := lt_of_lt_of_eq t.isLt N_0; omega⟩ q) := by
  obtain ⟨-, i1, -⟩ := idx t
  refine Eq.trans ?_ (congrFun (V_main_arg1 m c) (ix2 ⟨512 * t.val + p.val, by have := lt_of_lt_of_eq t.isLt N_0; omega⟩ q))
  refine congrArg (V m c main_arg1) (funext fun a => Fin.ext ?_)
  match a with
  | ⟨0, _⟩ => show win0_1.index t 0 * 512 + 1 * p.val = 512 * t.val + p.val; rw [i1]; show t.val * 512 + 1 * p.val = 512 * t.val + p.val; omega
  | ⟨1, _⟩ => show win0_1.index t 1 * 512 + 1 * q.val = q.val; rw [i1]; show 0 * 512 + 1 * q.val = q.val; omega

theorem iblk2 (t : Fin cfg0.N) (p : Fin 512) (q : Fin 512) :
    (iblk m c 2 t : Vec Ideal S512x512 .bf16) (ix2 p q) = in2 m c (ix2 ⟨512 * t.val + p.val, by have := lt_of_lt_of_eq t.isLt N_0; omega⟩ q) := by
  obtain ⟨-, -, i2, -⟩ := idx t
  refine Eq.trans ?_ (congrFun (V_main_arg2 m c) (ix2 ⟨512 * t.val + p.val, by have := lt_of_lt_of_eq t.isLt N_0; omega⟩ q))
  refine congrArg (V m c main_arg2) (funext fun a => Fin.ext ?_)
  match a with
  | ⟨0, _⟩ => show win0_2.index t 0 * 512 + 1 * p.val = 512 * t.val + p.val; rw [i2]; show t.val * 512 + 1 * p.val = 512 * t.val + p.val; omega
  | ⟨1, _⟩ => show win0_2.index t 1 * 512 + 1 * q.val = q.val; rw [i2]; show 0 * 512 + 1 * q.val = q.val; omega

theorem iblk3 (t : Fin cfg0.N) (p : Fin 512) (q : Fin 512) :
    (iblk m c 3 t : Vec Ideal S512x512 .bf16) (ix2 p q) = in3 m c (ix2 ⟨512 * t.val + p.val, by have := lt_of_lt_of_eq t.isLt N_0; omega⟩ q) := by
  obtain ⟨-, -, -, i3, -⟩ := idx t
  refine Eq.trans ?_ (congrFun (V_main_arg3 m c) (ix2 ⟨512 * t.val + p.val, by have := lt_of_lt_of_eq t.isLt N_0; omega⟩ q))
  refine congrArg (V m c main_arg3) (funext fun a => Fin.ext ?_)
  match a with
  | ⟨0, _⟩ => show win0_3.index t 0 * 512 + 1 * p.val = 512 * t.val + p.val; rw [i3]; show t.val * 512 + 1 * p.val = 512 * t.val + p.val; omega
  | ⟨1, _⟩ => show win0_3.index t 1 * 512 + 1 * q.val = q.val; rw [i3]; show 0 * 512 + 1 * q.val = q.val; omega

theorem iblk4 (t : Fin cfg0.N) (p : Fin 128) (q : Fin 2048) :
    (iblk m c 4 t : Vec Ideal S128x2048 .bf16) (ix2 p q) = in4 m c (ix2 ⟨128 * t.val + p.val, by have := lt_of_lt_of_eq t.isLt N_0; omega⟩ q) := by
  obtain ⟨-, -, -, -, i4, -⟩ := idx t
  refine Eq.trans ?_ (congrFun (V_main_arg4 m c) (ix2 ⟨128 * t.val + p.val, by have := lt_of_lt_of_eq t.isLt N_0; omega⟩ q))
  refine congrArg (V m c main_arg4) (funext fun a => Fin.ext ?_)
  match a with
  | ⟨0, _⟩ => show win0_4.index t 0 * 128 + 1 * p.val = 128 * t.val + p.val; rw [i4]; show t.val * 128 + 1 * p.val = 128 * t.val + p.val; omega
  | ⟨1, _⟩ => show win0_4.index t 1 * 2048 + 1 * q.val = q.val; rw [i4]; show 0 * 2048 + 1 * q.val = q.val; omega

theorem iblk5 (t : Fin cfg0.N) (p : Fin 32) (q : Fin 8192) :
    (iblk m c 5 t : Vec Ideal S32x8192 .bf16) (ix2 p q) = in5 m c (ix2 ⟨32 * t.val + p.val, by have := lt_of_lt_of_eq t.isLt N_0; omega⟩ q) := by
  obtain ⟨-, -, -, -, -, i5, -⟩ := idx t
  refine Eq.trans ?_ (congrFun (V_main_arg5 m c) (ix2 ⟨32 * t.val + p.val, by have := lt_of_lt_of_eq t.isLt N_0; omega⟩ q))
  refine congrArg (V m c main_arg5) (funext fun a => Fin.ext ?_)
  match a with
  | ⟨0, _⟩ => show win0_5.index t 0 * 32 + 1 * p.val = 32 * t.val + p.val; rw [i5]; show t.val * 32 + 1 * p.val = 32 * t.val + p.val; omega
  | ⟨1, _⟩ => show win0_5.index t 1 * 8192 + 1 * q.val = q.val; rw [i5]; show 0 * 8192 + 1 * q.val = q.val; omega

theorem iblk6 (t : Fin cfg0.N) (p : Fin 512) (q : Fin 128) :
    (iblk m c 6 t : Vec Ideal S512x128 .f32) (ix2 p q) = in6 m c (ix2 ⟨512 * t.val + p.val, by have := lt_of_lt_of_eq t.isLt N_0; omega⟩ q) := by
  obtain ⟨-, -, -, -, -, -, i6, -⟩ := idx t
  refine Eq.trans ?_ (congrFun (V_main_arg6 m c) (ix2 ⟨512 * t.val + p.val, by have := lt_of_lt_of_eq t.isLt N_0; omega⟩ q))
  refine congrArg (V m c main_arg6) (funext fun a => Fin.ext ?_)
  match a with
  | ⟨0, _⟩ => show win0_6.index t 0 * 512 + 1 * p.val = 512 * t.val + p.val; rw [i6]; show t.val * 512 + 1 * p.val = 512 * t.val + p.val; omega
  | ⟨1, _⟩ => show win0_6.index t 1 * 128 + 1 * q.val = q.val; rw [i6]; show 0 * 128 + 1 * q.val = q.val; omega

theorem iblk7 (t : Fin cfg0.N) (p : Fin 128) (q : Fin 512) :
    (iblk m c 7 t : Vec Ideal S128x512 .f32) (ix2 p q) = in7 m c (ix2 ⟨128 * t.val + p.val, by have := lt_of_lt_of_eq t.isLt N_0; omega⟩ q) := by
  obtain ⟨-, -, -, -, -, -, -, i7, -⟩ := idx t
  refine Eq.trans ?_ (congrFun (V_main_arg7 m c) (ix2 ⟨128 * t.val + p.val, by have := lt_of_lt_of_eq t.isLt N_0; omega⟩ q))
  refine congrArg (V m c main_arg7) (funext fun a => Fin.ext ?_)
  match a with
  | ⟨0, _⟩ => show win0_7.index t 0 * 128 + 1 * p.val = 128 * t.val + p.val; rw [i7]; show t.val * 128 + 1 * p.val = 128 * t.val + p.val; omega
  | ⟨1, _⟩ => show win0_7.index t 1 * 512 + 1 * q.val = q.val; rw [i7]; show 0 * 512 + 1 * q.val = q.val; omega

theorem iblk8 (t : Fin cfg0.N) (p : Fin 32) (q : Fin 2048) :
    (iblk m c 8 t : Vec Ideal S32x2048 .f32) (ix2 p q) = in8 m c (ix2 ⟨32 * t.val + p.val, by have := lt_of_lt_of_eq t.isLt N_0; omega⟩ q) := by
  obtain ⟨-, -, -, -, -, -, -, -, i8, -⟩ := idx t
  refine Eq.trans ?_ (congrFun (V_main_arg8 m c) (ix2 ⟨32 * t.val + p.val, by have := lt_of_lt_of_eq t.isLt N_0; omega⟩ q))
  refine congrArg (V m c main_arg8) (funext fun a => Fin.ext ?_)
  match a with
  | ⟨0, _⟩ => show win0_8.index t 0 * 32 + 1 * p.val = 32 * t.val + p.val; rw [i8]; show t.val * 32 + 1 * p.val = 32 * t.val + p.val; omega
  | ⟨1, _⟩ => show win0_8.index t 1 * 2048 + 1 * q.val = q.val; rw [i8]; show 0 * 2048 + 1 * q.val = q.val; omega

theorem iblk9 (t : Fin cfg0.N) (p : Fin 512) (q : Fin 1024) :
    (iblk m c 9 t : Vec Ideal S512x1024 .bf16) (ix2 p q) = in0 m c (ix2 ⟨512 * t.val + p.val, by have := lt_of_lt_of_eq t.isLt N_0; omega⟩ q) := by
  obtain ⟨-, -, -, -, -, -, -, -, -, i9, -⟩ := idx t
  refine Eq.trans ?_ (V_main_v2 m c _ q)
  refine congrArg (V m c main_v2) (funext fun a => Fin.ext ?_)
  match a with
  | ⟨0, _⟩ => show win0_9.index t 0 * 512 + 1 * p.val = 512 * t.val + p.val; rw [i9]; show t.val * 512 + 1 * p.val = 512 * t.val + p.val; omega
  | ⟨1, _⟩ => show win0_9.index t 1 * 1024 + 1 * q.val = q.val; rw [i9]; show 0 * 1024 + 1 * q.val = q.val; omega

theorem iblk10 (t : Fin cfg0.N) (p : Fin 1024) (q : Fin 3072) :
    (iblk m c 10 t : Vec Ideal S1024x3072 .bf16) (ix2 p q) = in9 m c (ix2 p ⟨5640 + q.val, by omega⟩) := by
  obtain ⟨-, -, -, -, -, -, -, -, -, -, i10, -⟩ := idx t
  refine Eq.trans ?_ (V_main_v1 m c p q)
  refine congrArg (V m c main_v1) (funext fun a => Fin.ext ?_)
  match a with
  | ⟨0, _⟩ => show win0_10.index t 0 * 1024 + 1 * p.val = p.val; rw [i10]; show 0 * 1024 + 1 * p.val = p.val; omega
  | ⟨1, _⟩ => show win0_10.index t 1 * 3072 + 1 * q.val = q.val; rw [i10]; show 0 * 3072 + 1 * q.val = q.val; omega

theorem iblk11 (t : Fin cfg0.N) (p : Fin 3) (q : Fin 512) (s : Fin 1024) :
    (iblk m c 11 t : Vec Ideal S3x512x1024 .bf16) (ix3 p q s) = in10 m c (ix3 p q s) := by
  obtain ⟨-, -, -, -, -, -, -, -, -, -, -, i11, -⟩ := idx t
  refine Eq.trans ?_ (V_main_v15 m c p q s)
  refine congrArg (V m c main_v15) (funext fun a => Fin.ext ?_)
  match a with
  | ⟨0, _⟩ => show win0_11.index t 0 * 3 + 1 * p.val = p.val; rw [i11]; show 0 * 3 + 1 * p.val = p.val; omega
  | ⟨1, _⟩ => show win0_11.index t 1 * 512 + 1 * q.val = q.val; rw [i11]; show 0 * 512 + 1 * q.val = q.val; omega
  | ⟨2, _⟩ => show win0_11.index t 2 * 1024 + 1 * s.val = s.val; rw [i11]; show 0 * 1024 + 1 * s.val = s.val; omega

theorem iblk12 (t : Fin cfg0.N) (p : Fin 1024) (q : Fin 1024) :
    (iblk m c 12 t : Vec Ideal S1024x1024 .bf16) (ix2 p q) = in11 m c (ix2 p q) := by
  obtain ⟨-, -, -, -, -, -, -, -, -, -, -, -, i12, -⟩ := idx t
  refine Eq.trans ?_ (V_main_v16 m c p q)
  refine congrArg (V m c main_v16) (funext fun a => Fin.ext ?_)
  match a with
  | ⟨0, _⟩ => show win0_12.index t 0 * 1024 + 1 * p.val = p.val; rw [i12]; show 0 * 1024 + 1 * p.val = p.val; omega
  | ⟨1, _⟩ => show win0_12.index t 1 * 1024 + 1 * q.val = q.val; rw [i12]; show 0 * 1024 + 1 * q.val = q.val; omega

theorem iblk13 (t : Fin cfg0.N) (q : Fin 1024) :
    (iblk m c 13 t : Vec Ideal S1x1024 .f32) (ix2 0 q) = in12 m c (ix1 q) := by
  obtain ⟨-, -, -, -, -, -, -, -, -, -, -, -, -, i13, -⟩ := idx t
  refine Eq.trans ?_ (V_main_v17 m c q)
  refine congrArg (V m c main_v17) (funext fun a => Fin.ext ?_)
  match a with
  | ⟨0, _⟩ => show win0_13.index t 0 * 1 + 1 * 0 = 0; rw [i13]; show 0 * 1 + 1 * 0 = 0; omega
  | ⟨1, _⟩ => show win0_13.index t 1 * 1024 + 1 * q.val = q.val; rw [i13]; show 0 * 1024 + 1 * q.val = q.val; omega

theorem iblk14 (t : Fin cfg0.N) (q : Fin 1024) :
    (iblk m c 14 t : Vec Ideal S1x1024 .f32) (ix2 0 q) = in13 m c (ix1 q) := by
  obtain ⟨-, -, -, -, -, -, -, -, -, -, -, -, -, -, i14⟩ := idx t
  refine Eq.trans ?_ (V_main_v18 m c q)
  refine congrArg (V m c main_v18) (funext fun a => Fin.ext ?_)
  match a with
  | ⟨0, _⟩ => show win0_14.index t 0 * 1 + 1 * 0 = 0; rw [i14]; show 0 * 1 + 1 * 0 = 0; omega
  | ⟨1, _⟩ => show win0_14.index t 1 * 1024 + 1 * q.val = q.val; rw [i14]; show 0 * 1024 + 1 * q.val = q.val; omega

/-- The streams' values that a point holds. -/
theorem o_pt (t : Fin cfg0.N) (g : Fin 3) (h : Fin 4) (r : Fin 512) (e : Fin 128) :
    oAt (iblk m c 3 t) (iblk m c 4 t) (iblk m c 5 t) g h r e = (D m c).o g (row t r) ⟨128 * h.val + e.val, by omega⟩ := by
  match g with
  | 0 => exact iblk3 m c t r _
  | 1 =>
    refine (iblk4 m c t _ _).trans (congrArg (in4 m c) (congrArg₂ ix2 (Fin.ext ?_) (Fin.ext ?_)))
    · show 128 * t.val + r.val / 4 = (512 * t.val + r.val) / 4; omega
    · show r.val % 4 * 512 + (128 * h.val + e.val) = (512 * t.val + r.val) % 4 * 512 + (128 * h.val + e.val); omega
  | 2 =>
    refine (iblk5 m c t _ _).trans (congrArg (in5 m c) (congrArg₂ ix2 (Fin.ext ?_) (Fin.ext ?_)))
    · show 32 * t.val + r.val / 16 = (512 * t.val + r.val) / 16; omega
    · show r.val % 16 * 512 + (128 * h.val + e.val) = (512 * t.val + r.val) % 16 * 512 + (128 * h.val + e.val); omega

/-- The streams' scores that a point holds. -/
theorem l_pt (t : Fin cfg0.N) (g : Fin 3) (r : Fin 512) (n : Fin 4) :
    lAt (iblk m c 6 t) (iblk m c 7 t) (iblk m c 8 t) g r ⟨n.val, by omega⟩ = (D m c).l g (row t r) n := by
  match g with
  | 0 => exact iblk6 m c t r _
  | 1 =>
    refine (iblk7 m c t _ _).trans (congrArg (in7 m c) (congrArg₂ ix2 (Fin.ext ?_) (Fin.ext ?_)))
    · show 128 * t.val + r.val / 4 = (512 * t.val + r.val) / 4; omega
    · show r.val % 4 * 128 + n.val = (512 * t.val + r.val) % 4 * 128 + n.val; omega
  | 2 =>
    refine (iblk8 m c t _ _).trans (congrArg (in8 m c) (congrArg₂ ix2 (Fin.ext ?_) (Fin.ext ?_)))
    · show 32 * t.val + r.val / 16 = (512 * t.val + r.val) / 16; omega
    · show r.val % 16 * 128 + n.val = (512 * t.val + r.val) % 16 * 128 + n.val; omega

/-- A point loads its rows of the data. -/
theorem agrees_pt (t : Fin cfg0.N) : Agrees (loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (D m c) (row t) :=
  agrees_loads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (D m c) (row t)
    (fun r d => iblk0 m c t r d) (fun r k => iblk1 m c t r k) (fun r k => iblk2 m c t r k) (o_pt m c t) (l_pt m c t)
    (fun r d => iblk9 m c t r d) (fun n d j => (iblk10 m c t d _).trans (congrArg (in9 m c) (congrArg₂ ix2 rfl (Fin.ext (by
      show 5640 + (1024 * n.val + j.val) = 5640 + (1024 * n.val + j.val); rfl)))))
    (fun n k j => iblk11 m c t n k j) (fun k j => iblk12 m c t k j) (fun j => iblk13 m c t j) (fun j => iblk14 m c t j)

theorem idxo18 : ∀ t : Fin cfg0.N, win0_18.index t = ![t.val, 0] :=
  (by decide +kernel : ∀ t : Fin grid0.N, _)

/-- Result 0 of the kernel is the merged and normalized rows. -/
theorem result18 (i : Fin 32768) (j : Fin 1024) : ((dats m 0 c).arrAt 18 cfg0.N : FVec Ideal S32768x1024 .f32) (ix2 i j) = (D m c).out blend i j := by
  have hN : i.val / 512 < cfg0.N := by rw [show cfg0.N = 64 from N_0]; omega
  obtain ⟨t, ht⟩ : ∃ t : Fin cfg0.N, t.val = i.val / 512 := ⟨⟨_, hN⟩, rfl⟩
  have h := congrFun (Value.blocks18 m c t (flush0_18 t)) (ix2 (⟨i.val % 512, by omega⟩ : Fin 512) j)
  rw [Value.flushed18_A] at h
  have hi : win0_18.index t = ![t.val, 0] := idxo18 t
  refine Eq.trans (congrArg ((dats m 0 c).arrAt 18 cfg0.N) (funext fun a => Fin.ext ?_)) (h.trans ((out_18 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) c (grid0.coords t) (D m c) (row t) (agrees_pt m c t) _).trans
    ((blk_at _ _ _ ⟨i.val % 512, by omega⟩ j rfl rfl).trans (congrArg (fun i => (D m c).out blend i j) (Fin.ext ?_)))))
  · match a with
    | ⟨0, _⟩ => show i.val = win0_18.index t 0 * 512 + 1 * (i.val % 512); rw [hi]; show i.val = t.val * 512 + 1 * (i.val % 512); omega
    | ⟨1, _⟩ => show j.val = win0_18.index t 1 * 1024 + 1 * j.val; rw [hi]; show j.val = 0 * 1024 + 1 * j.val; omega
  · show 512 * t.val + i.val % 512 = i.val; omega

theorem idxo19 : ∀ t : Fin cfg0.N, win0_19.index t = ![t.val, 0] :=
  (by decide +kernel : ∀ t : Fin grid0.N, _)

/-- Result 1 of the kernel is the merged and normalized rows. -/
theorem result19 (i : Fin 32768) (j : Fin 1024) : ((dats m 0 c).arrAt 19 cfg0.N : FVec Ideal S32768x1024 .bf16) (ix2 i j) = (D m c).out blend i j := by
  have hN : i.val / 512 < cfg0.N := by rw [show cfg0.N = 64 from N_0]; omega
  obtain ⟨t, ht⟩ : ∃ t : Fin cfg0.N, t.val = i.val / 512 := ⟨⟨_, hN⟩, rfl⟩
  have h := congrFun (Value.blocks19 m c t (flush0_19 t)) (ix2 (⟨i.val % 512, by omega⟩ : Fin 512) j)
  rw [Value.flushed19_A] at h
  have hi : win0_19.index t = ![t.val, 0] := idxo19 t
  refine Eq.trans (congrArg ((dats m 0 c).arrAt 19 cfg0.N) (funext fun a => Fin.ext ?_)) (h.trans ((out_19 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) c (grid0.coords t) (D m c) (row t) (agrees_pt m c t) _).trans
    ((blk_at _ _ _ ⟨i.val % 512, by omega⟩ j rfl rfl).trans (congrArg (fun i => (D m c).out blend i j) (Fin.ext ?_)))))
  · match a with
    | ⟨0, _⟩ => show i.val = win0_19.index t 0 * 512 + 1 * (i.val % 512); rw [hi]; show i.val = t.val * 512 + 1 * (i.val % 512); omega
    | ⟨1, _⟩ => show j.val = win0_19.index t 1 * 1024 + 1 * j.val; rw [hi]; show j.val = 0 * 1024 + 1 * j.val; omega
  · show 512 * t.val + i.val % 512 = i.val; omega

end Cert.Kernel3Ideal.Merge

end

end
-- ==== Proof.MergeRValue.lean ====
module

public import proofs.«01_k».proof.Proof.MergePre
public import proofs.«01_k».proof.Proof.Gen.Reference3Ideal.Read
public import Idealize.ShloMosaic.Lib.ValueIdx
public import Idealize.ShloMosaic.Lib.IdealHost
public import Idealize.ShloMosaic.Lib.Pointwise

@[expose] public section

set_option maxRecDepth 16384

noncomputable section

namespace Cert.Reference3Ideal.Merge

open Cert.Merge Cert.Reference3Ideal Cert.Reference3Ideal.Gen Cert.Reference3Ideal.Read Idealize.ShloMosaic

/-- Three arrays laid one after another on a new front axis, read at an index. -/
theorem stack_apply {A B C : ℕ} (x0 x1 x2 : FVec Ideal ⟨4, ![1, A, B, C]⟩ .f32)
    (h : Shape.Concatenates [(⟨4, ![1, A, B, C]⟩ : Shape), ⟨4, ![1, A, B, C]⟩, ⟨4, ![1, A, B, C]⟩] ⟨4, ![3, A, B, C]⟩ 0)
    (g : Fin 3) (i : Fin A) (n : Fin B) (k : Fin C) :
    (concatenate ⟨4, ![3, A, B, C]⟩ 0 [⟨⟨4, ![1, A, B, C]⟩, x0⟩, ⟨⟨4, ![1, A, B, C]⟩, x1⟩, ⟨⟨4, ![1, A, B, C]⟩, x2⟩] h : FVec Ideal ⟨4, ![3, A, B, C]⟩ .f32) (ix4 g i n k)
      = (match g with | 0 => x0 | 1 => x1 | 2 => x2) (ix4 0 i n k) := by
  match g with
  | 0 =>
    pointwise
    refine congrArg x0 (funext fun a => Fin.ext ?_)
    match a with
    | ⟨0, _⟩ => rfl
    | ⟨1, _⟩ => rfl
    | ⟨2, _⟩ => rfl
    | ⟨3, _⟩ => rfl
  | 1 =>
    pointwise
    refine congrArg x1 (funext fun a => Fin.ext ?_)
    match a with
    | ⟨0, _⟩ => rfl
    | ⟨1, _⟩ => rfl
    | ⟨2, _⟩ => rfl
    | ⟨3, _⟩ => rfl
  | 2 =>
    pointwise
    refine congrArg x2 (funext fun a => Fin.ext ?_)
    match a with
    | ⟨0, _⟩ => rfl
    | ⟨1, _⟩ => rfl
    | ⟨2, _⟩ => rfl
    | ⟨3, _⟩ => rfl

variable (x : FVec Ideal S32768x1024 .f32) (y0 y1 o0 : FVec Ideal S32768x512 .bf16) (o1 : FVec Ideal S8192x2048 .bf16) (o2 : FVec Ideal S2048x8192 .bf16)
  (l0 : FVec Ideal S32768x128 .f32) (l1 : FVec Ideal S8192x512 .f32) (l2 : FVec Ideal S2048x2048 .f32) (w : FVec Ideal S1024x8712 .f32)
  (wb : FVec Ideal S3x512x1024 .f32) (wo : FVec Ideal S1024x1024 .f32) (g b : FVec Ideal S1024 .f32)

theorem v14_apply (i : Fin 32768) (n : Fin 4) : val_main_v14 (F := Ideal) l0 (ix4 0 i n 0) = lseOf l0 l1 l2 0 i n := by
  unfold lseOf
  pointwise [val_main_v14, val_main_v7, val_main_v6]
theorem v15_apply (i : Fin 32768) (n : Fin 4) : val_main_v15 (F := Ideal) l1 (ix4 0 i n 0) = lseOf l0 l1 l2 1 i n := by
  unfold lseOf
  pointwise [val_main_v15, val_main_v10, val_main_v9, val_main_v8]
theorem v16_apply (i : Fin 32768) (n : Fin 4) : val_main_v16 (F := Ideal) l2 (ix4 0 i n 0) = lseOf l0 l1 l2 2 i n := by
  unfold lseOf
  pointwise [val_main_v16, val_main_v13, val_main_v12, val_main_v11]

/-- The stacked scores. -/
theorem v17_apply (k : Fin 3) (i : Fin 32768) (n : Fin 4) : val_main_v17 (F := Ideal) l0 l1 l2 (ix4 k i n 0) = lseOf l0 l1 l2 k i n := by
  refine (stack_apply _ _ _ _ k i n 0).trans ?_
  match k with
  | 0 => exact v14_apply l0 l1 l2 i n
  | 1 => exact v15_apply l0 l1 l2 i n
  | 2 => exact v16_apply l0 l1 l2 i n

theorem v29_apply (i : Fin 32768) (k : Fin 512) : val_main_v29 (F := Ideal) o0 (ix4 0 i (head k) ⟨k.val % 128, by omega⟩) = outOf o0 o1 o2 0 i k := by
  unfold outOf head
  pointwise [val_main_v29, val_main_v1, val_main_v0]
theorem v30_apply (i : Fin 32768) (k : Fin 512) : val_main_v30 (F := Ideal) o1 (ix4 0 i (head k) ⟨k.val % 128, by omega⟩) = outOf o0 o1 o2 1 i k := by
  unfold outOf head
  pointwise [val_main_v30, val_main_v3, val_main_v2]
  refine congrArg o1 (funext fun a => Fin.ext ?_)
  match a with
  | ⟨0, _⟩ => rfl
  | ⟨1, _⟩ => show i.val % 4 * 512 + k.val / 128 * 128 + k.val % 128 = i.val % 4 * 512 + k.val; omega
theorem v31_apply (i : Fin 32768) (k : Fin 512) : val_main_v31 (F := Ideal) o2 (ix4 0 i (head k) ⟨k.val % 128, by omega⟩) = outOf o0 o1 o2 2 i k := by
  unfold outOf head
  pointwise [val_main_v31, val_main_v5, val_main_v4]
  refine congrArg o2 (funext fun a => Fin.ext ?_)
  match a with
  | ⟨0, _⟩ => rfl
  | ⟨1, _⟩ => show i.val % 16 * 512 + k.val / 128 * 128 + k.val % 128 = i.val % 16 * 512 + k.val; omega

/-- The stacked values. -/
theorem v32_apply (g : Fin 3) (i : Fin 32768) (k : Fin 512) : val_main_v32 (F := Ideal) o0 o1 o2 (ix4 g i (head k) ⟨k.val % 128, by omega⟩) = outOf o0 o1 o2 g i k := by
  refine (stack_apply _ _ _ _ g i (head k) _).trans ?_
  match g with
  | 0 => exact v29_apply o0 o1 o2 i k
  | 1 => exact v30_apply o0 o1 o2 i k
  | 2 => exact v31_apply o0 o1 o2 i k

theorem fold3 (c : EReal) (f : Fin 3 → EReal) : Finset.fold max c f Finset.univ = max (f 0) (max (f 1) (max (f 2) c)) := by
  rw [show (Finset.univ : Finset (Fin 3)) = {0, 1, 2} from rfl, Finset.fold_insert (by decide), Finset.fold_insert (by decide), Finset.fold_singleton]

theorem bot_eq : Ideal.ofBits .f32 0xFF800000#32 = ⊥ := by simp [Ideal.ofBits, Ideal.ieee]

/-- The greatest score. -/
theorem v20_apply (i : Fin 32768) (n : Fin 4) : val_main_v20 (F := Ideal) l0 l1 l2 (ix3 i n 0) = top (fun k => lseOf l0 l1 l2 k i n) := by
  have h17 := fun k => v17_apply l0 l1 l2 k i n
  have h18 : val_main_v18 (F := Ideal) l0 l1 l2 (ix3 i n 0) = top (fun k => lseOf l0 l1 l2 k i n) := by
    unfold val_main_v18
    have hR : S3x32768x4x1.Reduces [0] S32768x4x1 := by decide
    rw [Host.reduce_eq_fold_single FloatOps.maximumf _ _ reducesTo_S3x32768x4x1_S32768x4x1_d0 hR h_S_]
    have hf : (val_main_v17 (F := Ideal) l0 l1 l2 ∘ hR.lift (ix3 i n 0)) = fun k : Fin 3 => lseOf l0 l1 l2 k i n := funext fun k =>
      (congrArg (val_main_v17 (F := Ideal) l0 l1 l2) (funext fun a => Fin.ext (by
        match a with
        | ⟨0, _⟩ => rfl
        | ⟨1, _⟩ => rfl
        | ⟨2, _⟩ => rfl
        | ⟨3, _⟩ => rfl) : hR.lift (ix3 i n 0) k = ix4 k i n 0)).trans (h17 k)
    refine (congrArg (fun f => Finset.fold max (Ideal.ofBits .f32 0xFF800000#32) f (Finset.univ : Finset (Fin 3))) hf).trans ?_
    rw [fold3, bot_eq, max_eq_left bot_le]
    unfold top
    rw [max_assoc]
  have h19 : val_main_v19 (F := Ideal) (ix3 i n 0) = ⊥ := (val_main_v19_apply _).trans bot_eq
  refine (val_main_v20_apply _ _ _ _).trans ?_
  rw [h18, h19]
  exact max_eq_right bot_le

/-- The weight of a stream. -/
theorem v28_apply (k : Fin 3) (i : Fin 32768) (n : Fin 4) : val_main_v28 (F := Ideal) l0 l1 l2 (ix4 k i n 0)
    = Ideal.div (wexp (fun k => lseOf l0 l1 l2 k i n) k) (∑ k', wexp (fun k => lseOf l0 l1 l2 k i n) k') := by
  have h17 := fun k => v17_apply l0 l1 l2 k i n
  have h20 := v20_apply l0 l1 l2 i n
  unfold val_main_v28 val_main_v27 val_main_v26 val_main_v25 val_main_v24 val_main_v23 val_main_v22 val_main_v21
  generalize val_main_v17 (F := Ideal) l0 l1 l2 = y17 at h17
  generalize val_main_v20 (F := Ideal) l0 l1 l2 = y20 at h20
  unfold wexp
  pointwise [val_main_cst_1]
  simp only [h17, h20, Ideal.ofBits_zero_f32, zero_add]

/-- The blended third branch. -/
theorem v36_apply (i : Fin 32768) (k : Fin 512) : val_main_v36 (F := Ideal) o0 o1 o2 l0 l1 l2 (ix2 i k)
    = soft (fun k' => outOf o0 o1 o2 k' i k) (fun k' => lseOf l0 l1 l2 k' i (head k)) := by
  have h28 := fun k' => v28_apply l0 l1 l2 k' i (head k)
  have h32 := fun k' => v32_apply o0 o1 o2 k' i k
  unfold val_main_v36 val_main_v35 val_main_v34 val_main_v33
  generalize val_main_v28 (F := Ideal) l0 l1 l2 = y28 at h28
  generalize val_main_v32 (F := Ideal) o0 o1 o2 = y32 at h32
  unfold soft
  simp only [← h28, ← h32]
  unfold head
  pointwise [val_main_cst_2]

/-- The gates' products. -/
theorem v38_apply (i : Fin 32768) (c : Fin 3072) : val_main_v38 (F := Ideal) x w (ix2 i c)
    = ∑ d, HMul.hMul (α := EReal) (x (ix2 i d)) (w (ix2 d ⟨5640 + c.val, by omega⟩)) := by
  pointwise [val_main_v38, val_main_v37]

/-- The gate of branch 1. -/
theorem v47_apply (i : Fin 32768) (j : Fin 1024) : val_main_v47 (F := Ideal) x w (ix2 i j)
    = squash (∑ d, HMul.hMul (α := EReal) (x (ix2 i d)) (w (ix2 d ⟨5640 + (1024 * 0 + j.val), by omega⟩))) := by
  have h38 := v38_apply x w i ⟨1024 * 0 + j.val, by omega⟩
  rw [← h38]
  unfold squash
  have h : val_main_v47 (F := Ideal) x w (ix2 i j) = Ideal.div (Ideal.ofBits .f32 0x3F800000#32) (Ideal.ofBits .f32 0x3F800000#32
      + Ideal.exp (-(val_main_v38 (F := Ideal) x w (ix2 i ⟨1024 * 0 + j.val, by omega⟩) : EReal))) := by
    unfold val_main_v47 val_main_v46 val_main_v45 val_main_v44 val_main_v43 val_main_v42 val_main_v41 val_main_v40 val_main_v39
    generalize val_main_v38 (F := Ideal) x w = y
    pointwise [val_main_cst_3, val_main_cst_4]
  rw [h, Ideal.ofBits_one_f32]

/-- The gate of branch 2. -/
theorem v60_apply (i : Fin 32768) (j : Fin 1024) : val_main_v60 (F := Ideal) x w (ix2 i j)
    = squash (∑ d, HMul.hMul (α := EReal) (x (ix2 i d)) (w (ix2 d ⟨5640 + (1024 * 1 + j.val), by omega⟩))) := by
  have h38 := v38_apply x w i ⟨1024 * 1 + j.val, by omega⟩
  rw [← h38]
  unfold squash
  have h : val_main_v60 (F := Ideal) x w (ix2 i j) = Ideal.div (Ideal.ofBits .f32 0x3F800000#32) (Ideal.ofBits .f32 0x3F800000#32
      + Ideal.exp (-(val_main_v38 (F := Ideal) x w (ix2 i ⟨1024 * 1 + j.val, by omega⟩) : EReal))) := by
    unfold val_main_v60 val_main_v59 val_main_v58 val_main_v57 val_main_v56 val_main_v55 val_main_v54 val_main_v53 val_main_v39
    generalize val_main_v38 (F := Ideal) x w = y
    pointwise [val_main_cst_5, val_main_cst_6]
  rw [h, Ideal.ofBits_one_f32]

/-- The gate of branch 3. -/
theorem v74_apply (i : Fin 32768) (j : Fin 1024) : val_main_v74 (F := Ideal) x w (ix2 i j)
    = squash (∑ d, HMul.hMul (α := EReal) (x (ix2 i d)) (w (ix2 d ⟨5640 + (1024 * 2 + j.val), by omega⟩))) := by
  have h38 := v38_apply x w i ⟨1024 * 2 + j.val, by omega⟩
  rw [← h38]
  unfold squash
  have h : val_main_v74 (F := Ideal) x w (ix2 i j) = Ideal.div (Ideal.ofBits .f32 0x3F800000#32) (Ideal.ofBits .f32 0x3F800000#32
      + Ideal.exp (-(val_main_v38 (F := Ideal) x w (ix2 i ⟨1024 * 2 + j.val, by omega⟩) : EReal))) := by
    unfold val_main_v74 val_main_v73 val_main_v72 val_main_v71 val_main_v70 val_main_v69 val_main_v68 val_main_v67 val_main_v39
    generalize val_main_v38 (F := Ideal) x w = y
    pointwise [val_main_cst_7, val_main_cst_8]
  rw [h, Ideal.ofBits_one_f32]

/-- The first branch projected. -/
theorem v51_apply (i : Fin 32768) (j : Fin 1024) : val_main_v51 (F := Ideal) y0 wb (ix2 i j) = ∑ k, HMul.hMul (α := EReal) (y0 (ix2 i k)) (wb (ix3 0 k j)) := by
  pointwise [val_main_v51, val_main_v50, val_main_v49, val_main_v48]
/-- The second branch projected. -/
theorem v64_apply (i : Fin 32768) (j : Fin 1024) : val_main_v64 (F := Ideal) y1 wb (ix2 i j) = ∑ k, HMul.hMul (α := EReal) (y1 (ix2 i k)) (wb (ix3 1 k j)) := by
  pointwise [val_main_v64, val_main_v63, val_main_v62, val_main_v61]
/-- The third branch projected. -/
theorem v77_apply (i : Fin 32768) (j : Fin 1024) : val_main_v77 (F := Ideal) o0 o1 o2 l0 l1 l2 wb (ix2 i j)
    = ∑ k, HMul.hMul (α := EReal) (soft (fun k' => outOf o0 o1 o2 k' i k) (fun k' => lseOf l0 l1 l2 k' i (head k))) (wb (ix3 2 k j)) := by
  have h36 := v36_apply o0 o1 o2 l0 l1 l2 i
  unfold val_main_v77
  generalize val_main_v36 (F := Ideal) o0 o1 o2 l0 l1 l2 = y at h36
  simp only [← h36]
  pointwise [val_main_v76, val_main_v75]

/-- The reference's data. -/
abbrev D : Data := dataOf x y0 y1 o0 o1 o2 l0 l1 l2 w wb wo g b

/-- The merged branches. -/
theorem v79_apply (i : Fin 32768) (j : Fin 1024) : val_main_v79 (F := Ideal) x y0 y1 o0 o1 o2 l0 l1 l2 w wb (ix2 i j)
    = mixed ((D x y0 y1 o0 o1 o2 l0 l1 l2 w wb wo g b).x i) (D x y0 y1 o0 o1 o2 l0 l1 l2 w wb wo g b).wg ((D x y0 y1 o0 o1 o2 l0 l1 l2 w wb wo g b).y soft i) (D x y0 y1 o0 o1 o2 l0 l1 l2 w wb wo g b).wb j := by
  have h47 := v47_apply x w i j
  have h60 := v60_apply x w i j
  have h74 := v74_apply x w i j
  have h51 := v51_apply y0 wb i j
  have h64 := v64_apply y1 wb i j
  have h77 := v77_apply o0 o1 o2 l0 l1 l2 wb i j
  refine Eq.trans ?_ (congrArg₂ (HAdd.hAdd (α := EReal)) (congrArg₂ (HAdd.hAdd (α := EReal)) (congrArg₂ (HMul.hMul (α := EReal)) h47 h51) (congrArg₂ (HMul.hMul (α := EReal)) h60 h64)) (congrArg₂ (HMul.hMul (α := EReal)) h74 h77))
  rfl

/-- The residual rows. -/
theorem v83_apply (i : Fin 32768) (j : Fin 1024) : val_main_v83 (F := Ideal) x y0 y1 o0 o1 o2 l0 l1 l2 w wb wo (ix2 i j)
    = resid ((D x y0 y1 o0 o1 o2 l0 l1 l2 w wb wo g b).x i) (mixed ((D x y0 y1 o0 o1 o2 l0 l1 l2 w wb wo g b).x i) (D x y0 y1 o0 o1 o2 l0 l1 l2 w wb wo g b).wg ((D x y0 y1 o0 o1 o2 l0 l1 l2 w wb wo g b).y soft i) (D x y0 y1 o0 o1 o2 l0 l1 l2 w wb wo g b).wb)
        (D x y0 y1 o0 o1 o2 l0 l1 l2 w wb wo g b).wo j := by
  have h79 := v79_apply x y0 y1 o0 o1 o2 l0 l1 l2 w wb wo g b i
  unfold val_main_v83 val_main_v82 val_main_v81 val_main_v80
  generalize val_main_v79 (F := Ideal) x y0 y1 o0 o1 o2 l0 l1 l2 w wb = y at h79
  unfold resid
  simp only [← h79]
  pointwise [val_main_cst_9]
  rfl

/-- The reference's first result at an index. -/
theorem v107_apply (i : Fin 32768) (j : Fin 1024) : val_main_v107 (F := Ideal) x y0 y1 o0 o1 o2 l0 l1 l2 w wb wo g b (ix2 i j)
    = (D x y0 y1 o0 o1 o2 l0 l1 l2 w wb wo g b).out soft i j := by
  have h83 := v83_apply x y0 y1 o0 o1 o2 l0 l1 l2 w wb wo g b i
  unfold val_main_v107 val_main_v106 val_main_v105 val_main_v104 val_main_v103 val_main_v102 val_main_v101 val_main_v100 val_main_v99 val_main_v98 val_main_v97 val_main_v96 val_main_v95
    val_main_v94 val_main_v93 val_main_v92 val_main_v91 val_main_v90 val_main_v89 val_main_v88 val_main_v87 val_main_v86 val_main_v85 val_main_v84
  generalize val_main_v83 (F := Ideal) x y0 y1 o0 o1 o2 l0 l1 l2 w wb wo = z at h83
  unfold Data.out
  rw [show (resid ((D x y0 y1 o0 o1 o2 l0 l1 l2 w wb wo g b).x i) (mixed ((D x y0 y1 o0 o1 o2 l0 l1 l2 w wb wo g b).x i) (D x y0 y1 o0 o1 o2 l0 l1 l2 w wb wo g b).wg ((D x y0 y1 o0 o1 o2 l0 l1 l2 w wb wo g b).y soft i) (D x y0 y1 o0 o1 o2 l0 l1 l2 w wb wo g b).wb)
        (D x y0 y1 o0 o1 o2 l0 l1 l2 w wb wo g b).wo) = fun j => z (ix2 i j) from funext fun j => (h83 j).symm]
  unfold normed cent mean D dataOf
  pointwise [val_main_cst_10, val_main_cst_11, val_main_cst_12, val_main_cst_13, val_main_cst_14]

/-- The reference's second result at an index. -/
theorem v108_apply (i : Fin 32768) (j : Fin 1024) : val_main_v108 (F := Ideal) x y0 y1 o0 o1 o2 l0 l1 l2 w wb wo g b (ix2 i j)
    = (D x y0 y1 o0 o1 o2 l0 l1 l2 w wb wo g b).out soft i j :=
  v107_apply x y0 y1 o0 o1 o2 l0 l1 l2 w wb wo g b i j

end Cert.Reference3Ideal.Merge

end

end
-- ==== Proof.MergeFinal.lean ====
module

public import proofs.«01_k».proof.Defs
public import proofs.«01_k».proof.Proof.MergeKValue
public import proofs.«01_k».proof.Proof.MergeRValue
public import proofs.«01_k».proof.Proof.MergePre
public import proofs.«01_k».proof.Proof.Gen.Reference3Ideal.Run
public import Idealize.ShloMosaic.Lib.Quiescent

@[expose] public section

noncomputable section

namespace Cert.Merge

open Idealize.ShloMosaic Idealize.ShloMosaic.TcCoe Idealize.SL.Sem

section ReferenceIdeal

open Cert.Reference3Ideal

variable (m : (ℓ : Loc nD τ sig) → Buf (Elt Ideal) ℓ) (ρ : Dev nD → PrngReg)

/-- The reference runs, its arguments end unchanged, and it has no semaphore. -/
theorem frameR :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run _ _ _).mono (fun r h => ⟨fun c => (h c).2.2, sem_eq_zero_of_no_sems rfl r.2⟩) (Cert.Reference3Ideal.Value.run m ρ)

end ReferenceIdeal

section KernelIdeal

open Cert.Kernel3Ideal Cert.Kernel3Ideal.Gen

variable (m : (ℓ : Loc nD τ sig) → Buf (Elt Ideal) ℓ) (ρ : Dev nD → PrngReg)

/-- The kernel's first result. -/
abbrev result0 (c : Dev nD) : Buf (Elt Ideal) ((c.tc : Thread nD τ).loc main_v19_0) := (dats m 0 c).arrAt 18 cfg0.N
/-- The kernel's second result. -/
abbrev result1 (c : Dev nD) : Buf (Elt Ideal) ((c.tc : Thread nD τ).loc main_v19_1) := (dats m 0 c).arrAt 19 cfg0.N

/-- The kernel runs, its first two results are the named ones and its arguments end unchanged. -/
theorem runK :
    θ_run (defs (F := Ideal)) (onTc (τ := τ) (main (F := Ideal))) ⟨m, fun _ => 0, ρ⟩ (fun r => ∀ c : Dev nD,
      r.2.mem ((c.tc : Thread nD τ).loc main_v19_0) = result0 m c
      ∧ r.2.mem ((c.tc : Thread nD τ).loc main_v19_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun _ h c => ⟨(h c).1, (h c).2.1, (h c).2.2.2.2.2.2⟩) (Cert.Kernel3Ideal.Value.run_blocks m ρ)

end KernelIdeal

section Both

variable (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (hp : Pre_Kernel3Ideal_lse_finite (hPre_lse_finite := Cert.Pre_lse_finite.Gen.facts) m)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (h9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10))
    (h11 : m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11))
    (h12 : m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12))
    (h13 : m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13))
include hp

/-- Either way of blending gives the rows of the run, the precondition holding. -/
theorem blends (i : Fin 32768) (j : Fin 1024) : (Cert.Kernel3Ideal.Merge.D m c).out blend i j = (Cert.Kernel3Ideal.Merge.D m c).out soft i j :=
  Data.out_eq _ (fun i n => finite _ _ _ _ _ _ _ _ _ _ _ _ _ _ _ _ (hp c) i n) i j

include h0 h1 h2 h3 h4 h5 h6 h7 h8 h9 h10 h11 h12 h13

/-- From memories agreeing on the arguments and under the precondition, the two programs' results 0 are equal: at every index both are
    the merged and normalized row. -/
theorem result0_eq :
    (Cert.Reference3Ideal.Value.res_main_v107 m' c : FVec Ideal Cert.Kernel3Ideal.S32768x1024 .f32) = result0 m c := by
  have hb := blends m c hp
  refine (Cert.Reference3Ideal.Read.val_main_v107_eq m' c).trans ?_
  rw [h0, h1, h2, h3, h4, h5, h6, h7, h8, h9, h10, h11, h12, h13]
  funext y
  change Cert.Kernel3Ideal.S32768x1024.Idx at y
  idx_vars y
  exact (Cert.Reference3Ideal.Merge.v107_apply _ _ _ _ _ _ _ _ _ _ _ _ _ _ y0 y1).trans
    ((hb y0 y1).symm.trans (Cert.Kernel3Ideal.Merge.result18 m c y0 y1).symm)

/-- From memories agreeing on the arguments and under the precondition, the two programs' results 1 are equal: at every index both are
    the merged and normalized row. -/
theorem result1_eq :
    (Cert.Reference3Ideal.Value.res_main_v108 m' c : FVec Ideal Cert.Kernel3Ideal.S32768x1024 .bf16) = result1 m c := by
  have hb := blends m c hp
  refine (Cert.Reference3Ideal.Read.val_main_v108_eq m' c).trans ?_
  rw [h0, h1, h2, h3, h4, h5, h6, h7, h8, h9, h10, h11, h12, h13]
  funext y
  change Cert.Kernel3Ideal.S32768x1024.Idx at y
  idx_vars y
  exact (Cert.Reference3Ideal.Merge.v108_apply _ _ _ _ _ _ _ _ _ _ _ _ _ _ y0 y1).trans
    ((hb y0 y1).symm.trans (Cert.Kernel3Ideal.Merge.result19 m c y0 y1).symm)

end Both

end Cert.Merge

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash.Runs
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash.Runs
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_tables_in_range
public import proofs.«01_k».proof.Proof.KValue
public import proofs.«01_k».proof.Proof.RefValue
public import proofs.«01_k».proof.Proof.ExpertsFinal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_lse_finite
public import proofs.«01_k».proof.Proof.MergeFinal
public import Idealize.ShloMosaic.Adequacy
public import Idealize.ShloMosaic.Init

@[expose] public section

noncomputable section

namespace Cert.Proof

open Idealize.ShloMosaic Idealize.SL.Sem Cert.Kernel

open Cert.Retention in
/-- From memories agreeing on the arguments, the two programs' results are equal: at every index both are the mixer's output. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.result m' c : FVec Ideal Cert.KernelIdeal.S2x16384x512 .bf16) = Cert.KernelIdeal.Value.G7 m c := by
  have hD : Cert.ReferenceIdeal.Value.D m' c = Cert.KernelIdeal.Chain.D m c := by
    unfold Cert.ReferenceIdeal.Value.D Cert.KernelIdeal.Chain.D
    rw [show Cert.ReferenceIdeal.Value.inX m' c = Cert.KernelIdeal.Chain.inX m c from funext fun b => funext fun r => funext fun k => congrFun h0 (ix3 b r k),
      show Cert.ReferenceIdeal.Value.inW m' c = Cert.KernelIdeal.Chain.inW m c from funext fun k => funext fun j => congrFun h1 (ix2 k j),
      show Cert.ReferenceIdeal.Value.inG m' c = Cert.KernelIdeal.Chain.inG m c from funext fun j => congrFun h2 (ix1 j)]
  funext y
  change Cert.KernelIdeal.S2x16384x512.Idx at y
  idx_vars y
  have e1 : (⟨y1.val / 128 * 128 + y1.val % 128, by omega⟩ : Fin 16384) = y1 := Fin.ext (by dsimp only; omega)
  have e2 : (⟨y2.val / 128 * 128 + y2.val % 128, by omega⟩ : Fin 512) = y2 := Fin.ext (by dsimp only; omega)
  have hR := Cert.ReferenceIdeal.Value.final_apply m' c y0 ⟨y1.val / 128, by omega⟩ ⟨y1.val % 128, by omega⟩ ⟨y2.val / 128, by omega⟩ ⟨y2.val % 128, by omega⟩
  rw [e1, e2] at hR
  refine hR.trans ?_
  rw [hD]
  exact (Cert.KernelIdeal.Chain.G7_apply m c (ix3 y0 y1 y2) y0 ⟨y2.val / 128, by omega⟩ (y1.val / 128) ⟨y1.val % 128, by omega⟩ ⟨y2.val % 128, by omega⟩
    rfl (show y1.val = 128 * (y1.val / 128) + y1.val % 128 by omega) (show y2.val = 128 * (y2.val / 128) + y2.val % 128 by omega)).symm

/-- The claims of the retention call, of the experts call and of the merge call. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_tables_in_range.Gen.facts, Cert.Pre_lse_finite.Gen.facts,
  fun m ρ _ => Cert.Kernel.Gen.frame m ρ,
  fun m ρ _ => Cert.KernelIdeal.Gen.frame m ρ,
  fun m ρ _ => Cert.ReferenceIdeal.Value.frame m ρ,
  fun m ρ hp => Cert.Experts.frameK m ρ hp,
  fun m ρ hp => (θ_run _ _ _).mono (fun _ h => ⟨fun c => (h.1 c).2, h.2⟩) (Cert.Experts.runK m ρ hp),
  fun m ρ _ => Cert.Experts.frameR m ρ,
  fun m ρ _ => Cert.Kernel3.Gen.frame m ρ,
  fun m ρ _ => Cert.Kernel3Ideal.Gen.frame m ρ,
  fun m ρ _ => Cert.Kernel3Ideal.Gen.frame m ρ,
  fun m ρ _ => Cert.Merge.frameR m ρ,
  fun m ρ _ => Cert.Merge.frameR m ρ,
  trivial,
  fun m ρ m' ρ' _ hag => ⟨fun c => Cert.KernelIdeal.Value.G7 m c, Cert.KernelIdeal.Value.run m ρ,
    (θ_run _ _ _).mono (fun _ h c => ⟨(h c).1.trans (results_eq m m' c (hag c).1 (hag c).2.1 (hag c).2.2), (h c).2⟩)
      (Cert.ReferenceIdeal.Value.run m' ρ')⟩,
  trivial,
  fun m ρ m' ρ' hp hag => ⟨fun c => Cert.Experts.resultK m c,
    (θ_run _ _ _).mono (fun _ h => h.1) (Cert.Experts.runK m ρ hp),
    (θ_run _ _ _).mono (fun _ h c => by
      obtain ⟨h0, h1, h2, h3, h4, h5, h6, h7, h8, h9⟩ := hag c
      exact ⟨(h c).1.trans (Cert.Experts.experts_eq m m' c hp h0 h1 h2 h3 h4 h5 h6 h7 h8 h9), (h c).2⟩)
      (Cert.Reference2Ideal.Value.run m' ρ')⟩,
  trivial,
  fun m ρ m' ρ' hp hag => ⟨fun c => Cert.Merge.result0 m c, fun c => Cert.Merge.result1 m c, Cert.Merge.runK m ρ,
    (θ_run _ _ _).mono (fun _ h c => by
      obtain ⟨h0, h1, h2, h3, h4, h5, h6, h7, h8, h9, h10, h11, h12, h13, -⟩ := hag c
      exact ⟨(h c).1.trans (Cert.Merge.result0_eq m m' c hp h0 h1 h2 h3 h4 h5 h6 h7 h8 h9 h10 h11 h12 h13),
        (h c).2.1.trans (Cert.Merge.result1_eq m m' c hp h0 h1 h2 h3 h4 h5 h6 h7 h8 h9 h10 h11 h12 h13), (h c).2.2⟩)
      (Cert.Reference3Ideal.Value.run m' ρ')⟩⟩

end Cert.Proof

end
